-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v21_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v34_1)) (v2 : (c : Dev Cert.Kernel5Ideal.nD) → Buf (Elt Ideal) ((c.tc : Thread Cert.Kernel5Ideal.nD Cert.Kernel5Ideal.τ).loc Cert.Kernel5Ideal.main_v34_2)) (v3 : (c : Dev Cert.Kernel5Ideal.nD) → Buf (Elt Ideal) ((c.tc : Thread Cert.Kernel5Ideal.nD Cert.Kernel5Ideal.τ).loc Cert.Kernel5Ideal.main_v34_3)) (v4 : (c : Dev Cert.Kernel5Ideal.nD) → Buf (Elt Ideal) ((c.tc : Thread Cert.Kernel5Ideal.nD Cert.Kernel5Ideal.τ).loc Cert.Kernel5Ideal.main_v34_4)) (v5 : (c : Dev Cert.Kernel5Ideal.nD) → Buf (Elt Ideal) ((c.tc : Thread Cert.Kernel5Ideal.nD Cert.Kernel5Ideal.τ).loc Cert.Kernel5Ideal.main_v34_5)) (v6 : (c : Dev Cert.Kernel5Ideal.nD) → Buf (Elt Ideal) ((c.tc : Thread Cert.Kernel5Ideal.nD Cert.Kernel5Ideal.τ).loc Cert.Kernel5Ideal.main_v34_6)) (v7 : (c : Dev Cert.Kernel5Ideal.nD) → Buf (Elt Ideal) ((c.tc : Thread Cert.Kernel5Ideal.nD Cert.Kernel5Ideal.τ).loc Cert.Kernel5Ideal.main_v34_7)) (v8 : (c : Dev Cert.Kernel5Ideal.nD) → Buf (Elt Ideal) ((c.tc : Thread Cert.Kernel5Ideal.nD Cert.Kernel5Ideal.τ).loc Cert.Kernel5Ideal.main_v34_8)) (v9 : (c : Dev Cert.Kernel5Ideal.nD) → Buf (Elt Ideal) ((c.tc : Thread Cert.Kernel5Ideal.nD Cert.Kernel5Ideal.τ).loc Cert.Kernel5Ideal.main_v34_9)) (v10 : (c : Dev Cert.Kernel5Ideal.nD) → Buf (Elt Ideal) ((c.tc : Thread Cert.Kernel5Ideal.nD Cert.Kernel5Ideal.τ).loc Cert.Kernel5Ideal.main_v34_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v34_1) = v1 c
          ∧ r.2.mem ((c.tc : Thread Cert.Kernel5Ideal.nD Cert.Kernel5Ideal.τ).loc Cert.Kernel5Ideal.main_v34_2) = v2 c
          ∧ r.2.mem ((c.tc : Thread Cert.Kernel5Ideal.nD Cert.Kernel5Ideal.τ).loc Cert.Kernel5Ideal.main_v34_3) = v3 c
          ∧ r.2.mem ((c.tc : Thread Cert.Kernel5Ideal.nD Cert.Kernel5Ideal.τ).loc Cert.Kernel5Ideal.main_v34_4) = v4 c
          ∧ r.2.mem ((c.tc : Thread Cert.Kernel5Ideal.nD Cert.Kernel5Ideal.τ).loc Cert.Kernel5Ideal.main_v34_5) = v5 c
          ∧ r.2.mem ((c.tc : Thread Cert.Kernel5Ideal.nD Cert.Kernel5Ideal.τ).loc Cert.Kernel5Ideal.main_v34_6) = v6 c
          ∧ r.2.mem ((c.tc : Thread Cert.Kernel5Ideal.nD Cert.Kernel5Ideal.τ).loc Cert.Kernel5Ideal.main_v34_7) = v7 c
          ∧ r.2.mem ((c.tc : Thread Cert.Kernel5Ideal.nD Cert.Kernel5Ideal.τ).loc Cert.Kernel5Ideal.main_v34_8) = v8 c
          ∧ r.2.mem ((c.tc : Thread Cert.Kernel5Ideal.nD Cert.Kernel5Ideal.τ).loc Cert.Kernel5Ideal.main_v34_9) = v9 c
          ∧ r.2.mem ((c.tc : Thread Cert.Kernel5Ideal.nD Cert.Kernel5Ideal.τ).loc Cert.Kernel5Ideal.main_v34_11) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v120) = v0 c
          ∧ r.2.mem ((c.tc : Thread Cert.Reference5Ideal.nD Cert.Reference5Ideal.τ).loc Cert.Reference5Ideal.main_v157) = v1 c
          ∧ r.2.mem ((c.tc : Thread Cert.Reference5Ideal.nD Cert.Reference5Ideal.τ).loc Cert.Reference5Ideal.main_v158) = v2 c
          ∧ r.2.mem ((c.tc : Thread Cert.Reference5Ideal.nD Cert.Reference5Ideal.τ).loc Cert.Reference5Ideal.main_v159) = v3 c
          ∧ r.2.mem ((c.tc : Thread Cert.Reference5Ideal.nD Cert.Reference5Ideal.τ).loc Cert.Reference5Ideal.main_v160) = v4 c
          ∧ r.2.mem ((c.tc : Thread Cert.Reference5Ideal.nD Cert.Reference5Ideal.τ).loc Cert.Reference5Ideal.main_v161) = v5 c
          ∧ r.2.mem ((c.tc : Thread Cert.Reference5Ideal.nD Cert.Reference5Ideal.τ).loc Cert.Reference5Ideal.main_v164) = v6 c
          ∧ r.2.mem ((c.tc : Thread Cert.Reference5Ideal.nD Cert.Reference5Ideal.τ).loc Cert.Reference5Ideal.main_v166) = v7 c
          ∧ r.2.mem ((c.tc : Thread Cert.Reference5Ideal.nD Cert.Reference5Ideal.τ).loc Cert.Reference5Ideal.main_v169) = v8 c
          ∧ r.2.mem ((c.tc : Thread Cert.Reference5Ideal.nD Cert.Reference5Ideal.τ).loc Cert.Reference5Ideal.main_v172) = v9 c
          ∧ r.2.mem ((c.tc : Thread Cert.Reference5Ideal.nD Cert.Reference5Ideal.τ).loc Cert.Reference5Ideal.main_v176) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x4096x4x128 : Shape := ⟨4, ![4, 4096, 4, 128]⟩
abbrev S4x32x4 : Shape := ⟨3, ![4, 32, 4]⟩
abbrev S4x4096x512 : Shape := ⟨3, ![4, 4096, 512]⟩
abbrev S4x4x128x128 : Shape := ⟨4, ![4, 4, 128, 128]⟩
abbrev S128 : Shape := ⟨1, ![128]⟩
abbrev S4x32x128x4x128 : Shape := ⟨5, ![4, 32, 128, 4, 128]⟩
abbrev S4x32x4x128x128 : Shape := ⟨5, ![4, 32, 4, 128, 128]⟩
abbrev S128x512x128 : Shape := ⟨3, ![128, 512, 128]⟩
abbrev S_ : Shape := ⟨0, ![]⟩
abbrev S4x32x8 : Shape := ⟨3, ![4, 32, 8]⟩
abbrev S4x32x8x1 : Shape := ⟨4, ![4, 32, 8, 1]⟩
abbrev S4x32x8x128 : Shape := ⟨4, ![4, 32, 8, 128]⟩
abbrev S128x8x128 : Shape := ⟨3, ![128, 8, 128]⟩
abbrev S16384x512 : Shape := ⟨2, ![16384, 512]⟩
abbrev S1x128 : Shape := ⟨2, ![1, 128]⟩
abbrev S4x16384x128 : Shape := ⟨3, ![4, 16384, 128]⟩
abbrev S4x256x128 : Shape := ⟨3, ![4, 256, 128]⟩
abbrev S4x128x512 : Shape := ⟨3, ![4, 128, 512]⟩
abbrev S4x512x128 : Shape := ⟨3, ![4, 512, 128]⟩
abbrev S4x8x128 : Shape := ⟨3, ![4, 8, 128]⟩
abbrev S1x1x128x128 : Shape := ⟨4, ![1, 1, 128, 128]⟩
abbrev S128x128 : Shape := ⟨2, ![128, 128]⟩
abbrev S128x256 : Shape := ⟨2, ![128, 256]⟩
abbrev S256x256 : Shape := ⟨2, ![256, 256]⟩
abbrev S1x128x256 : Shape := ⟨3, ![1, 128, 256]⟩
abbrev S1x1x128 : Shape := ⟨3, ![1, 1, 128]⟩
abbrev S1x128x128 : Shape := ⟨3, ![1, 128, 128]⟩
abbrev S128x1 : Shape := ⟨2, ![128, 1]⟩

abbrev nBuf : Space → Nat
  | .hbm => 33
  | .vmem => 19
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .bf16⟩
  | .hbm, ⟨2, _⟩ => ⟨S4x4096x4x128, .bf16⟩
  | .hbm, ⟨3, _⟩ => ⟨S4x4096x4x128, .bf16⟩
  | .hbm, ⟨4, _⟩ => ⟨S4x4096x4x128, .bf16⟩
  | .hbm, ⟨5, _⟩ => ⟨S4x32x4, .f32⟩
  | .hbm, ⟨6, _⟩ => ⟨S4x4096x512, .f32⟩
  | .hbm, ⟨7, _⟩ => ⟨S4x4x128x128, .f32⟩
  | .hbm, ⟨8, _⟩ => ⟨S128, .f32⟩
  | .hbm, ⟨9, _⟩ => ⟨S4x32x128x4x128, .bf16⟩
  | .hbm, ⟨10, _⟩ => ⟨S4x32x4x128x128, .bf16⟩
  | .hbm, ⟨11, _⟩ => ⟨S128x512x128, .bf16⟩
  | .hbm, ⟨12, _⟩ => ⟨S_, .i32⟩
  | .hbm, ⟨13, _⟩ => ⟨S_, .f32⟩
  | .hbm, ⟨14, _⟩ => ⟨S4x32x8, .f32⟩
  | .hbm, ⟨15, _⟩ => ⟨S4x32x8x1, .f32⟩
  | .hbm, ⟨16, _⟩ => ⟨S4x32x8x128, .f32⟩
  | .hbm, ⟨17, _⟩ => ⟨S128x8x128, .f32⟩
  | .hbm, ⟨18, _⟩ => ⟨S16384x512, .f32⟩
  | .hbm, ⟨19, _⟩ => ⟨S16384x512, .bf16⟩
  | .hbm, ⟨20, _⟩ => ⟨S16384x512, .bf16⟩
  | .hbm, ⟨21, _⟩ => ⟨S16384x512, .bf16⟩
  | .hbm, ⟨22, _⟩ => ⟨S16384x512, .f32⟩
  | .hbm, ⟨23, _⟩ => ⟨S1x128, .f32⟩
  | .hbm, ⟨24, _⟩ => ⟨S4x4096x512, .f32⟩
  | .hbm, ⟨25, _⟩ => ⟨S4x4096x512, .bf16⟩
  | .hbm, ⟨26, _⟩ => ⟨S4x4096x512, .bf16⟩
  | .hbm, ⟨27, _⟩ => ⟨S4x4096x512, .bf16⟩
  | .hbm, ⟨28, _⟩ => ⟨S4x16384x128, .bf16⟩
  | .hbm, ⟨29, _⟩ => ⟨S4x256x128, .f32⟩
  | .hbm, ⟨30, _⟩ => ⟨S4x4096x512, .f32⟩
  | .hbm, ⟨31, _⟩ => ⟨S4x4096x512, .bf16⟩
  | .hbm, ⟨32, _⟩ => ⟨S4x4x128x128, .f32⟩
  | .local _ .vmem, ⟨0, _⟩ => ⟨S4x128x512, .f32⟩
  | .local _ .vmem, ⟨1, _⟩ => ⟨S4x128x512, .f32⟩
  | .local _ .vmem, ⟨2, _⟩ => ⟨S4x128x512, .bf16⟩
  | .local _ .vmem, ⟨3, _⟩ => ⟨S4x128x512, .bf16⟩
  | .local _ .vmem, ⟨4, _⟩ => ⟨S4x128x512, .bf16⟩
  | .local _ .vmem, ⟨5, _⟩ => ⟨S4x128x512, .bf16⟩
  | .local _ .vmem, ⟨6, _⟩ => ⟨S4x128x512, .bf16⟩
  | .local _ .vmem, ⟨7, _⟩ => ⟨S4x128x512, .bf16⟩
  | .local _ .vmem, ⟨8, _⟩ => ⟨S4x512x128, .bf16⟩
  | .local _ .vmem, ⟨9, _⟩ => ⟨S4x512x128, .bf16⟩
  | .local _ .vmem, ⟨10, _⟩ => ⟨S4x8x128, .f32⟩
  | .local _ .vmem, ⟨11, _⟩ => ⟨S4x8x128, .f32⟩
  | .local _ .vmem, ⟨12, _⟩ => ⟨S4x128x512, .f32⟩
  | .local _ .vmem, ⟨13, _⟩ => ⟨S4x128x512, .f32⟩
  | .local _ .vmem, ⟨14, _⟩ => ⟨S4x4x128x128, .f32⟩
  | .local _ .vmem, ⟨15, _⟩ => ⟨S1x128, .f32⟩
  | .local _ .vmem, ⟨16, _⟩ => ⟨S4x128x512, .bf16⟩
  | .local _ .vmem, ⟨17, _⟩ => ⟨S4x128x512, .bf16⟩
  | .local _ .vmem, ⟨18, _⟩ => ⟨S4x4x128x128, .f32⟩
  | _, _ => ⟨S4x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ReferenceIdeal.lean ====
abbrev S4x4096x4x128 : Shape := ⟨4, ![4, 4096, 4, 128]⟩
abbrev S4x32x4 : Shape := ⟨3, ![4, 32, 4]⟩
abbrev S4x4096x512 : Shape := ⟨3, ![4, 4096, 512]⟩
abbrev S4x4x128x128 : Shape := ⟨4, ![4, 4, 128, 128]⟩
abbrev S128 : Shape := ⟨1, ![128]⟩
abbrev S4x32x128x4x128 : Shape := ⟨5, ![4, 32, 128, 4, 128]⟩
abbrev S4x32x4x128x128 : Shape := ⟨5, ![4, 32, 4, 128, 128]⟩
abbrev S32x4x4x128x128 : Shape := ⟨5, ![32, 4, 4, 128, 128]⟩
abbrev S32x4x4 : Shape := ⟨3, ![32, 4, 4]⟩
abbrev S_ : Shape := ⟨0, ![]⟩
abbrev S1x4x4x128x128 : Shape := ⟨5, ![1, 4, 4, 128, 128]⟩
abbrev S1x4x4 : Shape := ⟨3, ![1, 4, 4]⟩
abbrev S4x4 : Shape := ⟨2, ![4, 4]⟩
abbrev S4x4x1x1 : Shape := ⟨4, ![4, 4, 1, 1]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .bf16⟩
  | .hbm, ⟨2, _⟩ => ⟨S4x4096x4x128, .bf16⟩
  | .hbm, ⟨3, _⟩ => ⟨S4x4096x4x128, .bf16⟩
  | .hbm, ⟨4, _⟩ => ⟨S4x4096x4x128, .bf16⟩
  | .hbm, ⟨5, _⟩ => ⟨S4x32x4, .f32⟩
  | .hbm, ⟨6, _⟩ => ⟨S4x4096x512, .f32⟩
  | .hbm, ⟨7, _⟩ => ⟨S4x4x128x128, .f32⟩
  | .hbm, ⟨8, _⟩ => ⟨S128, .f32⟩
  | .hbm, ⟨9, _⟩ => ⟨S4x32x128x4x128, .f32⟩
  | .hbm, ⟨10, _⟩ => ⟨S4x32x4x128x128, .f32⟩
  | .hbm, ⟨11, _⟩ => ⟨S32x4x4x128x128, .f32⟩
  | .hbm, ⟨12, _⟩ => ⟨S4x4096x4x128, .f32⟩
  | .hbm, ⟨13, _⟩ => ⟨S4x32x128x4x128, .f32⟩
  | .hbm, ⟨14, _⟩ => ⟨S4x32x4x128x128, .f32⟩
  | .hbm, ⟨15, _⟩ => ⟨S32x4x4x128x128, .f32⟩
  | .hbm, ⟨16, _⟩ => ⟨S4x4096x4x128, .f32⟩
  | .hbm, ⟨17, _⟩ => ⟨S4x32x128x4x128, .f32⟩
  | .hbm, ⟨18, _⟩ => ⟨S4x32x4x128x128, .f32⟩
  | .hbm, ⟨19, _⟩ => ⟨S32x4x4x128x128, .f32⟩
  | .hbm, ⟨20, _⟩ => ⟨S4x4096x4x128, .f32⟩
  | .hbm, ⟨21, _⟩ => ⟨S4x32x128x4x128, .f32⟩
  | .hbm, ⟨22, _⟩ => ⟨S4x32x4x128x128, .f32⟩
  | .hbm, ⟨23, _⟩ => ⟨S32x4x4x128x128, .f32⟩
  | .hbm, ⟨24, _⟩ => ⟨S4x4096x4x128, .f32⟩
  | .hbm, ⟨25, _⟩ => ⟨S4x32x128x4x128, .f32⟩
  | .hbm, ⟨26, _⟩ => ⟨S4x32x4x128x128, .f32⟩
  | .hbm, ⟨27, _⟩ => ⟨S32x4x4x128x128, .f32⟩
  | .hbm, ⟨28, _⟩ => ⟨S32x4x4, .f32⟩
  | .hbm, ⟨29, _⟩ => ⟨S_, .f32⟩
  | .hbm, ⟨30, _⟩ => ⟨S32x4x4x128x128, .f32⟩
  | .hbm, ⟨31, _⟩ => ⟨S_, .i32⟩
  | .hbm, ⟨32, _⟩ => ⟨S32x4x4x128x128, .f32⟩
  | .hbm, ⟨33, _⟩ => ⟨S32x4x4x128x128, .f32⟩
  | .hbm, ⟨34, _⟩ => ⟨S32x4x4x128x128, .f32⟩
  | .hbm, ⟨35, _⟩ => ⟨S32x4x4x128x128, .f32⟩
  | .hbm, ⟨36, _⟩ => ⟨S32x4x4x128x128, .f32⟩
  | .hbm, ⟨37, _⟩ => ⟨S32x4x4, .f32⟩
  | .hbm, ⟨38, _⟩ => ⟨S_, .i32⟩
  | .hbm, ⟨39, _⟩ => ⟨S4x4x128x128, .f32⟩
  | .hbm, ⟨40, _⟩ => ⟨S32x4x4x128x128, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x4x128x128, .f32⟩
  | .hbm, ⟨48, _⟩ => ⟨S4x4x128x128, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x4x128x128, .f32⟩
  | .hbm, ⟨54, _⟩ => ⟨S4x4x128x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x4x4x128x128, .f32⟩
  | .hbm, ⟨60, _⟩ => ⟨S4x4x128x128, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x4x4x128x128, .f32⟩
  | .hbm, ⟨66, _⟩ => ⟨S4x4x128x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x4x4x128x128, .f32⟩
  | .hbm, ⟨72, _⟩ => ⟨S4x4x128x128, .f32⟩
  | .hbm, ⟨73, _⟩ => ⟨S_, .i32⟩
  | .hbm, ⟨74, _⟩ => ⟨S_, .i32⟩
  | .hbm, ⟨75, _⟩ => ⟨S1x4x4, .f32⟩
  | .hbm, ⟨76, _⟩ => ⟨S4x4, .f32⟩
  | .hbm, ⟨77, _⟩ => ⟨S4x4x128x128, .f32⟩
  | .hbm, ⟨78, _⟩ => ⟨S4x4x128x128, .f32⟩
  | .hbm, ⟨79, _⟩ => ⟨S4x4x128x128, .f32⟩
  | .hbm, ⟨80, _⟩ => ⟨S4x4x128x128, .f32⟩
  | .hbm, ⟨81, _⟩ => ⟨S4x4x128x128, .f32⟩
  | .hbm, ⟨82, _⟩ => ⟨S4x4x1x1, .f32⟩
  | .hbm, ⟨83, _⟩ => ⟨S4x4x128x128, .f32⟩
  | .hbm, ⟨84, _⟩ => ⟨S4x4x128x128, .f32⟩
  | .hbm, ⟨85, _⟩ => ⟨S4x4x128x128, .f32⟩
  | .hbm, ⟨86, _⟩ => ⟨S4x4x128x128, .f32⟩
  | .hbm, ⟨87, _⟩ => ⟨S1x4x4x128x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S32x4x4x128x128, .f32⟩
  | .hbm, ⟨93, _⟩ => ⟨S_, .i32⟩
  | .hbm, ⟨94, _⟩ => ⟨S_, .i32⟩
  | .hbm, ⟨95, _⟩ => ⟨S4x32x4x128x128, .f32⟩
  | .hbm, ⟨96, _⟩ => ⟨S4x32x128x4x128, .f32⟩
  | .hbm, ⟨97, _⟩ => ⟨S4x4096x4x128, .f32⟩
  | .hbm, ⟨98, _⟩ => ⟨S4x4096x4x128, .f32⟩
  | .hbm, ⟨99, _⟩ => ⟨S_, .f32⟩
  | .hbm, ⟨100, _⟩ => ⟨S4x4096x4, .f32⟩
  | .hbm, ⟨101, _⟩ => ⟨S4x4096x4x1, .f32⟩
  | .hbm, ⟨102, _⟩ => ⟨S_, .f32⟩
  | .hbm, ⟨103, _⟩ => ⟨S4x4096x4x1, .f32⟩
  | .hbm, ⟨104, _⟩ => ⟨S4x4096x4x1, .f32⟩
  | .hbm, ⟨105, _⟩ => ⟨S_, .f32⟩
  | .hbm, ⟨106, _⟩ => ⟨S4x4096x4x1, .f32⟩
  | .hbm, ⟨107, _⟩ => ⟨S4x4096x4x1, .f32⟩
  | .hbm, ⟨108, _⟩ => ⟨S4x4096x4x1, .f32⟩
  | .hbm, ⟨109, _⟩ => ⟨S4x4096x4x128, .f32⟩
  | .hbm, ⟨110, _⟩ => ⟨S4x4096x4x128, .f32⟩
  | .hbm, ⟨111, _⟩ => ⟨S1x1x1x128, .f32⟩
  | .hbm, ⟨112, _⟩ => ⟨S4x4096x4x128, .f32⟩
  | .hbm, ⟨113, _⟩ => ⟨S4x4096x4x128, .f32⟩
  | .hbm, ⟨114, _⟩ => ⟨S4x4096x4x128, .f32⟩
  | .hbm, ⟨115, _⟩ => ⟨S4x4096x4x128, .f32⟩
  | .hbm, ⟨116, _⟩ => ⟨S4x4096x4x128, .f32⟩
  | .hbm, ⟨117, _⟩ => ⟨S_, .f32⟩
  | .hbm, ⟨118, _⟩ => ⟨S4x4096x4x128, .f32⟩
  | .hbm, ⟨119, _⟩ => ⟨S4x4096x4x128, .f32⟩
  | .hbm, ⟨120, _⟩ => ⟨S_, .f32⟩
  | .hbm, ⟨121, _⟩ => ⟨S4x4096x4x128, .f32⟩
  | .hbm, ⟨122, _⟩ => ⟨S4x4096x4x128, .f32⟩
  | .hbm, ⟨123, _⟩ => ⟨S4x4096x4x128, .f32⟩
  | .hbm, ⟨124, _⟩ => ⟨S4x4096x4x128, .f32⟩
  | .hbm, ⟨125, _⟩ => ⟨S4x4096x512, .f32⟩
  | .hbm, ⟨126, _⟩ => ⟨S4x4096x512, .bf16⟩
  | _, _ => ⟨S4x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_c : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev main_v21_5 : Ref sig .tc := ⟨.hbm, 37, rfl⟩
abbrev main_v21_6 : Ref sig .tc := ⟨.hbm, 38, rfl⟩
abbrev main_v21_7 : Ref sig .tc := ⟨.hbm, 39, rfl⟩
abbrev main_v21_8 : Ref sig .tc := ⟨.hbm, 40, rfl⟩
abbrev main_while0c_c_11 : Ref sig .tc := ⟨.hbm, 41, rfl⟩
abbrev main_while0c_v43 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_c_2 : Ref sig .tc := ⟨.hbm, 46, rfl⟩
abbrev main_while0b_call0_v0 : Ref sig .tc := ⟨.hbm, 47, rfl⟩
abbrev main_while0b_v43 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v44 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v45 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v0 : Ref sig .tc := ⟨.hbm, 65, rfl⟩
abbrev main_while0b_v46 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v47 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_v0 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_v56 : Ref sig .tc := ⟨.hbm, 84, rfl⟩
abbrev main_while0b_v57 : Ref sig .tc := ⟨.hbm, 85, rfl⟩
abbrev main_while0b_v58 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_c_2 : Ref sig .tc := ⟨.hbm, 91, rfl⟩
abbrev main_while0b_v59 : Ref sig .tc := ⟨.hbm, 92, rfl⟩
abbrev main_while0b_c_11 : Ref sig .tc := ⟨.hbm, 93, rfl⟩
abbrev main_while0b_v60 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_cst_0 : Ref sig .tc := ⟨.hbm, 99, rfl⟩
abbrev main_v26 : Ref sig .tc := ⟨.hbm, 100, rfl⟩
abbrev main_v27 : Ref sig .tc := ⟨.hbm, 101, rfl⟩
abbrev main_cst_1 : Ref sig .tc := ⟨.hbm, 102, rfl⟩
abbrev main_v28 : Ref sig .tc := ⟨.hbm, 103, rfl⟩
abbrev main_v29 : Ref sig .tc := ⟨.hbm, 104, rfl⟩
abbrev main_cst_2 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_call7_v0 : Ref sig .tc := ⟨.hbm, 115, rfl⟩
abbrev main_call7_v1 : Ref sig .tc := ⟨.hbm, 116, rfl⟩
abbrev main_call7_cst : Ref sig .tc := ⟨.hbm, 117, rfl⟩
abbrev main_call7_v2 : Ref sig .tc := ⟨.hbm, 118, rfl⟩
abbrev main_call7_v3 : Ref sig .tc := ⟨.hbm, 119, rfl⟩
abbrev main_call7_cst_0 : Ref sig .tc := ⟨.hbm, 120, rfl⟩
abbrev main_call7_v4 : Ref sig .tc := ⟨.hbm, 121, rfl⟩
abbrev main_call7_v5 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S4x1024x5632, .bf16⟩
  | .hbm, ⟨9, _⟩ => ⟨S4x2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x4096x1024 : Shape := ⟨3, ![4, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S1x1024x5632, .f32⟩
  | .hbm, ⟨7, _⟩ => ⟨S1024x5632, .f32⟩
  | .hbm, ⟨8, _⟩ => ⟨S1x2816x1024, .f32⟩
  | .hbm, ⟨9, _⟩ => ⟨S2816x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x5632, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S_, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S4x512x1024 : Shape := ⟨3, ![4, 512, 1024]⟩
abbrev S4x1024x1024 : Shape := ⟨3, ![4, 1024, 1024]⟩
abbrev S16384x1024 : Shape := ⟨2, ![16384, 1024]⟩
abbrev S16384x2x4x64 : Shape := ⟨4, ![16384, 2, 4, 64]⟩
abbrev S16384x4x2x64 : Shape := ⟨4, ![16384, 4, 2, 64]⟩
abbrev S16384x512 : Shape := ⟨2, ![16384, 512]⟩
abbrev S1x512x1024 : Shape := ⟨3, ![1, 512, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1x1024x1024 : Shape := ⟨3, ![1, 1024, 1024]⟩
abbrev S1024x1024 : Shape := ⟨2, ![1024, 1024]⟩
abbrev S16384x2048 : Shape := ⟨2, ![16384, 2048]⟩
abbrev S512x512 : Shape := ⟨2, ![512, 512]⟩
abbrev S512x2048 : Shape := ⟨2, ![512, 2048]⟩

abbrev nBuf : Space → Nat
  | .hbm => 28
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x2048, .f32⟩
  | .hbm, ⟨4, _⟩ => ⟨S4x512x1024, .f32⟩
  | .hbm, ⟨5, _⟩ => ⟨S4x512x1024, .f32⟩
  | .hbm, ⟨6, _⟩ => ⟨S4x1024x1024, .f32⟩
  | .hbm, ⟨7, _⟩ => ⟨S16384x1024, .f32⟩
  | .hbm, ⟨8, _⟩ => ⟨S16384x2x4x64, .f32⟩
  | .hbm, ⟨9, _⟩ => ⟨S16384x4x2x64, .f32⟩
  | .hbm, ⟨10, _⟩ => ⟨S16384x512, .f32⟩
  | .hbm, ⟨11, _⟩ => ⟨S1x512x1024, .f32⟩
  | .hbm, ⟨12, _⟩ => ⟨S512x1024, .f32⟩
  | .hbm, ⟨13, _⟩ => ⟨S2x4x64x1024, .f32⟩
  | .hbm, ⟨14, _⟩ => ⟨S4x2x64x1024, .f32⟩
  | .hbm, ⟨15, _⟩ => ⟨S512x1024, .f32⟩
  | .hbm, ⟨16, _⟩ => ⟨S512x1024, .bf16⟩
  | .hbm, ⟨17, _⟩ => ⟨S1x512x1024, .f32⟩
  | .hbm, ⟨18, _⟩ => ⟨S512x1024, .f32⟩
  | .hbm, ⟨19, _⟩ => ⟨S512x1024, .bf16⟩
  | .hbm, ⟨20, _⟩ => ⟨S1x1024x1024, .f32⟩
  | .hbm, ⟨21, _⟩ => ⟨S1024x1024, .f32⟩
  | .hbm, ⟨22, _⟩ => ⟨S1024x1024, .bf16⟩
  | .hbm, ⟨23, _⟩ => ⟨S16384x512, .bf16⟩
  | .hbm, ⟨24, _⟩ => ⟨S16384x512, .f32⟩
  | .hbm, ⟨25, _⟩ => ⟨S16384x512, .bf16⟩
  | .hbm, ⟨26, _⟩ => ⟨S16384x2048, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S4x512x1024 : Shape := ⟨3, ![4, 512, 1024]⟩
abbrev S4x1024x1024 : Shape := ⟨3, ![4, 1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S_ : Shape := ⟨0, ![]⟩
abbrev S4x4096x2x1024 : Shape := ⟨4, ![4, 4096, 2, 1024]⟩
abbrev S4x4096x1x1024 : Shape := ⟨4, ![4, 4096, 1, 1024]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x2048, .f32⟩
  | .hbm, ⟨4, _⟩ => ⟨S4x512x1024, .f32⟩
  | .hbm, ⟨5, _⟩ => ⟨S4x512x1024, .f32⟩
  | .hbm, ⟨6, _⟩ => ⟨S4x1024x1024, .f32⟩
  | .hbm, ⟨7, _⟩ => ⟨S1x512x1024, .f32⟩
  | .hbm, ⟨8, _⟩ => ⟨S512x1024, .f32⟩
  | .hbm, ⟨9, _⟩ => ⟨S1x512x1024, .f32⟩
  | .hbm, ⟨10, _⟩ => ⟨S512x1024, .f32⟩
  | .hbm, ⟨11, _⟩ => ⟨S1x1024x1024, .f32⟩
  | .hbm, ⟨12, _⟩ => ⟨S1024x1024, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S4x4096x2x1024, .f32⟩
  | .hbm, ⟨22, _⟩ => ⟨S4x4096x1x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x4096x1024, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S1x1x1024, .f32⟩
  | .hbm, ⟨16, _⟩ => ⟨S4x4096x1024, .f32⟩
  | .hbm, ⟨17, _⟩ => ⟨S4x4096x1024, .f32⟩
  | .hbm, ⟨18, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x1024 : Shape := ⟨2, ![4, 1024]⟩
abbrev S4x1024x5408 : Shape := ⟨3, ![4, 1024, 5408]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S16384x1024 : Shape := ⟨2, ![16384, 1024]⟩
abbrev S1x1024 : Shape := ⟨2, ![1, 1024]⟩
abbrev S1024 : Shape := ⟨1, ![1024]⟩
abbrev S4x1024x512 : Shape := ⟨3, ![4, 1024, 512]⟩
abbrev S4x1024x768 : Shape := ⟨3, ![4, 1024, 768]⟩
abbrev S4x1024x24 : Shape := ⟨3, ![4, 1024, 24]⟩
abbrev S4x1024x1536 : Shape := ⟨3, ![4, 1024, 1536]⟩
abbrev S4x1024x4 : Shape := ⟨3, ![4, 1024, 4]⟩
abbrev S4x1024x2048 : Shape := ⟨3, ![4, 1024, 2048]⟩
abbrev S4x1024x96 : Shape := ⟨3, ![4, 1024, 96]⟩
abbrev S4x1024x128 : Shape := ⟨3, ![4, 1024, 128]⟩
abbrev S4x1024x5504 : Shape := ⟨3, ![4, 1024, 5504]⟩
abbrev S16384x512 : Shape := ⟨2, ![16384, 512]⟩
abbrev S16384x128 : Shape := ⟨2, ![16384, 128]⟩
abbrev S16384x1536 : Shape := ⟨2, ![16384, 1536]⟩
abbrev S16384x2048 : Shape := ⟨2, ![16384, 2048]⟩
abbrev S1x4x512x4096 : Shape := ⟨4, ![1, 4, 512, 4096]⟩
abbrev S4x256x4096 : Shape := ⟨3, ![4, 256, 4096]⟩
abbrev S16384x256 : Shape := ⟨2, ![16384, 256]⟩
abbrev S2x80x16384 : Shape := ⟨3, ![2, 80, 16384]⟩
abbrev S256x1024 : Shape := ⟨2, ![256, 1024]⟩
abbrev S1x1024x5504 : Shape := ⟨3, ![1, 1024, 5504]⟩
abbrev S256x128 : Shape := ⟨2, ![256, 128]⟩
abbrev S256x512 : Shape := ⟨2, ![256, 512]⟩
abbrev S256x1536 : Shape := ⟨2, ![256, 1536]⟩
abbrev S256x2048 : Shape := ⟨2, ![256, 2048]⟩
abbrev S1x1x512x256 : Shape := ⟨4, ![1, 1, 512, 256]⟩
abbrev S1x256x256 : Shape := ⟨3, ![1, 256, 256]⟩
abbrev S256x256 : Shape := ⟨2, ![256, 256]⟩
abbrev S2x80x256 : Shape := ⟨3, ![2, 80, 256]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S256x768 : Shape := ⟨2, ![256, 768]⟩
abbrev S16x256 : Shape := ⟨2, ![16, 256]⟩
abbrev S128x256 : Shape := ⟨2, ![128, 256]⟩
abbrev S1x1x128x256 : Shape := ⟨4, ![1, 1, 128, 256]⟩
abbrev S1x128x256 : Shape := ⟨3, ![1, 128, 256]⟩
abbrev S64x256 : Shape := ⟨2, ![64, 256]⟩
abbrev S80x256 : Shape := ⟨2, ![80, 256]⟩
abbrev S1x80x256 : Shape := ⟨3, ![1, 80, 256]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1x1024x2048 : Shape := ⟨3, ![1, 1024, 2048]⟩
abbrev S1024x2048 : Shape := ⟨2, ![1024, 2048]⟩

abbrev nBuf : Space → Nat
  | .hbm => 54
  | .vmem => 36
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x5408, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x128, .f32⟩
  | .hbm, ⟨21, _⟩ => ⟨S4096x32, .f32⟩
  | .hbm, ⟨22, _⟩ => ⟨S4096x128, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S4x1024x512, .f32⟩
  | .hbm, ⟨28, _⟩ => ⟨S4x1024x768, .f32⟩
  | .hbm, ⟨29, _⟩ => ⟨S4x1024x24, .f32⟩
  | .hbm, ⟨30, _⟩ => ⟨S4x1024x1536, .f32⟩
  | .hbm, ⟨31, _⟩ => ⟨S4x1024x4, .f32⟩
  | .hbm, ⟨32, _⟩ => ⟨S4x1024x4, .f32⟩
  | .hbm, ⟨33, _⟩ => ⟨S4x1024x512, .f32⟩
  | .hbm, ⟨34, _⟩ => ⟨S4x1024x2048, .f32⟩
  | .hbm, ⟨35, _⟩ => ⟨S_, .f32⟩
  | .hbm, ⟨36, _⟩ => ⟨S4x1024x96, .f32⟩
  | .hbm, ⟨37, _⟩ => ⟨S4x1024x128, .f32⟩
  | .hbm, ⟨38, _⟩ => ⟨S4x1024x5504, .f32⟩
  | .hbm, ⟨39, _⟩ => ⟨S4x1024x5504, .bf16⟩
  | .hbm, ⟨40, _⟩ => ⟨S16384x512, .bf16⟩
  | .hbm, ⟨41, _⟩ => ⟨S16384x512, .bf16⟩
  | .hbm, ⟨42, _⟩ => ⟨S16384x128, .f32⟩
  | .hbm, ⟨43, _⟩ => ⟨S16384x1536, .f32⟩
  | .hbm, ⟨44, _⟩ => ⟨S16384x512, .f32⟩
  | .hbm, ⟨45, _⟩ => ⟨S16384x2048, .f32⟩
  | .hbm, ⟨46, _⟩ => ⟨S1x4x512x4096, .f32⟩
  | .hbm, ⟨47, _⟩ => ⟨S4x256x4096, .f32⟩
  | .hbm, ⟨48, _⟩ => ⟨S16384x128, .f32⟩
  | .hbm, ⟨49, _⟩ => ⟨S16384x128, .f32⟩
  | .hbm, ⟨50, _⟩ => ⟨S16384x256, .bf16⟩
  | .hbm, ⟨51, _⟩ => ⟨S16384x128, .bf16⟩
  | .hbm, ⟨52, _⟩ => ⟨S2x80x16384, .bf16⟩
  | .hbm, ⟨53, _⟩ => ⟨S2x80x16384, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x5504, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x128, .f32⟩
  | .local _ .vmem, ⟨13, _⟩ => ⟨S256x128, .f32⟩
  | .local _ .vmem, ⟨14, _⟩ => ⟨S256x1536, .f32⟩
  | .local _ .vmem, ⟨15, _⟩ => ⟨S256x1536, .f32⟩
  | .local _ .vmem, ⟨16, _⟩ => ⟨S256x512, .f32⟩
  | .local _ .vmem, ⟨17, _⟩ => ⟨S256x512, .f32⟩
  | .local _ .vmem, ⟨18, _⟩ => ⟨S256x2048, .f32⟩
  | .local _ .vmem, ⟨19, _⟩ => ⟨S256x2048, .f32⟩
  | .local _ .vmem, ⟨20, _⟩ => ⟨S1x1x512x256, .f32⟩
  | .local _ .vmem, ⟨21, _⟩ => ⟨S1x1x512x256, .f32⟩
  | .local _ .vmem, ⟨22, _⟩ => ⟨S1x256x256, .f32⟩
  | .local _ .vmem, ⟨23, _⟩ => ⟨S1x256x256, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x256, .bf16⟩
  | .local _ .vmem, ⟨29, _⟩ => ⟨S256x256, .bf16⟩
  | .local _ .vmem, ⟨30, _⟩ => ⟨S256x128, .bf16⟩
  | .local _ .vmem, ⟨31, _⟩ => ⟨S256x128, .bf16⟩
  | .local _ .vmem, ⟨32, _⟩ => ⟨S2x80x256, .bf16⟩
  | .local _ .vmem, ⟨33, _⟩ => ⟨S2x80x256, .bf16⟩
  | .local _ .vmem, ⟨34, _⟩ => ⟨S2x80x256, .bf16⟩
  | .local _ .vmem, ⟨35, _⟩ => ⟨S2x80x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34_0 : Ref sig .tc := ⟨.hbm, 40, rfl⟩
abbrev main_v34_1 : Ref sig .tc := ⟨.hbm, 41, rfl⟩
abbrev main_v34_2 : Ref sig .tc := ⟨.hbm, 42, rfl⟩
abbrev main_v34_3 : Ref sig .tc := ⟨.hbm, 43, rfl⟩
abbrev main_v34_4 : Ref sig .tc := ⟨.hbm, 44, rfl⟩
abbrev main_v34_5 : Ref sig .tc := ⟨.hbm, 45, rfl⟩
abbrev main_v34_6 : Ref sig .tc := ⟨.hbm, 46, rfl⟩
abbrev main_v34_7 : Ref sig .tc := ⟨.hbm, 47, rfl⟩
abbrev main_v34_8 : Ref sig .tc := ⟨.hbm, 48, rfl⟩
abbrev main_v34_9 : Ref sig .tc := ⟨.hbm, 49, rfl⟩
abbrev main_v34_10 : Ref sig .tc := ⟨.hbm, 50, rfl⟩
abbrev main_v34_11 : Ref sig .tc := ⟨.hbm, 51, rfl⟩
abbrev main_v34_12 : Ref sig .tc := ⟨.hbm, 52, rfl⟩
abbrev main_v34_13 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x80x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S4x4096x1024 : Shape := ⟨3, ![4, 4096, 1024]⟩
abbrev S4x1024 : Shape := ⟨2, ![4, 1024]⟩
abbrev S4x1024x5408 : Shape := ⟨3, ![4, 1024, 5408]⟩
abbrev S4096 : Shape := ⟨1, ![4096]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5408 : Shape := ⟨3, ![1, 1024, 5408]⟩
abbrev S1024x5408 : Shape := ⟨2, ![1024, 5408]⟩
abbrev S4x4096x5408 : Shape := ⟨3, ![4, 4096, 5408]⟩
abbrev S4x4096x512 : Shape := ⟨3, ![4, 4096, 512]⟩
abbrev S4x4096x768 : Shape := ⟨3, ![4, 4096, 768]⟩
abbrev S4x4096x24 : Shape := ⟨3, ![4, 4096, 24]⟩
abbrev S4x4096x1536 : Shape := ⟨3, ![4, 4096, 1536]⟩
abbrev S4x4096x4 : Shape := ⟨3, ![4, 4096, 4]⟩
abbrev S4x4096x2048 : Shape := ⟨3, ![4, 4096, 2048]⟩
abbrev S4x4096x8x64 : Shape := ⟨4, ![4, 4096, 8, 64]⟩
abbrev S4x4096x6x2x64 : Shape := ⟨5, ![4, 4096, 6, 2, 64]⟩
abbrev S4x4096x1x2x64 : Shape := ⟨5, ![4, 4096, 1, 2, 64]⟩
abbrev S4x4096x2x64 : Shape := ⟨4, ![4, 4096, 2, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x2x32 : Shape := ⟨4, ![4, 4096, 2, 32]⟩
abbrev S1x4096x1x32 : Shape := ⟨4, ![1, 4096, 1, 32]⟩
abbrev S4x4096x4x2x64 : Shape := ⟨5, ![4, 4096, 4, 2, 64]⟩
abbrev S4x4096x2x2x64 : Shape := ⟨5, ![4, 4096, 2, 2, 64]⟩
abbrev S4x4096x96 : Shape := ⟨3, ![4, 4096, 96]⟩
abbrev S4x4096x128 : Shape := ⟨3, ![4, 4096, 128]⟩
abbrev S16384x512 : Shape := ⟨2, ![16384, 512]⟩
abbrev S4x4096x8x32 : Shape := ⟨4, ![4, 4096, 8, 32]⟩
abbrev S16384x128 : Shape := ⟨2, ![16384, 128]⟩
abbrev S16384x1536 : Shape := ⟨2, ![16384, 1536]⟩
abbrev S16384x2048 : Shape := ⟨2, ![16384, 2048]⟩
abbrev S4x512x4096 : Shape := ⟨3, ![4, 512, 4096]⟩
abbrev S1x4x512x4096 : Shape := ⟨4, ![1, 4, 512, 4096]⟩
abbrev S4x4096x256 : Shape := ⟨3, ![4, 4096, 256]⟩
abbrev S4x256x4096 : Shape := ⟨3, ![4, 256, 4096]⟩

abbrev nBuf : Space → Nat
  | .hbm => 192
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024x5408, .f32⟩
  | 3 => ⟨S4096, .i32⟩
  | 4 => ⟨S1x1024, .f32⟩
  | 5 => ⟨S1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S1x1024x5408, .f32⟩
  | 23 => ⟨S1024x5408, .f32⟩
  | 24 => ⟨S4x4096x5408, .f32⟩
  | 25 => ⟨S4x4096x512, .f32⟩
  | 26 => ⟨S4x4096x768, .f32⟩
  | 27 => ⟨S4x4096x24, .f32⟩
  | 28 => ⟨S4x4096x1536, .f32⟩
  | 29 => ⟨S4x4096x4, .f32⟩
  | 30 => ⟨S4x4096x4, .f32⟩
  | 31 => ⟨S4x4096x512, .f32⟩
  | 32 => ⟨S4x4096x2048, .f32⟩
  | 33 => ⟨S4x4096x8x64, .f32⟩
  | 34 => ⟨S4x4096x6x2x64, .f32⟩
  | 35 => ⟨S4x4096x1x2x64, .f32⟩
  | 36 => ⟨S4x4096x2x64, .f32⟩
  | 37 => ⟨S4x4096x1x2x64, .f32⟩
  | 38 => ⟨S4x4096x2x64, .f32⟩
  | 39 => ⟨S4x4096x1x2x64, .f32⟩
  | 40 => ⟨S4x4096x2x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096, .f32⟩
  | 50 => ⟨S4096x1, .f32⟩
  | 51 => ⟨S1x32, .f32⟩
  | 52 => ⟨S4096x32, .f32⟩
  | 53 => ⟨S4096x32, .f32⟩
  | 54 => ⟨S4096x32, .f32⟩
  | 55 => ⟨S4096x32, .f32⟩
  | 56 => ⟨S4096x1x32, .f32⟩
  | 57 => ⟨S4096x32, .f32⟩
  | 58 => ⟨S4096x1x32, .f32⟩
  | 59 => ⟨S4x4096x2x32, .f32⟩
  | 60 => ⟨S4x4096x2x32, .f32⟩
  | 61 => ⟨S1x4096x1x32, .f32⟩
  | 62 => ⟨S4x4096x2x32, .f32⟩
  | 63 => ⟨S4x4096x2x32, .f32⟩
  | 64 => ⟨S1x4096x1x32, .f32⟩
  | 65 => ⟨S4x4096x2x32, .f32⟩
  | 66 => ⟨S4x4096x2x32, .f32⟩
  | 67 => ⟨S4x4096x2x32, .f32⟩
  | 68 => ⟨S1x4096x1x32, .f32⟩
  | 69 => ⟨S4x4096x2x32, .f32⟩
  | 70 => ⟨S4x4096x2x32, .f32⟩
  | 71 => ⟨S1x4096x1x32, .f32⟩
  | 72 => ⟨S4x4096x2x32, .f32⟩
  | 73 => ⟨S4x4096x2x32, .f32⟩
  | 74 => ⟨S4x4096x2x32, .f32⟩
  | 75 => ⟨S4x4096x2x64, .f32⟩
  | 76 => ⟨S4x4096x1x2x64, .f32⟩
  | 77 => ⟨S4x4096x2x64, .f32⟩
  | 78 => ⟨S4x4096x1x2x64, .f32⟩
  | 79 => ⟨S4x4096x1x2x64, .f32⟩
  | 80 => ⟨S4x4096x1x2x64, .f32⟩
  | 81 => ⟨S4x4096x1x2x64, .f32⟩
  | 82 => ⟨S4x4096x4x2x64, .f32⟩
  | 83 => ⟨S4x4096x1x2x64, .f32⟩
  | 84 => ⟨S4x4096x2x64, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S4096, .f32⟩
  | 94 => ⟨S4096x1, .f32⟩
  | 95 => ⟨S1x32, .f32⟩
  | 96 => ⟨S4096x32, .f32⟩
  | 97 => ⟨S4096x32, .f32⟩
  | 98 => ⟨S4096x32, .f32⟩
  | 99 => ⟨S4096x32, .f32⟩
  | 100 => ⟨S4096x1x32, .f32⟩
  | 101 => ⟨S4096x32, .f32⟩
  | 102 => ⟨S4096x1x32, .f32⟩
  | 103 => ⟨S4x4096x2x32, .f32⟩
  | 104 => ⟨S4x4096x2x32, .f32⟩
  | 105 => ⟨S1x4096x1x32, .f32⟩
  | 106 => ⟨S4x4096x2x32, .f32⟩
  | 107 => ⟨S4x4096x2x32, .f32⟩
  | 108 => ⟨S1x4096x1x32, .f32⟩
  | 109 => ⟨S4x4096x2x32, .f32⟩
  | 110 => ⟨S4x4096x2x32, .f32⟩
  | 111 => ⟨S4x4096x2x32, .f32⟩
  | 112 => ⟨S1x4096x1x32, .f32⟩
  | 113 => ⟨S4x4096x2x32, .f32⟩
  | 114 => ⟨S4x4096x2x32, .f32⟩
  | 115 => ⟨S1x4096x1x32, .f32⟩
  | 116 => ⟨S4x4096x2x32, .f32⟩
  | 117 => ⟨S4x4096x2x32, .f32⟩
  | 118 => ⟨S4x4096x2x32, .f32⟩
  | 119 => ⟨S4x4096x2x64, .f32⟩
  | 120 => ⟨S4x4096x1x2x64, .f32⟩
  | 121 => ⟨S4x4096x2x64, .f32⟩
  | 122 => ⟨S4x4096x1x2x64, .f32⟩
  | 123 => ⟨S4x4096x1x2x64, .f32⟩
  | 124 => ⟨S4x4096x2x2x64, .f32⟩
  | 125 => ⟨S_, .f32⟩
  | 126 => ⟨S4x4096x96, .f32⟩
  | 127 => ⟨S4x4096x128, .f32⟩
  | _ => ⟨S4x4096x1024, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S16384x512, .bf16⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S4096, .f32⟩
  | 14 => ⟨S4096x1, .f32⟩
  | 15 => ⟨S1x32, .f32⟩
  | 16 => ⟨S4096x32, .f32⟩
  | 17 => ⟨S4096x32, .f32⟩
  | 18 => ⟨S4096x32, .f32⟩
  | 19 => ⟨S4096x32, .f32⟩
  | 20 => ⟨S4096x1x32, .f32⟩
  | 21 => ⟨S4096x32, .f32⟩
  | 22 => ⟨S4096x1x32, .f32⟩
  | 23 => ⟨S4x4096x8x32, .f32⟩
  | 24 => ⟨S4x4096x8x32, .f32⟩
  | 25 => ⟨S1x4096x1x32, .f32⟩
  | 26 => ⟨S4x4096x8x32, .f32⟩
  | 27 => ⟨S4x4096x8x32, .f32⟩
  | 28 => ⟨S1x4096x1x32, .f32⟩
  | 29 => ⟨S4x4096x8x32, .f32⟩
  | 30 => ⟨S4x4096x8x32, .f32⟩
  | 31 => ⟨S4x4096x8x32, .f32⟩
  | 32 => ⟨S1x4096x1x32, .f32⟩
  | 33 => ⟨S4x4096x8x32, .f32⟩
  | 34 => ⟨S4x4096x8x32, .f32⟩
  | 35 => ⟨S1x4096x1x32, .f32⟩
  | 36 => ⟨S4x4096x8x32, .f32⟩
  | 37 => ⟨S4x4096x8x32, .f32⟩
  | 38 => ⟨S4x4096x8x32, .f32⟩
  | 39 => ⟨S4x4096x8x64, .f32⟩
  | 40 => ⟨S16384x512, .f32⟩
  | 41 => ⟨S_, .f32⟩
  | 42 => ⟨S16384x512, .f32⟩
  | 43 => ⟨S16384x512, .f32⟩
  | 44 => ⟨S16384x512, .bf16⟩
  | 45 => ⟨S16384x128, .f32⟩
  | 46 => ⟨S16384x1536, .f32⟩
  | 47 => ⟨S16384x512, .f32⟩
  | 48 => ⟨S16384x2048, .f32⟩
  | 49 => ⟨S4x4096x512, .f32⟩
  | 50 => ⟨S4x512x4096, .f32⟩
  | 51 => ⟨S1x4x512x4096, .f32⟩
  | 52 => ⟨S4x4096x256, .f32⟩
  | 53 => ⟨S4x256x4096, .f32⟩
  | 54 => ⟨S4x4096x1x2x64, .f32⟩
  | 55 => ⟨S4x4096x2x64, .f32⟩
  | 56 => ⟨S16384x128, .f32⟩
  | 57 => ⟨S4x4096x1x2x64, .f32⟩
  | 58 => ⟨S4x4096x2x64, .f32⟩
  | 59 => ⟨S16384x128, .f32⟩
  | 60 => ⟨S4x4096x1x2x64, .f32⟩
  | 61 => ⟨S4x4096x2x64, .f32⟩
  | 62 => ⟨S16384x128, .f32⟩
  | 63 => ⟨S16384x128, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_cst_4 : Ref sig .tc := ⟨.hbm, 87, rfl⟩
abbrev main_v79 : Ref sig .tc := ⟨.hbm, 88, rfl⟩
abbrev main_v80 : Ref sig .tc := ⟨.hbm, 89, rfl⟩
abbrev main_cst_5 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_cst_6 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_cst_7 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_cst_8 : Ref sig .tc := ⟨.hbm, 135, rfl⟩
abbrev main_v123 : Ref sig .tc := ⟨.hbm, 136, rfl⟩
abbrev main_v124 : Ref sig .tc := ⟨.hbm, 137, rfl⟩
abbrev main_cst_9 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_cst_10 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩

abbrev nD : Nat := 1
abbrev τ : Topo := Topo.v7x

variable {F : FTy → Type} [FloatOps F]
-- ==== Proof.ScanBlock.lean ====
/-
  What one grid point of the recurrence's kernel computes, read element by element over the extended reals: for a
  batch row `b`, a head `h` and a chunk's blocks, the corrected values `blkV`, the state after the chunk `blkS`, the
  raw outputs `blkO` and the normalized, gated outputs `blkY`. The kernel works on two heads at a time, with the two
  heads' matrices on the diagonal of one twice as large; the lemmas here show that the zero blocks contribute nothing.
-/
module

public import proofs.«01_k».proof.Proof.Gen.KernelIdeal.Value
public import Idealize.ShloMosaic.Lib.Pointwise
public import Idealize.ShloMosaic.Lib.Pipeline.ReadBack

@[expose] public section

set_option maxRecDepth 16384

noncomputable section

namespace Cert.Scan

open Cert.KernelIdeal Cert.KernelIdeal.Gen Idealize.ShloMosaic

/-- Column `v` of head `h` among the `4 × 128` columns of a token's row. -/
def col (h : Fin 4) (v : Fin 128) : Fin 512 := ⟨128 * h.val + v.val, by omega⟩

/-- The corrected values of a chunk: what the values hold beyond what the state already predicts from the keys. -/
def blkV (u w : S4x128x512.Idx → EReal) (s : S4x4x128x128.Idx → EReal) (b h : Fin 4) (c v : Fin 128) : EReal :=
  u (ix3 b c (col h v)) - ∑ k : Fin 128, w (ix3 b c (col h k)) * s (ix4 b h k v)

/-- The state after the chunk. -/
def blkS (u w : S4x128x512.Idx → EReal) (kd : S4x512x128.Idx → EReal) (g : S4x8x128.Idx → EReal)
    (s : S4x4x128x128.Idx → EReal) (b h : Fin 4) (k v : Fin 128) : EReal :=
  s (ix4 b h k v) * g (ix3 b ⟨h.val, by omega⟩ v) + ∑ c : Fin 128, kd (ix3 b (col h k) c) * blkV u w s b h c v

/-- The chunk's raw outputs: the queries on the old state, and the queries on the chunk's own keys. -/
def blkO (u w qd qk : S4x128x512.Idx → EReal) (s : S4x4x128x128.Idx → EReal) (b h : Fin 4) (c v : Fin 128) : EReal :=
  (∑ k : Fin 128, qd (ix3 b c (col h k)) * s (ix4 b h k v)) + ∑ j : Fin 128, qk (ix3 b c (col h j)) * blkV u w s b h j v

/-- A row's normalized entry times the gate's `z · σ(z)`. -/
def gated (o : Fin 128 → EReal) (nw : Fin 128 → EReal) (z : EReal) (v : Fin 128) : EReal :=
  o v * Ideal.rsqrt (Ideal.div (∑ i : Fin 128, o i * o i) (Ideal.ofBits .f32 0x43000000#32) + Ideal.ofBits .f32 0x358637BD#32) * nw v
    * (z * Ideal.div 1 (1 + Ideal.exp (0 - z)))

/-- The head of a column of a token's row, and its place in the head. -/
def headOf (d : Fin 512) : Fin 4 := ⟨d.val / 128, by omega⟩

/-- The place of a column in its head. -/
def laneOf (d : Fin 512) : Fin 128 := ⟨d.val % 128, by omega⟩

/-- The chunk's outputs after the row's normalization and gate. -/
def blkY (u w qd qk z : S4x128x512.Idx → EReal) (nw : S1x128.Idx → EReal) (s : S4x4x128x128.Idx → EReal) (b : Fin 4)
    (c : Fin 128) (d : Fin 512) : EReal :=
  gated (fun v => blkO u w qd qk s b (headOf d) c v) (fun v => nw (ix2 0 v)) (z (ix3 b c d)) (laneOf d)

/-- Stores that are, piece by piece, blocks of one function leave that function wherever one of them covers. -/
theorem canon_of_piecesOf {S : Shape} {e : EltTy} (G : S.Idx → Elt Ideal e) (L : List (View.Piece (Elt Ideal) S e))
    (y : S.Idx) (hc : ∃ p ∈ L, y ∈ p.1.set) (h : View.PiecesOf G L) : View.canon L y = G y :=
  View.canon_apply_of_pieces G L h.mem y hc

/-- An index of one head's square block is a row and a column. -/
theorem square_all {P : S1x1x128x128.Idx → Prop} (h : ∀ k v : Fin 128, P (ix4 0 0 k v)) (x : S1x1x128x128.Idx) : P x := by
  have hx : x = ix4 (n0 := 1) (n1 := 1) 0 0 (x 2) (x 3) := by
    funext a
    fin_cases a
    · exact Subsingleton.elim (α := Fin 1) _ _
    · exact Subsingleton.elim (α := Fin 1) _ _
    · rfl
    · rfl
  rw [hx]
  exact h _ _

/-- Where one head's square block lies in the state. -/
theorem emb_square (b h : Nat) (hb : b < 4) (hh : h < 4)
    (inb : ∀ a, (![b, h, 0, 0] : Fin 4 → Nat) a + (![1, 1, 128, 128] : Fin 4 → Nat) a ≤ S4x4x128x128.size a) (k v : Fin 128) :
    (Rect.unit (s := S4x4x128x128) ![b, h, 0, 0] ![1, 1, 128, 128] inb).emb (ix4 0 0 k v) = ix4 ⟨b, hb⟩ ⟨h, hh⟩ k v := by
  funext a
  apply Fin.ext
  fin_cases a <;> simp [Rect.emb, Rect.unit, ix4]

/-- An index of one head's block of tokens is a token and a place in the head. -/
theorem tokens_all {P : S1x128x128.Idx → Prop} (h : ∀ c v : Fin 128, P (ix3 0 c v)) (x : S1x128x128.Idx) : P x := by
  have hx : x = ix3 (n0 := 1) 0 (x 1) (x 2) := by
    funext a
    fin_cases a
    · exact Subsingleton.elim (α := Fin 1) _ _
    · rfl
    · rfl
  rw [hx]
  exact h _ _

/-- Where one head's block of tokens lies among a row's columns. -/
theorem emb_tokens (b h o : Nat) (hb : b < 4) (hh : h < 4) (ho : o = 128 * h)
    (inb : ∀ a, (![b, 0, o] : Fin 3 → Nat) a + (![1, 128, 128] : Fin 3 → Nat) a ≤ S4x128x512.size a) (c v : Fin 128) :
    (Rect.unit (s := S4x128x512) ![b, 0, o] ![1, 128, 128] inb).emb (ix3 0 c v) = ix3 ⟨b, hb⟩ c (col ⟨h, hh⟩ v) := by
  subst ho
  funext a
  apply Fin.ext
  fin_cases a <;> simp [Rect.emb, Rect.unit, ix3, col]

theorem headOf_col (h : Fin 4) (v : Fin 128) : headOf (col h v) = h := by
  apply Fin.ext
  simp only [headOf, col]
  omega

theorem laneOf_col (h : Fin 4) (v : Fin 128) : laneOf (col h v) = v := by
  apply Fin.ext
  simp only [laneOf, col]
  omega

/-- The chunk's outputs at a head and a place in it. -/
theorem blkY_col (u w qd qk z : S4x128x512.Idx → EReal) (nw : S1x128.Idx → EReal) (s : S4x4x128x128.Idx → EReal) (b : Fin 4)
    (c : Fin 128) (h : Fin 4) (v : Fin 128) : blkY u w qd qk z nw s b c (col h v) =
      gated (fun i => blkO u w qd qk s b h c i) (fun i => nw (ix2 0 i)) (z (ix3 b c (col h v))) v := by
  rw [blkY, headOf_col, laneOf_col]

theorem col_0 (v : Fin 128) : col 0 v = ⟨v.val, by omega⟩ := Fin.ext (by simp [col])
theorem col_1 (v : Fin 128) : col 1 v = ⟨128 + v.val, by omega⟩ := rfl
theorem col_2 (v : Fin 128) : col 2 v = ⟨256 + v.val, by omega⟩ := rfl
theorem col_3 (v : Fin 128) : col 3 v = ⟨384 + v.val, by omega⟩ := rfl
theorem second_pair (n : Nat) : 256 + (128 + n) = 384 + n := by omega

end Cert.Scan

end

end
-- ==== Proof.ScanMath.lean ====
/-
  The chunked gated delta rule's scan over the extended reals, in its own terms: the arrays of one problem, the state
  before each chunk, a token's raw output, and the normalized, gated output. Both programs are shown to compute these.
-/
module

public import proofs.«01_k».proof.Proof.ScanBlock

@[expose] public section

set_option maxRecDepth 16384

noncomputable section

namespace Cert.Scan

open Cert.KernelIdeal Idealize.ShloMosaic

/-- The arrays the scan starts from: per token and head the values, keys, decayed queries, causal products and decayed
    keys, per chunk and head the decay, the gate, the entry state and the norm's weights. -/
structure Problem where
  u : S4x4096x4x128.Idx → EReal
  w : S4x4096x4x128.Idx → EReal
  qd : S4x4096x4x128.Idx → EReal
  qk : S4x4096x4x128.Idx → EReal
  kd : S4x4096x4x128.Idx → EReal
  g : S4x32x4.Idx → EReal
  z : S4x4096x512.Idx → EReal
  s0 : S4x4x128x128.Idx → EReal
  nw : S128.Idx → EReal

/-- Token `c` of chunk `n`. -/
def tok (n : Fin 32) (c : Fin 128) : Fin 4096 := ⟨n.val * 128 + c.val, by omega⟩

/-- A token's chunk and its place there. -/
def chunkOf (t : Fin 4096) : Fin 32 := ⟨t.val / 128, by omega⟩
def placeOf (t : Fin 4096) : Fin 128 := ⟨t.val % 128, by omega⟩

theorem chunkOf_tok (n : Fin 32) (c : Fin 128) : chunkOf (tok n c) = n := by
  apply Fin.ext
  simp only [chunkOf, tok]
  omega

theorem placeOf_tok (n : Fin 32) (c : Fin 128) : placeOf (tok n c) = c := by
  apply Fin.ext
  simp only [placeOf, tok]
  omega

theorem tok_chunkOf (t : Fin 4096) : tok (chunkOf t) (placeOf t) = t := by
  apply Fin.ext
  simp only [chunkOf, placeOf, tok]
  omega

variable (p : Problem)

/-- The corrected values of chunk `n` against the state before it. -/
def vNew (n : Fin 32) (s : S4x4x128x128.Idx → EReal) (b h : Fin 4) (c v : Fin 128) : EReal :=
  p.u (ix4 b (tok n c) h v) - ∑ k : Fin 128, p.w (ix4 b (tok n c) h k) * s (ix4 b h k v)

/-- The raw outputs of chunk `n`. -/
def oNew (n : Fin 32) (s : S4x4x128x128.Idx → EReal) (b h : Fin 4) (c v : Fin 128) : EReal :=
  (∑ k : Fin 128, p.qd (ix4 b (tok n c) h k) * s (ix4 b h k v))
    + ∑ j : Fin 128, p.qk (ix4 b (tok n c) h j) * vNew p n s b h j v

/-- The state after chunk `n`. -/
def sNext (n : Fin 32) (s : S4x4x128x128.Idx → EReal) : S4x4x128x128.Idx → EReal := fun i =>
  s (ix4 (i 0) (i 1) (i 2) (i 3)) * p.g (ix3 (i 0) n (i 1))
    + ∑ c : Fin 128, p.kd (ix4 (i 0) (tok n c) (i 1) (i 2)) * vNew p n s (i 0) (i 1) c (i 3)

/-- The state before chunk `n`. -/
def state : ℕ → S4x4x128x128.Idx → EReal
  | 0 => p.s0
  | n + 1 => if h : n < 32 then sNext p ⟨n, h⟩ (state n) else state n

theorem state_succ (n : Fin 32) : state p (n.val + 1) = sNext p n (state p n.val) := by
  rw [state, dif_pos n.isLt]

/-- A token's normalized and gated output. -/
def yOut (b : Fin 4) (t : Fin 4096) (d : Fin 512) : EReal :=
  gated (fun v => oNew p (chunkOf t) (state p (chunkOf t).val) b (headOf d) (placeOf t) v) (fun v => p.nw (ix1 v))
    (p.z (ix3 b t d)) (laneOf d)

end Cert.Scan

end

end
-- ==== Proof.ScanHost.lean ====
/-
  What the kernel's host code hands to the call, element by element, and what each grid point's blocks hold of it: the
  per-token arrays laid out as rows of `4 × 128` columns, the decayed keys transposed within a chunk, the chunk's decay
  repeated over the lanes.
-/
module

public import proofs.«01_k».proof.Proof.ScanMath
public import Idealize.ShloMosaic.Lib.Pipeline.ValueKit.Point

@[expose] public section

set_option maxRecDepth 16384

noncomputable section

namespace Cert.Scan

open Cert.KernelIdeal Cert.KernelIdeal.Gen Idealize.ShloMosaic Idealize.ShloMosaic.TcCoe Idealize.SL.Sem

/-! ## The host's layout changes, on any array -/

/-- Tokens by heads by places, laid out as rows. -/
theorem rows_apply (X : S4x4096x4x128.Idx → EReal) (b : Fin 4) (t : Fin 4096) (h : Fin 4) (v : Fin 128) :
    shapeCast S4x4096x512 (shapeCast S16384x512 X shapeCasts_S4x4096x4x128_S16384x512) shapeCasts_S16384x512_S4x4096x512
      (ix3 b t (col h v)) = X (ix4 b t h v) := by
  pointwise []
  exact congrArg₂ (fun a e => X (ix4 b t a e)) (headOf_col h v) (laneOf_col h v)

/-- Rows laid out flat and back. -/
theorem flat_apply (X : S4x4096x512.Idx → EReal) :
    shapeCast S4x4096x512 (shapeCast S16384x512 X shapeCasts_S4x4096x512_S16384x512) shapeCasts_S16384x512_S4x4096x512 = X := by
  funext i
  pointwise []

theorem chunkRows_apply (Y : S4x32x4x128x128.Idx → EReal) (b : Fin 4) (n : Fin 32) (h : Fin 4) (k r : Fin 128) :
    shapeCast S4x16384x128 (shapeCast S128x512x128 Y shapeCasts_S4x32x4x128x128_S128x512x128)
      shapeCasts_S128x512x128_S4x16384x128 (ix3 b ⟨n.val * 512 + (col h k).val, by have := (col h k).isLt; omega⟩ r) =
      Y (ix5 b n h k r) := by
  generalize hi : (⟨n.val * 512 + (col h k).val, _⟩ : Fin 16384) = i
  have hi' : i.val = n.val * 512 + (128 * h.val + k.val) := by rw [← hi]; rfl
  pointwise []
  have h1 : (⟨i.val / 512, by omega⟩ : Fin 32) = n := Fin.ext (by simp only []; omega)
  have h2 : (⟨i.val / 128 % 4, by omega⟩ : Fin 4) = h := Fin.ext (by simp only []; omega)
  have h3 : (⟨i.val % 128, by omega⟩ : Fin 128) = k := Fin.ext (by simp only []; omega)
  rw [h1, h2, h3]

theorem chunkTranspose_apply (X : S4x4096x4x128.Idx → EReal) (b : Fin 4) (n : Fin 32) (h : Fin 4) (k r : Fin 128) :
    transpose S4x32x4x128x128 [0, 1, 3, 4, 2] (shapeCast S4x32x128x4x128 X shapeCasts_S4x4096x4x128_S4x32x128x4x128)
      transposes_S4x32x128x4x128_S4x32x4x128x128_0_1_3_4_2 (ix5 b n h k r) = X (ix4 b (tok n r) h k) := by
  pointwise []
  rfl

/-- The decay padded to eight heads and repeated over the lanes. -/
theorem decay_apply (X : S4x32x4.Idx → EReal) (z : S_.Idx → EReal) (b : Fin 4) (n : Fin 32) (h : Fin 4) (v : Fin 128) :
    shapeCast S4x256x128 (shapeCast S128x8x128 (broadcastInDim S4x32x8x128 ![0, 1, 2, 3] bcast_S4x32x8x1_S4x32x8x128_0_1_2_3
      (broadcastInDim S4x32x8x1 ![0, 1, 2] bcast_S4x32x8_S4x32x8x1_0_1_2
        (pad S4x32x8 ![0, 0, 0] ![0, 0, 4] ![0, 0, 0] X z pads_S4x32x4_S4x32x8_000_000_040 h_S_)))
      shapeCasts_S4x32x8x128_S128x8x128) shapeCasts_S128x8x128_S4x256x128 (ix3 b ⟨n.val * 8 + h.val, by omega⟩ v) =
      X (ix3 b n h) := by
  generalize hi : (⟨n.val * 8 + h.val, _⟩ : Fin 256) = i
  have hi' : i.val = n.val * 8 + h.val := by rw [← hi]
  pointwise []
  have h1 : (⟨i.val / 8, by omega⟩ : Fin 32) = n := Fin.ext (by simp only []; omega)
  have hc : i.val / 8 < 32 ∧ i.val % 8 < 4 := by omega
  have h2 : (⟨i.val % 8, by omega⟩ : Fin 4) = h := Fin.ext (by simp only []; omega)
  refine (dif_pos hc).trans ?_
  exact congrArg₂ (fun a e => X (ix3 b a e)) h1 h2

variable (m : (ℓ : Loc nD τ sig) → Buf (Elt Ideal) ℓ) (c : Dev nD)

/-- The problem's arrays, as launched on a device. -/
def problem : Problem where
  u := m ((c : Thread nD τ).loc main_arg0)
  w := m ((c : Thread nD τ).loc main_arg1)
  qd := m ((c : Thread nD τ).loc main_arg2)
  qk := m ((c : Thread nD τ).loc main_arg3)
  kd := m ((c : Thread nD τ).loc main_arg4)
  g := m ((c : Thread nD τ).loc main_arg5)
  z := m ((c : Thread nD τ).loc main_arg6)
  s0 := m ((c : Thread nD τ).loc main_arg7)
  nw := m ((c : Thread nD τ).loc main_arg8)

/-! ## What the call's operands hold -/

theorem V_u (b : Fin 4) (t : Fin 4096) (h : Fin 4) (v : Fin 128) :
    (V m c main_v13 : S4x4096x512.Idx → EReal) (ix3 b t (col h v)) = (problem m c).u (ix4 b t h v) := by
  have e : (V m c main_v13 : S4x4096x512.Idx → EReal) = shapeCast S4x4096x512 (shapeCast S16384x512 (problem m c).u
      shapeCasts_S4x4096x4x128_S16384x512) shapeCasts_S16384x512_S4x4096x512 := by
    show StableHlo.after (List.flatten [hostOps0, hostOps0_1, hostOps0_2]) _ (Proc.devRef .tc main_v13) = _
    simp only [hostOps0, hostOps0_1, hostOps0_2, List.flatten_cons, List.flatten_nil, List.append_nil, List.cons_append,
      List.nil_append]
    after_results
    rfl
  rw [e, rows_apply]

theorem V_w (b : Fin 4) (t : Fin 4096) (h : Fin 4) (v : Fin 128) :
    (V m c main_v14 : S4x4096x512.Idx → EReal) (ix3 b t (col h v)) = (problem m c).w (ix4 b t h v) := by
  have e : (V m c main_v14 : S4x4096x512.Idx → EReal) = shapeCast S4x4096x512 (shapeCast S16384x512 (problem m c).w
      shapeCasts_S4x4096x4x128_S16384x512) shapeCasts_S16384x512_S4x4096x512 := by
    show StableHlo.after (List.flatten [hostOps0, hostOps0_1, hostOps0_2]) _ (Proc.devRef .tc main_v14) = _
    simp only [hostOps0, hostOps0_1, hostOps0_2, List.flatten_cons, List.flatten_nil, List.append_nil, List.cons_append,
      List.nil_append]
    after_results
    rfl
  rw [e, rows_apply]

theorem V_qd (b : Fin 4) (t : Fin 4096) (h : Fin 4) (v : Fin 128) :
    (V m c main_v15 : S4x4096x512.Idx → EReal) (ix3 b t (col h v)) = (problem m c).qd (ix4 b t h v) := by
  have e : (V m c main_v15 : S4x4096x512.Idx → EReal) = shapeCast S4x4096x512 (shapeCast S16384x512 (problem m c).qd
      shapeCasts_S4x4096x4x128_S16384x512) shapeCasts_S16384x512_S4x4096x512 := by
    show StableHlo.after (List.flatten [hostOps0, hostOps0_1, hostOps0_2]) _ (Proc.devRef .tc main_v15) = _
    simp only [hostOps0, hostOps0_1, hostOps0_2, List.flatten_cons, List.flatten_nil, List.append_nil, List.cons_append,
      List.nil_append]
    after_results
    rfl
  rw [e, rows_apply]

theorem V_qk (b : Fin 4) (t : Fin 4096) (h : Fin 4) (v : Fin 128) :
    (V m c main_v16 : S4x4096x512.Idx → EReal) (ix3 b t (col h v)) = (problem m c).qk (ix4 b t h v) := by
  have e : (V m c main_v16 : S4x4096x512.Idx → EReal) = shapeCast S4x4096x512 (shapeCast S16384x512 (problem m c).qk
      shapeCasts_S4x4096x4x128_S16384x512) shapeCasts_S16384x512_S4x4096x512 := by
    show StableHlo.after (List.flatten [hostOps0, hostOps0_1, hostOps0_2]) _ (Proc.devRef .tc main_v16) = _
    simp only [hostOps0, hostOps0_1, hostOps0_2, List.flatten_cons, List.flatten_nil, List.append_nil, List.cons_append,
      List.nil_append]
    after_results
    rfl
  rw [e, rows_apply]

theorem V_z : (V m c main_v19 : S4x4096x512.Idx → EReal) = (problem m c).z := by
  have e : (V m c main_v19 : S4x4096x512.Idx → EReal) = shapeCast S4x4096x512 (shapeCast S16384x512 (problem m c).z
      shapeCasts_S4x4096x512_S16384x512) shapeCasts_S16384x512_S4x4096x512 := by
    show StableHlo.after (List.flatten [hostOps0, hostOps0_1, hostOps0_2]) _ (Proc.devRef .tc main_v19) = _
    simp only [hostOps0, hostOps0_1, hostOps0_2, List.flatten_cons, List.flatten_nil, List.append_nil, List.cons_append,
      List.nil_append]
    after_results
    rfl
  rw [e, flat_apply]

theorem V_nw (v : Fin 128) : (V m c main_v12 : S1x128.Idx → EReal) (ix2 0 v) = (problem m c).nw (ix1 v) := by
  have e : (V m c main_v12 : S1x128.Idx → EReal) = broadcastInDim S1x128 ![1] bcast_S128_S1x128_1 (problem m c).nw := by
    show StableHlo.after (List.flatten [hostOps0, hostOps0_1, hostOps0_2]) _ (Proc.devRef .tc main_v12) = _
    simp only [hostOps0, hostOps0_1, hostOps0_2, List.flatten_cons, List.flatten_nil, List.append_nil, List.cons_append,
      List.nil_append]
    after_results
    rfl
  rw [e]
  generalize (problem m c).nw = X
  pointwise []

theorem V_kd (b : Fin 4) (n : Fin 32) (h : Fin 4) (k r : Fin 128) :
    (V m c main_v17 : S4x16384x128.Idx → EReal) (ix3 b ⟨n.val * 512 + (col h k).val, by have := (col h k).isLt; omega⟩ r) =
      (problem m c).kd (ix4 b (tok n r) h k) := by
  have e : (V m c main_v17 : S4x16384x128.Idx → EReal) = shapeCast S4x16384x128 (shapeCast S128x512x128 (transpose S4x32x4x128x128 [0, 1, 3, 4, 2]
      (shapeCast S4x32x128x4x128 (problem m c).kd shapeCasts_S4x4096x4x128_S4x32x128x4x128)
      transposes_S4x32x128x4x128_S4x32x4x128x128_0_1_3_4_2) shapeCasts_S4x32x4x128x128_S128x512x128) shapeCasts_S128x512x128_S4x16384x128 := by
    show StableHlo.after (List.flatten [hostOps0, hostOps0_1, hostOps0_2]) _ (Proc.devRef .tc main_v17) = _
    simp only [hostOps0, hostOps0_1, hostOps0_2, List.flatten_cons, List.flatten_nil, List.append_nil, List.cons_append,
      List.nil_append]
    after_results
    rfl
  rw [e, chunkRows_apply, chunkTranspose_apply]

theorem V_g (b : Fin 4) (n : Fin 32) (h : Fin 4) (v : Fin 128) :
    (V m c main_v18 : S4x256x128.Idx → EReal) (ix3 b ⟨n.val * 8 + h.val, by omega⟩ v) = (problem m c).g (ix3 b n h) := by
  have e : (V m c main_v18 : S4x256x128.Idx → EReal) = shapeCast S4x256x128 (shapeCast S128x8x128 (broadcastInDim S4x32x8x128 ![0, 1, 2, 3] bcast_S4x32x8x1_S4x32x8x128_0_1_2_3
      (broadcastInDim S4x32x8x1 ![0, 1, 2] bcast_S4x32x8_S4x32x8x1_0_1_2
        (pad S4x32x8 ![0, 0, 0] ![0, 0, 4] ![0, 0, 0] (problem m c).g (sitofp (F := Ideal) .f32 (constantI S_ 32 0#32)) pads_S4x32x4_S4x32x8_000_000_040 h_S_)))
      shapeCasts_S4x32x8x128_S128x8x128) shapeCasts_S128x8x128_S4x256x128 := by
    show StableHlo.after (List.flatten [hostOps0, hostOps0_1, hostOps0_2]) _ (Proc.devRef .tc main_v18) = _
    simp only [hostOps0, hostOps0_1, hostOps0_2, List.flatten_cons, List.flatten_nil, List.append_nil, List.cons_append,
      List.nil_append]
    after_results
    rfl
  rw [e, decay_apply]

/-! ## What a grid point's blocks hold -/

theorem idx_0 : ∀ t : Fin cfg0.N, win0_0.index t = ![0, t.val, 0] :=
  (by decide +kernel : ∀ t : Fin grid0.N, _)

theorem blk_0 (X : Vec Ideal S4x4096x512 .f32) (n : Fin 32) (t : Fin cfg0.N) (ht : t.val = n.val) (b : Fin 4) (i : Fin 128) (j : Fin 512) :
    (((cfg0.win 0).blk t).view.read (Elt Ideal) X : Vec Ideal S4x128x512 .f32) (ix3 b i j) = X (ix3 b ⟨n.val * 128 + i.val, by omega⟩ j) := by
  blk_simp []
  blk_ext [idx_0 t]

theorem idx_1 : ∀ t : Fin cfg0.N, win0_1.index t = ![0, t.val, 0] :=
  (by decide +kernel : ∀ t : Fin grid0.N, _)

theorem blk_1 (X : Vec Ideal S4x4096x512 .bf16) (n : Fin 32) (t : Fin cfg0.N) (ht : t.val = n.val) (b : Fin 4) (i : Fin 128) (j : Fin 512) :
    (((cfg0.win 1).blk t).view.read (Elt Ideal) X : Vec Ideal S4x128x512 .bf16) (ix3 b i j) = X (ix3 b ⟨n.val * 128 + i.val, by omega⟩ j) := by
  blk_simp []
  blk_ext [idx_1 t]

theorem idx_2 : ∀ t : Fin cfg0.N, win0_2.index t = ![0, t.val, 0] :=
  (by decide +kernel : ∀ t : Fin grid0.N, _)

theorem blk_2 (X : Vec Ideal S4x4096x512 .bf16) (n : Fin 32) (t : Fin cfg0.N) (ht : t.val = n.val) (b : Fin 4) (i : Fin 128) (j : Fin 512) :
    (((cfg0.win 2).blk t).view.read (Elt Ideal) X : Vec Ideal S4x128x512 .bf16) (ix3 b i j) = X (ix3 b ⟨n.val * 128 + i.val, by omega⟩ j) := by
  blk_simp []
  blk_ext [idx_2 t]

theorem idx_3 : ∀ t : Fin cfg0.N, win0_3.index t = ![0, t.val, 0] :=
  (by decide +kernel : ∀ t : Fin grid0.N, _)

theorem blk_3 (X : Vec Ideal S4x4096x512 .bf16) (n : Fin 32) (t : Fin cfg0.N) (ht : t.val = n.val) (b : Fin 4) (i : Fin 128) (j : Fin 512) :
    (((cfg0.win 3).blk t).view.read (Elt Ideal) X : Vec Ideal S4x128x512 .bf16) (ix3 b i j) = X (ix3 b ⟨n.val * 128 + i.val, by omega⟩ j) := by
  blk_simp []
  blk_ext [idx_3 t]

theorem idx_4 : ∀ t : Fin cfg0.N, win0_4.index t = ![0, t.val, 0] :=
  (by decide +kernel : ∀ t : Fin grid0.N, _)

theorem blk_4 (X : Vec Ideal S4x16384x128 .bf16) (n : Fin 32) (t : Fin cfg0.N) (ht : t.val = n.val) (b : Fin 4) (i : Fin 512) (j : Fin 128) :
    (((cfg0.win 4).blk t).view.read (Elt Ideal) X : Vec Ideal S4x512x128 .bf16) (ix3 b i j) = X (ix3 b ⟨n.val * 512 + i.val, by omega⟩ j) := by
  blk_simp []
  blk_ext [idx_4 t]

theorem idx_5 : ∀ t : Fin cfg0.N, win0_5.index t = ![0, t.val, 0] :=
  (by decide +kernel : ∀ t : Fin grid0.N, _)

theorem blk_5 (X : Vec Ideal S4x256x128 .f32) (n : Fin 32) (t : Fin cfg0.N) (ht : t.val = n.val) (b : Fin 4) (i : Fin 8) (j : Fin 128) :
    (((cfg0.win 5).blk t).view.read (Elt Ideal) X : Vec Ideal S4x8x128 .f32) (ix3 b i j) = X (ix3 b ⟨n.val * 8 + i.val, by omega⟩ j) := by
  blk_simp []
  blk_ext [idx_5 t]

theorem idx_6 : ∀ t : Fin cfg0.N, win0_6.index t = ![0, t.val, 0] :=
  (by decide +kernel : ∀ t : Fin grid0.N, _)

theorem blk_6 (X : Vec Ideal S4x4096x512 .f32) (n : Fin 32) (t : Fin cfg0.N) (ht : t.val = n.val) (b : Fin 4) (i : Fin 128) (j : Fin 512) :
    (((cfg0.win 6).blk t).view.read (Elt Ideal) X : Vec Ideal S4x128x512 .f32) (ix3 b i j) = X (ix3 b ⟨n.val * 128 + i.val, by omega⟩ j) := by
  blk_simp []
  blk_ext [idx_6 t]

theorem idx_7 : ∀ t : Fin cfg0.N, win0_7.index t = ![0, 0, 0, 0] :=
  (by decide +kernel : ∀ t : Fin grid0.N, _)

theorem blk_7 (X : Vec Ideal S4x4x128x128 .f32) (t : Fin cfg0.N) (b h : Fin 4) (i j : Fin 128) :
    (((cfg0.win 7).blk t).view.read (Elt Ideal) X : Vec Ideal S4x4x128x128 .f32) (ix4 b h i j) = X (ix4 b h i j) := by
  blk_simp []
  blk_ext [idx_7 t]

theorem idx_8 : ∀ t : Fin cfg0.N, win0_8.index t = ![0, 0] :=
  (by decide +kernel : ∀ t : Fin grid0.N, _)

theorem blk_8 (X : Vec Ideal S1x128 .f32) (t : Fin cfg0.N) (j : Fin 128) :
    (((cfg0.win 8).blk t).view.read (Elt Ideal) X : Vec Ideal S1x128 .f32) (ix2 0 j) = X (ix2 0 j) := by
  blk_simp []
  blk_ext [idx_8 t]

variable (n : Fin 32) (t : Fin cfg0.N) (ht : t.val = n.val)
include ht

theorem iblk_u (b : Fin 4) (r : Fin 128) (h : Fin 4) (v : Fin 128) :
    (iblk m c 0 t : Vec Ideal S4x128x512 .f32) (ix3 b r (col h v)) = (problem m c).u (ix4 b (tok n r) h v) :=
  (blk_0 (V m c main_v13) n t ht b r (col h v)).trans (V_u m c b (tok n r) h v)

theorem iblk_w (b : Fin 4) (r : Fin 128) (h : Fin 4) (v : Fin 128) :
    (iblk m c 1 t : Vec Ideal S4x128x512 .bf16) (ix3 b r (col h v)) = (problem m c).w (ix4 b (tok n r) h v) :=
  (blk_1 (V m c main_v14) n t ht b r (col h v)).trans (V_w m c b (tok n r) h v)

theorem iblk_qd (b : Fin 4) (r : Fin 128) (h : Fin 4) (v : Fin 128) :
    (iblk m c 2 t : Vec Ideal S4x128x512 .bf16) (ix3 b r (col h v)) = (problem m c).qd (ix4 b (tok n r) h v) :=
  (blk_2 (V m c main_v15) n t ht b r (col h v)).trans (V_qd m c b (tok n r) h v)

theorem iblk_qk (b : Fin 4) (r : Fin 128) (h : Fin 4) (v : Fin 128) :
    (iblk m c 3 t : Vec Ideal S4x128x512 .bf16) (ix3 b r (col h v)) = (problem m c).qk (ix4 b (tok n r) h v) :=
  (blk_3 (V m c main_v16) n t ht b r (col h v)).trans (V_qk m c b (tok n r) h v)

theorem iblk_kd (b : Fin 4) (r : Fin 128) (h : Fin 4) (k : Fin 128) :
    (iblk m c 4 t : Vec Ideal S4x512x128 .bf16) (ix3 b (col h k) r) = (problem m c).kd (ix4 b (tok n r) h k) :=
  (blk_4 (V m c main_v17) n t ht b (col h k) r).trans (V_kd m c b n h k r)

theorem iblk_g (b : Fin 4) (h : Fin 4) (v : Fin 128) :
    (iblk m c 5 t : Vec Ideal S4x8x128 .f32) (ix3 b ⟨h.val, by omega⟩ v) = (problem m c).g (ix3 b n h) :=
  (blk_5 (V m c main_v18) n t ht b ⟨h.val, by omega⟩ v).trans (V_g m c b n h v)

theorem iblk_z (b : Fin 4) (r : Fin 128) (d : Fin 512) :
    (iblk m c 6 t : Vec Ideal S4x128x512 .f32) (ix3 b r d) = (problem m c).z (ix3 b (tok n r) d) :=
  (blk_6 (V m c main_v19) n t ht b r d).trans (congrFun (V_z m c) _)

omit ht in
theorem iblk_s0 (b h : Fin 4) (i j : Fin 128) :
    (iblk m c 7 t : Vec Ideal S4x4x128x128 .f32) (ix4 b h i j) = (problem m c).s0 (ix4 b h i j) :=
  (blk_7 (V m c main_arg7) t b h i j).trans (congrFun (V_main_arg7 m c) _)

omit ht in
theorem iblk_nw (j : Fin 128) : (iblk m c 8 t : Vec Ideal S1x128 .f32) (ix2 0 j) = (problem m c).nw (ix1 j) :=
  (blk_8 (V m c main_v12) t j).trans (V_nw m c j)

end Cert.Scan

end

end
-- ==== Proof.ScanPointS.lean ====
/-
  What the state's buffer holds after one grid point.
-/
module

public import proofs.«01_k».proof.Proof.ScanBlock
public import Idealize.ShloMosaic.Lib.Pipeline.ReadBack

@[expose] public section

set_option maxRecDepth 16384

noncomputable section

namespace Cert.Scan

open Cert.KernelIdeal Cert.KernelIdeal.Gen Idealize.ShloMosaic Idealize.ShloMosaic.TcCoe Idealize.SL.Sem

set_option maxHeartbeats 4000000 in
/-- At a sweep's first point, the state's buffer ends at the state after the chunk, from the initial state. -/
theorem out_A_10 (c : Dev nD) (t : Fin cfg0.N) (h0 : t.val % 32 = 0) (x0 : Vec Ideal S4x128x512 .f32) (x1 : Vec Ideal S4x128x512 .bf16) (x2 : Vec Ideal S4x128x512 .bf16) (x3 : Vec Ideal S4x128x512 .bf16) (x4 : Vec Ideal S4x512x128 .bf16) (x5 : Vec Ideal S4x8x128 .f32) (x6 : Vec Ideal S4x128x512 .f32) (x7 : Vec Ideal S4x4x128x128 .f32) (x8 : Vec Ideal S1x128 .f32)  :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) x0 x1 x2 x3 x4 x5 x6 x7 x8 = fun i => blkS x0 x1 x4 x5 x7 (i 0) (i 1) (i 2) (i 3) := by
  unfold out0_A_10
  rw [View.read_writes_eq_canon _ _ _ (cover0_A_10 c _ _ _ _ _ _ _ _ _ _ _ _ _ _ _ _ _ _ _ _ _ _ _ _ _ _ _ _ _ _ _ _ _ )]
  funext y
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, ↓View.readCov_skip, ↓View.readCov_fill, View.ld_unit_lit]
  refine View.canon_append_of_piecesOf (Val := Elt Ideal) (e := .f32) (s := S4x4x128x128) (fun i => blkS x0 x1 x4 x5 x7 (i 0) (i 1) (i 2) (i 3)) [_] [_, _, _, _, _, _, _, _, _, _, _, _, _, _, _, _] ⟨square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, trivial⟩ y (View.cover_of_tiledL (s := S4x4x128x128) _ S1x1x128x128.size (by sl_kernel_rfl) y)
  · dsimp only
    rw [emb_square 3 3 (by decide) (by decide)]
    unfold_payloads
    pointwise [blkS, blkV, mul_zero, Finset.sum_const_zero]
    simp only [col_0, col_1, col_2, col_3, second_pair]
  · dsimp only
    rw [emb_square 3 2 (by decide) (by decide)]
    unfold_payloads
    pointwise [blkS, blkV, mul_zero, Finset.sum_const_zero]
    simp only [col_0, col_1, col_2, col_3, second_pair]
  · dsimp only
    rw [emb_square 3 1 (by decide) (by decide)]
    unfold_payloads
    pointwise [blkS, blkV, mul_zero, Finset.sum_const_zero]
    simp only [col_0, col_1, col_2, col_3, second_pair]
  · dsimp only
    rw [emb_square 3 0 (by decide) (by decide)]
    unfold_payloads
    pointwise [blkS, blkV, mul_zero, Finset.sum_const_zero]
    simp only [col_0, col_1, col_2, col_3, second_pair]
  · dsimp only
    rw [emb_square 2 3 (by decide) (by decide)]
    unfold_payloads
    pointwise [blkS, blkV, mul_zero, Finset.sum_const_zero]
    simp only [col_0, col_1, col_2, col_3, second_pair]
  · dsimp only
    rw [emb_square 2 2 (by decide) (by decide)]
    unfold_payloads
    pointwise [blkS, blkV, mul_zero, Finset.sum_const_zero]
    simp only [col_0, col_1, col_2, col_3, second_pair]
  · dsimp only
    rw [emb_square 2 1 (by decide) (by decide)]
    unfold_payloads
    pointwise [blkS, blkV, mul_zero, Finset.sum_const_zero]
    simp only [col_0, col_1, col_2, col_3, second_pair]
  · dsimp only
    rw [emb_square 2 0 (by decide) (by decide)]
    unfold_payloads
    pointwise [blkS, blkV, mul_zero, Finset.sum_const_zero]
    simp only [col_0, col_1, col_2, col_3, second_pair]
  · dsimp only
    rw [emb_square 1 3 (by decide) (by decide)]
    unfold_payloads
    pointwise [blkS, blkV, mul_zero, Finset.sum_const_zero]
    simp only [col_0, col_1, col_2, col_3, second_pair]
  · dsimp only
    rw [emb_square 1 2 (by decide) (by decide)]
    unfold_payloads
    pointwise [blkS, blkV, mul_zero, Finset.sum_const_zero]
    simp only [col_0, col_1, col_2, col_3, second_pair]
  · dsimp only
    rw [emb_square 1 1 (by decide) (by decide)]
    unfold_payloads
    pointwise [blkS, blkV, mul_zero, Finset.sum_const_zero]
    simp only [col_0, col_1, col_2, col_3, second_pair]
  · dsimp only
    rw [emb_square 1 0 (by decide) (by decide)]
    unfold_payloads
    pointwise [blkS, blkV, mul_zero, Finset.sum_const_zero]
    simp only [col_0, col_1, col_2, col_3, second_pair]
  · dsimp only
    rw [emb_square 0 3 (by decide) (by decide)]
    unfold_payloads
    pointwise [blkS, blkV, mul_zero, Finset.sum_const_zero]
    simp only [col_0, col_1, col_2, col_3, second_pair]
  · dsimp only
    rw [emb_square 0 2 (by decide) (by decide)]
    unfold_payloads
    pointwise [blkS, blkV, mul_zero, Finset.sum_const_zero]
    simp only [col_0, col_1, col_2, col_3, second_pair]
  · dsimp only
    rw [emb_square 0 1 (by decide) (by decide)]
    unfold_payloads
    pointwise [blkS, blkV, mul_zero, Finset.sum_const_zero]
    simp only [col_0, col_1, col_2, col_3, second_pair]
  · dsimp only
    rw [emb_square 0 0 (by decide) (by decide)]
    unfold_payloads
    pointwise [blkS, blkV, mul_zero, Finset.sum_const_zero]
    simp only [col_0, col_1, col_2, col_3, second_pair]

set_option maxHeartbeats 4000000 in
/-- At a point past a sweep's first, the state's buffer ends at the state after the chunk, from what the point before left. -/
theorem out_B_10 (c : Dev nD) (t : Fin cfg0.N) (h0 : ¬t.val % 32 = 0) (x0 : Vec Ideal S4x128x512 .f32) (x1 : Vec Ideal S4x128x512 .bf16) (x2 : Vec Ideal S4x128x512 .bf16) (x3 : Vec Ideal S4x128x512 .bf16) (x4 : Vec Ideal S4x512x128 .bf16) (x5 : Vec Ideal S4x8x128 .f32) (x6 : Vec Ideal S4x128x512 .f32) (x7 : Vec Ideal S4x4x128x128 .f32) (x8 : Vec Ideal S1x128 .f32) (s : Vec Ideal S4x4x128x128 .f32) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) x0 x1 x2 x3 x4 x5 x6 x7 x8 s = fun i => blkS x0 x1 x4 x5 s (i 0) (i 1) (i 2) (i 3) := by
  unfold out0_B_10
  rw [View.read_writes_eq_canon _ _ _ (cover0_B_10 c _ _ _ _ _ _ _ _ _ _ _ _ _ _ _ _ _ _ _ _ _ _ _ _ _ _ _ _ _ _ _ _ _ _ )]
  funext y
  refine canon_of_piecesOf (e := .f32) (S := S4x4x128x128) (fun i => blkS x0 x1 x4 x5 s (i 0) (i 1) (i 2) (i 3)) _ y (cover0_B_10 c _ _ _ _ _ _ _ _ _ _ _ _ _ _ _ _ _ _ _ _ _ _ _ _ _ _ _ _ _ _ _ _ _ _  y) ?_
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread]
  refine ⟨square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, square_all fun k v => ?_, trivial⟩
  · dsimp only
    rw [emb_square 3 3 (by decide) (by decide)]
    unfold_payloads
    pointwise [blkS, blkV, mul_zero, Finset.sum_const_zero]
    simp only [col_0, col_1, col_2, col_3, second_pair]
  · dsimp only
    rw [emb_square 3 2 (by decide) (by decide)]
    unfold_payloads
    pointwise [blkS, blkV, mul_zero, Finset.sum_const_zero]
    simp only [col_0, col_1, col_2, col_3, second_pair]
  · dsimp only
    rw [emb_square 3 1 (by decide) (by decide)]
    unfold_payloads
    pointwise [blkS, blkV, mul_zero, Finset.sum_const_zero]
    simp only [col_0, col_1, col_2, col_3, second_pair]
  · dsimp only
    rw [emb_square 3 0 (by decide) (by decide)]
    unfold_payloads
    pointwise [blkS, blkV, mul_zero, Finset.sum_const_zero]
    simp only [col_0, col_1, col_2, col_3, second_pair]
  · dsimp only
    rw [emb_square 2 3 (by decide) (by decide)]
    unfold_payloads
    pointwise [blkS, blkV, mul_zero, Finset.sum_const_zero]
    simp only [col_0, col_1, col_2, col_3, second_pair]
  · dsimp only
    rw [emb_square 2 2 (by decide) (by decide)]
    unfold_payloads
    pointwise [blkS, blkV, mul_zero, Finset.sum_const_zero]
    simp only [col_0, col_1, col_2, col_3, second_pair]
  · dsimp only
    rw [emb_square 2 1 (by decide) (by decide)]
    unfold_payloads
    pointwise [blkS, blkV, mul_zero, Finset.sum_const_zero]
    simp only [col_0, col_1, col_2, col_3, second_pair]
  · dsimp only
    rw [emb_square 2 0 (by decide) (by decide)]
    unfold_payloads
    pointwise [blkS, blkV, mul_zero, Finset.sum_const_zero]
    simp only [col_0, col_1, col_2, col_3, second_pair]
  · dsimp only
    rw [emb_square 1 3 (by decide) (by decide)]
    unfold_payloads
    pointwise [blkS, blkV, mul_zero, Finset.sum_const_zero]
    simp only [col_0, col_1, col_2, col_3, second_pair]
  · dsimp only
    rw [emb_square 1 2 (by decide) (by decide)]
    unfold_payloads
    pointwise [blkS, blkV, mul_zero, Finset.sum_const_zero]
    simp only [col_0, col_1, col_2, col_3, second_pair]
  · dsimp only
    rw [emb_square 1 1 (by decide) (by decide)]
    unfold_payloads
    pointwise [blkS, blkV, mul_zero, Finset.sum_const_zero]
    simp only [col_0, col_1, col_2, col_3, second_pair]
  · dsimp only
    rw [emb_square 1 0 (by decide) (by decide)]
    unfold_payloads
    pointwise [blkS, blkV, mul_zero, Finset.sum_const_zero]
    simp only [col_0, col_1, col_2, col_3, second_pair]
  · dsimp only
    rw [emb_square 0 3 (by decide) (by decide)]
    unfold_payloads
    pointwise [blkS, blkV, mul_zero, Finset.sum_const_zero]
    simp only [col_0, col_1, col_2, col_3, second_pair]
  · dsimp only
    rw [emb_square 0 2 (by decide) (by decide)]
    unfold_payloads
    pointwise [blkS, blkV, mul_zero, Finset.sum_const_zero]
    simp only [col_0, col_1, col_2, col_3, second_pair]
  · dsimp only
    rw [emb_square 0 1 (by decide) (by decide)]
    unfold_payloads
    pointwise [blkS, blkV, mul_zero, Finset.sum_const_zero]
    simp only [col_0, col_1, col_2, col_3, second_pair]
  · dsimp only
    rw [emb_square 0 0 (by decide) (by decide)]
    unfold_payloads
    pointwise [blkS, blkV, mul_zero, Finset.sum_const_zero]
    simp only [col_0, col_1, col_2, col_3, second_pair]

end Cert.Scan

end

end
-- ==== Proof.ScanPointO.lean ====
/-
  What the output buffer holds after one grid point.
-/
module

public import proofs.«01_k».proof.Proof.ScanBlock
public import Idealize.ShloMosaic.Lib.Pipeline.ReadBack

@[expose] public section

set_option maxRecDepth 16384

noncomputable section

namespace Cert.Scan

open Cert.KernelIdeal Cert.KernelIdeal.Gen Idealize.ShloMosaic Idealize.ShloMosaic.TcCoe Idealize.SL.Sem

set_option maxHeartbeats 4000000 in
/-- At a sweep's first point, the output's buffer ends at the chunk's normalized, gated outputs, from the initial state. -/
theorem out_A_9 (c : Dev nD) (t : Fin cfg0.N) (h0 : t.val % 32 = 0) (x0 : Vec Ideal S4x128x512 .f32) (x1 : Vec Ideal S4x128x512 .bf16) (x2 : Vec Ideal S4x128x512 .bf16) (x3 : Vec Ideal S4x128x512 .bf16) (x4 : Vec Ideal S4x512x128 .bf16) (x5 : Vec Ideal S4x8x128 .f32) (x6 : Vec Ideal S4x128x512 .f32) (x7 : Vec Ideal S4x4x128x128 .f32) (x8 : Vec Ideal S1x128 .f32)  :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) x0 x1 x2 x3 x4 x5 x6 x7 x8 = fun i => blkY x0 x1 x2 x3 x6 x8 x7 (i 0) (i 1) (i 2) := by
  unfold out0_A_9
  rw [View.read_writes_eq_canon _ _ _ (cover0_A_9 c _ _ _ _ _ _ _ _ _ _ _ _ _ _ _ _ _ _ _ _ _ _ _ _ _ _ _ _ _ _ _ _ _ )]
  funext y
  refine canon_of_piecesOf (e := .bf16) (S := S4x128x512) (fun i => blkY x0 x1 x2 x3 x6 x8 x7 (i 0) (i 1) (i 2)) _ y (cover0_A_9 c _ _ _ _ _ _ _ _ _ _ _ _ _ _ _ _ _ _ _ _ _ _ _ _ _ _ _ _ _ _ _ _ _  y) ?_
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, ↓View.readCov_skip, ↓View.readCov_fill, View.ld_unit_lit]
  refine ⟨tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, trivial⟩
  · dsimp only
    rw [emb_tokens 3 3 384 (by decide) (by decide) rfl]
    refine Eq.trans ?_ (blkY_col x0 x1 x2 x3 x6 x8 x7 3 k 3 v).symm
    unfold_payloads
    pointwise [gated, blkO, blkV, mul_zero, Finset.sum_const_zero]
    simp only [col_0, col_1, col_2, col_3, second_pair]
  · dsimp only
    rw [emb_tokens 3 2 256 (by decide) (by decide) rfl]
    refine Eq.trans ?_ (blkY_col x0 x1 x2 x3 x6 x8 x7 3 k 2 v).symm
    unfold_payloads
    pointwise [gated, blkO, blkV, mul_zero, Finset.sum_const_zero]
    simp only [col_0, col_1, col_2, col_3, second_pair]
  · dsimp only
    rw [emb_tokens 3 1 128 (by decide) (by decide) rfl]
    refine Eq.trans ?_ (blkY_col x0 x1 x2 x3 x6 x8 x7 3 k 1 v).symm
    unfold_payloads
    pointwise [gated, blkO, blkV, mul_zero, Finset.sum_const_zero]
    simp only [col_0, col_1, col_2, col_3, second_pair]
  · dsimp only
    rw [emb_tokens 3 0 0 (by decide) (by decide) rfl]
    refine Eq.trans ?_ (blkY_col x0 x1 x2 x3 x6 x8 x7 3 k 0 v).symm
    unfold_payloads
    pointwise [gated, blkO, blkV, mul_zero, Finset.sum_const_zero]
    simp only [col_0, col_1, col_2, col_3, second_pair]
  · dsimp only
    rw [emb_tokens 2 3 384 (by decide) (by decide) rfl]
    refine Eq.trans ?_ (blkY_col x0 x1 x2 x3 x6 x8 x7 2 k 3 v).symm
    unfold_payloads
    pointwise [gated, blkO, blkV, mul_zero, Finset.sum_const_zero]
    simp only [col_0, col_1, col_2, col_3, second_pair]
  · dsimp only
    rw [emb_tokens 2 2 256 (by decide) (by decide) rfl]
    refine Eq.trans ?_ (blkY_col x0 x1 x2 x3 x6 x8 x7 2 k 2 v).symm
    unfold_payloads
    pointwise [gated, blkO, blkV, mul_zero, Finset.sum_const_zero]
    simp only [col_0, col_1, col_2, col_3, second_pair]
  · dsimp only
    rw [emb_tokens 2 1 128 (by decide) (by decide) rfl]
    refine Eq.trans ?_ (blkY_col x0 x1 x2 x3 x6 x8 x7 2 k 1 v).symm
    unfold_payloads
    pointwise [gated, blkO, blkV, mul_zero, Finset.sum_const_zero]
    simp only [col_0, col_1, col_2, col_3, second_pair]
  · dsimp only
    rw [emb_tokens 2 0 0 (by decide) (by decide) rfl]
    refine Eq.trans ?_ (blkY_col x0 x1 x2 x3 x6 x8 x7 2 k 0 v).symm
    unfold_payloads
    pointwise [gated, blkO, blkV, mul_zero, Finset.sum_const_zero]
    simp only [col_0, col_1, col_2, col_3, second_pair]
  · dsimp only
    rw [emb_tokens 1 3 384 (by decide) (by decide) rfl]
    refine Eq.trans ?_ (blkY_col x0 x1 x2 x3 x6 x8 x7 1 k 3 v).symm
    unfold_payloads
    pointwise [gated, blkO, blkV, mul_zero, Finset.sum_const_zero]
    simp only [col_0, col_1, col_2, col_3, second_pair]
  · dsimp only
    rw [emb_tokens 1 2 256 (by decide) (by decide) rfl]
    refine Eq.trans ?_ (blkY_col x0 x1 x2 x3 x6 x8 x7 1 k 2 v).symm
    unfold_payloads
    pointwise [gated, blkO, blkV, mul_zero, Finset.sum_const_zero]
    simp only [col_0, col_1, col_2, col_3, second_pair]
  · dsimp only
    rw [emb_tokens 1 1 128 (by decide) (by decide) rfl]
    refine Eq.trans ?_ (blkY_col x0 x1 x2 x3 x6 x8 x7 1 k 1 v).symm
    unfold_payloads
    pointwise [gated, blkO, blkV, mul_zero, Finset.sum_const_zero]
    simp only [col_0, col_1, col_2, col_3, second_pair]
  · dsimp only
    rw [emb_tokens 1 0 0 (by decide) (by decide) rfl]
    refine Eq.trans ?_ (blkY_col x0 x1 x2 x3 x6 x8 x7 1 k 0 v).symm
    unfold_payloads
    pointwise [gated, blkO, blkV, mul_zero, Finset.sum_const_zero]
    simp only [col_0, col_1, col_2, col_3, second_pair]
  · dsimp only
    rw [emb_tokens 0 3 384 (by decide) (by decide) rfl]
    refine Eq.trans ?_ (blkY_col x0 x1 x2 x3 x6 x8 x7 0 k 3 v).symm
    unfold_payloads
    pointwise [gated, blkO, blkV, mul_zero, Finset.sum_const_zero]
    simp only [col_0, col_1, col_2, col_3, second_pair]
  · dsimp only
    rw [emb_tokens 0 2 256 (by decide) (by decide) rfl]
    refine Eq.trans ?_ (blkY_col x0 x1 x2 x3 x6 x8 x7 0 k 2 v).symm
    unfold_payloads
    pointwise [gated, blkO, blkV, mul_zero, Finset.sum_const_zero]
    simp only [col_0, col_1, col_2, col_3, second_pair]
  · dsimp only
    rw [emb_tokens 0 1 128 (by decide) (by decide) rfl]
    refine Eq.trans ?_ (blkY_col x0 x1 x2 x3 x6 x8 x7 0 k 1 v).symm
    unfold_payloads
    pointwise [gated, blkO, blkV, mul_zero, Finset.sum_const_zero]
    simp only [col_0, col_1, col_2, col_3, second_pair]
  · dsimp only
    rw [emb_tokens 0 0 0 (by decide) (by decide) rfl]
    refine Eq.trans ?_ (blkY_col x0 x1 x2 x3 x6 x8 x7 0 k 0 v).symm
    unfold_payloads
    pointwise [gated, blkO, blkV, mul_zero, Finset.sum_const_zero]
    simp only [col_0, col_1, col_2, col_3, second_pair]

set_option maxHeartbeats 4000000 in
/-- At a point past a sweep's first, the output's buffer ends at the chunk's normalized, gated outputs. -/
theorem out_B_9 (c : Dev nD) (t : Fin cfg0.N) (h0 : ¬t.val % 32 = 0) (x0 : Vec Ideal S4x128x512 .f32) (x1 : Vec Ideal S4x128x512 .bf16) (x2 : Vec Ideal S4x128x512 .bf16) (x3 : Vec Ideal S4x128x512 .bf16) (x4 : Vec Ideal S4x512x128 .bf16) (x5 : Vec Ideal S4x8x128 .f32) (x6 : Vec Ideal S4x128x512 .f32) (x7 : Vec Ideal S4x4x128x128 .f32) (x8 : Vec Ideal S1x128 .f32) (s : Vec Ideal S4x4x128x128 .f32) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) x0 x1 x2 x3 x4 x5 x6 x7 x8 s = fun i => blkY x0 x1 x2 x3 x6 x8 s (i 0) (i 1) (i 2) := by
  unfold out0_B_9
  rw [View.read_writes_eq_canon _ _ _ (cover0_B_9 c _ _ _ _ _ _ _ _ _ _ _ _ _ _ _ _ _ _ _ _ _ _ _ _ _ _ _ _ _ _ _ _ _ _ )]
  funext y
  refine canon_of_piecesOf (e := .bf16) (S := S4x128x512) (fun i => blkY x0 x1 x2 x3 x6 x8 s (i 0) (i 1) (i 2)) _ y (cover0_B_9 c _ _ _ _ _ _ _ _ _ _ _ _ _ _ _ _ _ _ _ _ _ _ _ _ _ _ _ _ _ _ _ _ _ _  y) ?_
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread]
  refine ⟨tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, tokens_all fun k v => ?_, trivial⟩
  · dsimp only
    rw [emb_tokens 3 3 384 (by decide) (by decide) rfl]
    refine Eq.trans ?_ (blkY_col x0 x1 x2 x3 x6 x8 s 3 k 3 v).symm
    unfold_payloads
    pointwise [gated, blkO, blkV, mul_zero, Finset.sum_const_zero]
    simp only [col_0, col_1, col_2, col_3, second_pair]
  · dsimp only
    rw [emb_tokens 3 2 256 (by decide) (by decide) rfl]
    refine Eq.trans ?_ (blkY_col x0 x1 x2 x3 x6 x8 s 3 k 2 v).symm
    unfold_payloads
    pointwise [gated, blkO, blkV, mul_zero, Finset.sum_const_zero]
    simp only [col_0, col_1, col_2, col_3, second_pair]
  · dsimp only
    rw [emb_tokens 3 1 128 (by decide) (by decide) rfl]
    refine Eq.trans ?_ (blkY_col x0 x1 x2 x3 x6 x8 s 3 k 1 v).symm
    unfold_payloads
    pointwise [gated, blkO, blkV, mul_zero, Finset.sum_const_zero]
    simp only [col_0, col_1, col_2, col_3, second_pair]
  · dsimp only
    rw [emb_tokens 3 0 0 (by decide) (by decide) rfl]
    refine Eq.trans ?_ (blkY_col x0 x1 x2 x3 x6 x8 s 3 k 0 v).symm
    unfold_payloads
    pointwise [gated, blkO, blkV, mul_zero, Finset.sum_const_zero]
    simp only [col_0, col_1, col_2, col_3, second_pair]
  · dsimp only
    rw [emb_tokens 2 3 384 (by decide) (by decide) rfl]
    refine Eq.trans ?_ (blkY_col x0 x1 x2 x3 x6 x8 s 2 k 3 v).symm
    unfold_payloads
    pointwise [gated, blkO, blkV, mul_zero, Finset.sum_const_zero]
    simp only [col_0, col_1, col_2, col_3, second_pair]
  · dsimp only
    rw [emb_tokens 2 2 256 (by decide) (by decide) rfl]
    refine Eq.trans ?_ (blkY_col x0 x1 x2 x3 x6 x8 s 2 k 2 v).symm
    unfold_payloads
    pointwise [gated, blkO, blkV, mul_zero, Finset.sum_const_zero]
    simp only [col_0, col_1, col_2, col_3, second_pair]
  · dsimp only
    rw [emb_tokens 2 1 128 (by decide) (by decide) rfl]
    refine Eq.trans ?_ (blkY_col x0 x1 x2 x3 x6 x8 s 2 k 1 v).symm
    unfold_payloads
    pointwise [gated, blkO, blkV, mul_zero, Finset.sum_const_zero]
    simp only [col_0, col_1, col_2, col_3, second_pair]
  · dsimp only
    rw [emb_tokens 2 0 0 (by decide) (by decide) rfl]
    refine Eq.trans ?_ (blkY_col x0 x1 x2 x3 x6 x8 s 2 k 0 v).symm
    unfold_payloads
    pointwise [gated, blkO, blkV, mul_zero, Finset.sum_const_zero]
    simp only [col_0, col_1, col_2, col_3, second_pair]
  · dsimp only
    rw [emb_tokens 1 3 384 (by decide) (by decide) rfl]
    refine Eq.trans ?_ (blkY_col x0 x1 x2 x3 x6 x8 s 1 k 3 v).symm
    unfold_payloads
    pointwise [gated, blkO, blkV, mul_zero, Finset.sum_const_zero]
    simp only [col_0, col_1, col_2, col_3, second_pair]
  · dsimp only
    rw [emb_tokens 1 2 256 (by decide) (by decide) rfl]
    refine Eq.trans ?_ (blkY_col x0 x1 x2 x3 x6 x8 s 1 k 2 v).symm
    unfold_payloads
    pointwise [gated, blkO, blkV, mul_zero, Finset.sum_const_zero]
    simp only [col_0, col_1, col_2, col_3, second_pair]
  · dsimp only
    rw [emb_tokens 1 1 128 (by decide) (by decide) rfl]
    refine Eq.trans ?_ (blkY_col x0 x1 x2 x3 x6 x8 s 1 k 1 v).symm
    unfold_payloads
    pointwise [gated, blkO, blkV, mul_zero, Finset.sum_const_zero]
    simp only [col_0, col_1, col_2, col_3, second_pair]
  · dsimp only
    rw [emb_tokens 1 0 0 (by decide) (by decide) rfl]
    refine Eq.trans ?_ (blkY_col x0 x1 x2 x3 x6 x8 s 1 k 0 v).symm
    unfold_payloads
    pointwise [gated, blkO, blkV, mul_zero, Finset.sum_const_zero]
    simp only [col_0, col_1, col_2, col_3, second_pair]
  · dsimp only
    rw [emb_tokens 0 3 384 (by decide) (by decide) rfl]
    refine Eq.trans ?_ (blkY_col x0 x1 x2 x3 x6 x8 s 0 k 3 v).symm
    unfold_payloads
    pointwise [gated, blkO, blkV, mul_zero, Finset.sum_const_zero]
    simp only [col_0, col_1, col_2, col_3, second_pair]
  · dsimp only
    rw [emb_tokens 0 2 256 (by decide) (by decide) rfl]
    refine Eq.trans ?_ (blkY_col x0 x1 x2 x3 x6 x8 s 0 k 2 v).symm
    unfold_payloads
    pointwise [gated, blkO, blkV, mul_zero, Finset.sum_const_zero]
    simp only [col_0, col_1, col_2, col_3, second_pair]
  · dsimp only
    rw [emb_tokens 0 1 128 (by decide) (by decide) rfl]
    refine Eq.trans ?_ (blkY_col x0 x1 x2 x3 x6 x8 s 0 k 1 v).symm
    unfold_payloads
    pointwise [gated, blkO, blkV, mul_zero, Finset.sum_const_zero]
    simp only [col_0, col_1, col_2, col_3, second_pair]
  · dsimp only
    rw [emb_tokens 0 0 0 (by decide) (by decide) rfl]
    refine Eq.trans ?_ (blkY_col x0 x1 x2 x3 x6 x8 s 0 k 0 v).symm
    unfold_payloads
    pointwise [gated, blkO, blkV, mul_zero, Finset.sum_const_zero]
    simp only [col_0, col_1, col_2, col_3, second_pair]

end Cert.Scan

end

end
-- ==== Proof.ScanArrays.lean ====
/-
  What the call's two output arrays hold at the end of the grid: by induction over the points, the state's buffer holds
  the state after each chunk, and each chunk's block of outputs holds its tokens' outputs.
-/
module

public import proofs.«01_k».proof.Proof.ScanHost
public import proofs.«01_k».proof.Proof.ScanPointS
public import proofs.«01_k».proof.Proof.ScanPointO

@[expose] public section

set_option maxRecDepth 16384

noncomputable section

namespace Cert.Scan

open Cert.KernelIdeal Cert.KernelIdeal.Gen Idealize.ShloMosaic Idealize.ShloMosaic.TcCoe Idealize.SL.Sem

/-- A column is its head's column at its place. -/
theorem col_headOf (d : Fin 512) : col (headOf d) (laneOf d) = d := by
  apply Fin.ext
  simp only [col, headOf, laneOf]
  omega

/-- Blocks that hold a chunk's tokens give the chunk's corrected values. -/
theorem blkV_eq (p : Problem) (n : Fin 32) (u w : S4x128x512.Idx → EReal) (s : S4x4x128x128.Idx → EReal)
    (hu : ∀ b r h v, u (ix3 b r (col h v)) = p.u (ix4 b (tok n r) h v))
    (hw : ∀ b r h v, w (ix3 b r (col h v)) = p.w (ix4 b (tok n r) h v)) (b h : Fin 4) (c v : Fin 128) :
    blkV u w s b h c v = vNew p n s b h c v := by
  simp only [blkV, vNew, hu, hw]

/-- … the state after it … -/
theorem blkS_eq (p : Problem) (n : Fin 32) (u w : S4x128x512.Idx → EReal) (kd : S4x512x128.Idx → EReal)
    (g : S4x8x128.Idx → EReal) (s : S4x4x128x128.Idx → EReal)
    (hu : ∀ b r h v, u (ix3 b r (col h v)) = p.u (ix4 b (tok n r) h v))
    (hw : ∀ b r h v, w (ix3 b r (col h v)) = p.w (ix4 b (tok n r) h v))
    (hk : ∀ b r h k, kd (ix3 b (col h k) r) = p.kd (ix4 b (tok n r) h k))
    (hg : ∀ b (h : Fin 4) v, g (ix3 b ⟨h.val, by omega⟩ v) = p.g (ix3 b n h)) :
    (fun i => blkS u w kd g s (i 0) (i 1) (i 2) (i 3)) = sNext p n s := by
  have h : ∀ b h k v, blkS u w kd g s b h k v = s (ix4 b h k v) * p.g (ix3 b n h)
      + ∑ c : Fin 128, p.kd (ix4 b (tok n c) h k) * vNew p n s b h c v := fun b h k v => by
    simp only [blkS, hk, hg, blkV_eq p n u w s hu hw]
  exact funext fun i => h (i 0) (i 1) (i 2) (i 3)

/-- … and its tokens' outputs. -/
theorem blkY_eq (p : Problem) (n : Fin 32) (u w qd qk z : S4x128x512.Idx → EReal) (nw : S1x128.Idx → EReal)
    (s : S4x4x128x128.Idx → EReal)
    (hu : ∀ b r h v, u (ix3 b r (col h v)) = p.u (ix4 b (tok n r) h v))
    (hw : ∀ b r h v, w (ix3 b r (col h v)) = p.w (ix4 b (tok n r) h v))
    (hq : ∀ b r h v, qd (ix3 b r (col h v)) = p.qd (ix4 b (tok n r) h v))
    (hk : ∀ b r h v, qk (ix3 b r (col h v)) = p.qk (ix4 b (tok n r) h v))
    (hz : ∀ b r d, z (ix3 b r d) = p.z (ix3 b (tok n r) d))
    (hn : ∀ v, nw (ix2 0 v) = p.nw (ix1 v)) (hs : s = state p n.val) :
    (fun i => blkY u w qd qk z nw s (i 0) (i 1) (i 2)) = fun i : S4x128x512.Idx => yOut p (i 0) (tok n (i 1)) (i 2) := by
  have h : ∀ b r d, blkY u w qd qk z nw s b r d = yOut p b (tok n r) d := fun b r d => by
    unfold yOut
    rw [chunkOf_tok, placeOf_tok, ← hs]
    simp only [blkY, hz, hn, blkO, oNew, hq, hk, blkV_eq p n u w s hu hw]
  exact funext fun i => h (i 0) (i 1) (i 2)

variable (m : (ℓ : Loc nD τ sig) → Buf (Elt Ideal) ℓ) (c : Dev nD)

/-- A point whose input blocks hold chunk `n` and whose state is the one before it leaves the chunk's outputs and the
    state after it. -/
theorem point_A (p : Problem) (n : Fin 32) (t : Fin cfg0.N) (h0 : t.val % 32 = 0) (x0 : Vec Ideal S4x128x512 .f32) (x1 : Vec Ideal S4x128x512 .bf16) (x2 : Vec Ideal S4x128x512 .bf16) (x3 : Vec Ideal S4x128x512 .bf16) (x4 : Vec Ideal S4x512x128 .bf16) (x5 : Vec Ideal S4x8x128 .f32) (x6 : Vec Ideal S4x128x512 .f32) (x7 : Vec Ideal S4x4x128x128 .f32) (x8 : Vec Ideal S1x128 .f32)
    (hu : ∀ b r h v, x0 (ix3 b r (col h v)) = p.u (ix4 b (tok n r) h v))
    (hw : ∀ b r h v, x1 (ix3 b r (col h v)) = p.w (ix4 b (tok n r) h v))
    (hqd : ∀ b r h v, x2 (ix3 b r (col h v)) = p.qd (ix4 b (tok n r) h v))
    (hqk : ∀ b r h v, x3 (ix3 b r (col h v)) = p.qk (ix4 b (tok n r) h v))
    (hk : ∀ b r h k, x4 (ix3 b (col h k) r) = p.kd (ix4 b (tok n r) h k))
    (hg : ∀ b (h : Fin 4) v, x5 (ix3 b ⟨h.val, by omega⟩ v) = p.g (ix3 b n h))
    (hz : ∀ b r d, x6 (ix3 b r d) = p.z (ix3 b (tok n r) d)) (hn : ∀ v, x8 (ix2 0 v) = p.nw (ix1 v))
    (hs : x7 = state p n.val) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) x0 x1 x2 x3 x4 x5 x6 x7 x8 = (fun i => yOut p (i 0) (tok n (i 1)) (i 2))
      ∧ out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) x0 x1 x2 x3 x4 x5 x6 x7 x8 = state p (n.val + 1) := by
  rw [out_A_9 c t h0 x0 x1 x2 x3 x4 x5 x6 x7 x8, out_A_10 c t h0 x0 x1 x2 x3 x4 x5 x6 x7 x8, state_succ, ← hs]
  exact ⟨blkY_eq p n x0 x1 x2 x3 x6 x8 x7 hu hw hqd hqk hz hn hs, blkS_eq p n x0 x1 x4 x5 x7 hu hw hk hg⟩

/-- A point whose input blocks hold chunk `n` and whose state is the one before it leaves the chunk's outputs and the
    state after it. -/
theorem point_B (p : Problem) (n : Fin 32) (t : Fin cfg0.N) (h0 : ¬t.val % 32 = 0) (x0 : Vec Ideal S4x128x512 .f32) (x1 : Vec Ideal S4x128x512 .bf16) (x2 : Vec Ideal S4x128x512 .bf16) (x3 : Vec Ideal S4x128x512 .bf16) (x4 : Vec Ideal S4x512x128 .bf16) (x5 : Vec Ideal S4x8x128 .f32) (x6 : Vec Ideal S4x128x512 .f32) (x7 : Vec Ideal S4x4x128x128 .f32) (x8 : Vec Ideal S1x128 .f32) (s : Vec Ideal S4x4x128x128 .f32)
    (hu : ∀ b r h v, x0 (ix3 b r (col h v)) = p.u (ix4 b (tok n r) h v))
    (hw : ∀ b r h v, x1 (ix3 b r (col h v)) = p.w (ix4 b (tok n r) h v))
    (hqd : ∀ b r h v, x2 (ix3 b r (col h v)) = p.qd (ix4 b (tok n r) h v))
    (hqk : ∀ b r h v, x3 (ix3 b r (col h v)) = p.qk (ix4 b (tok n r) h v))
    (hk : ∀ b r h k, x4 (ix3 b (col h k) r) = p.kd (ix4 b (tok n r) h k))
    (hg : ∀ b (h : Fin 4) v, x5 (ix3 b ⟨h.val, by omega⟩ v) = p.g (ix3 b n h))
    (hz : ∀ b r d, x6 (ix3 b r d) = p.z (ix3 b (tok n r) d)) (hn : ∀ v, x8 (ix2 0 v) = p.nw (ix1 v))
    (hs : s = state p n.val) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) x0 x1 x2 x3 x4 x5 x6 x7 x8 s = (fun i => yOut p (i 0) (tok n (i 1)) (i 2))
      ∧ out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) x0 x1 x2 x3 x4 x5 x6 x7 x8 s = state p (n.val + 1) := by
  rw [out_B_9 c t h0 x0 x1 x2 x3 x4 x5 x6 x7 x8 s, out_B_10 c t h0 x0 x1 x2 x3 x4 x5 x6 x7 x8 s, state_succ, ← hs]
  exact ⟨blkY_eq p n x0 x1 x2 x3 x6 x8 s hu hw hqd hqk hz hn hs, blkS_eq p n x0 x1 x4 x5 s hu hw hk hg⟩

theorem both_of {α β : Type} {p : α × β} {a x : α} {b y : β} (h : p = (a, b)) (ha : a = x) (hb : b = y) :
    p.1 = x ∧ p.2 = y := by
  subst h
  exact ⟨ha, hb⟩

theorem outs_A (n : Fin 32) (t : Fin cfg0.N) (ht : t.val = n.val) (h0 : t.val % 32 = 0) :
    (outsAt0 m c t.val t.isLt).1 = (fun i => yOut (problem m c) (i 0) (tok n (i 1)) (i 2))
      ∧ (outsAt0 m c t.val t.isLt).2 = state (problem m c) (n.val + 1) := by
  have hn : n.val = 0 := by omega
  have hs : (iblk m c 7 t : Vec Ideal S4x4x128x128 .f32) = state (problem m c) n.val := by
    rw [hn]
    funext i
    rw [eq_ix4 i]
    exact iblk_s0 m c t _ _ _ _
  have h := point_A c (problem m c) n t h0 (iblk m c 0 t) (iblk m c 1 t) (iblk m c 2 t) (iblk m c 3 t) (iblk m c 4 t) (iblk m c 5 t) (iblk m c 6 t) (iblk m c 7 t) (iblk m c 8 t) (iblk_u m c n t ht) (iblk_w m c n t ht) (iblk_qd m c n t ht) (iblk_qk m c n t ht) (iblk_kd m c n t ht) (iblk_g m c n t ht)
    (iblk_z m c n t ht) (iblk_nw m c t) hs
  exact both_of (outsAt0_A m c t h0) h.1 h.2

theorem outs_B (n : Fin 32) (t : Fin cfg0.N) (ht : t.val = n.val) (h0 : ¬t.val % 32 = 0)
    (hs : (outsAt0 m c (t.val - 1) (Nat.lt_of_le_of_lt (Nat.sub_le _ _) t.isLt)).2 = state (problem m c) n.val) :
    (outsAt0 m c t.val t.isLt).1 = (fun i => yOut (problem m c) (i 0) (tok n (i 1)) (i 2))
      ∧ (outsAt0 m c t.val t.isLt).2 = state (problem m c) (n.val + 1) := by
  have h := point_B c (problem m c) n t h0 (iblk m c 0 t) (iblk m c 1 t) (iblk m c 2 t) (iblk m c 3 t) (iblk m c 4 t) (iblk m c 5 t) (iblk m c 6 t) (iblk m c 7 t) (iblk m c 8 t) _ (iblk_u m c n t ht) (iblk_w m c n t ht) (iblk_qd m c n t ht) (iblk_qk m c n t ht) (iblk_kd m c n t ht) (iblk_g m c n t ht)
    (iblk_z m c n t ht) (iblk_nw m c t) hs
  exact both_of (outsAt0_B m c t h0) h.1 h.2

/-- Every point leaves its chunk's outputs and the state after its chunk. -/
theorem outs (k : ℕ) : ∀ (hk : k < cfg0.N) (hk' : k < 32),
    (outsAt0 m c k hk).1 = (fun i => yOut (problem m c) (i 0) (tok ⟨k, hk'⟩ (i 1)) (i 2))
      ∧ (outsAt0 m c k hk).2 = state (problem m c) (k + 1) := by
  induction k with
  | zero => exact fun hk hk' => outs_A m c ⟨0, hk'⟩ ⟨0, hk⟩ rfl rfl
  | succ k ih =>
    intro hk hk'
    refine outs_B m c ⟨k + 1, hk'⟩ ⟨k + 1, hk⟩ rfl (by simp only []; omega) ?_
    exact (ih (by omega) (by omega)).2

/-! ## The output arrays at the end of the grid -/

theorem idx_9 : ∀ t : Fin cfg0.N, win0_9.index t = ![0, t.val, 0] :=
  (by decide +kernel : ∀ t : Fin grid0.N, _)

/-- The array of outputs, of the tokens' rows. -/
def outArray (p : Problem) : S4x4096x512.Idx → EReal := fun i => yOut p (i 0) (i 1) (i 2)

/-- The chunk's block of the array of outputs. -/
theorem blk_9 (X : Vec Ideal S4x4096x512 .bf16) (n : Fin 32) (t : Fin cfg0.N) (ht : t.val = n.val) :
    (((cfg0.win 9).blk t).view.read (Elt Ideal) X : Vec Ideal S4x128x512 .bf16) =
      fun i => X (ix3 (i 0) (tok n (i 1)) (i 2)) := by
  funext i
  rw [eq_ix3 i]
  generalize i 0 = b
  generalize i 1 = r
  generalize i 2 = d
  have h : (((cfg0.win 9).blk t).view.read (Elt Ideal) X : Vec Ideal S4x128x512 .bf16) (ix3 b r d) =
      X (ix3 b (tok n r) d) := by
    blk_simp []
    blk_ext [idx_9 t]
    rw [ht]
    rfl
  exact h

theorem array_9 : (dats m 0 c).arrAt 9 cfg0.N = outArray (problem m c) := by
  refine (dats m 0 c).arrAt_eq_of_covers 9 (outArray (problem m c)) (by decide +kernel) fun t _ y => ?_
  have ht : t.val < 32 := lt_of_lt_of_eq t.isLt (show cfg0.N = 32 from N_0)
  have h := (outs m c t.val t.isLt ht).1
  rw [after0_9 m c t, h]
  exact (congrFun (blk_9 (outArray (problem m c)) ⟨t.val, ht⟩ t rfl) y).symm

theorem array_10 : (dats m 0 c).arrAt 10 cfg0.N = state (problem m c) 32 := by
  refine (dats m 0 c).arrAt_eq_of_after_last 10 ⟨31, by decide⟩ (by decide +kernel) (state (problem m c) 32) fun j => ?_
  rw [after0_10 m c, (outs m c 31 (by decide) (by decide)).2]
  rfl

end Cert.Scan

end

end
-- ==== Proof.ScanRefTrip.lean ====
/-
  One trip of the reference's loop over the chunks, read element by element over the extended reals: it takes the chunk's
  arrays out of the stacks, and leaves the state after the chunk and the chunk's raw outputs in their place of the stack.
-/
module

public import proofs.«01_k».proof.Proof.ScanMath
public import proofs.«01_k».proof.Proof.Gen.ReferenceIdeal.Step
public import Idealize.ShloMosaic.Lib.Pointwise
public import Idealize.ShloMosaic.Lib.DynamicIndex
public import Idealize.ShloMosaic.Lib.Pipeline.Value

@[expose] public section

set_option maxRecDepth 16384

noncomputable section

namespace Cert.Scan

open Cert.ReferenceIdeal Cert.ReferenceIdeal.Gen Cert.ReferenceIdeal.Step Idealize.ShloMosaic

theorem word_toInt (n : Fin 32) : (BitVec.ofNat 32 n.val).toInt = (n.val : Int) := by
  revert n
  decide

/-- The chunk's part of a stack. -/
theorem chunk_apply (X : S32x4x4x128x128.Idx → EReal) (start : Fin 5 → Int) (n : Fin 32) (h0 : start 0 = n.val)
    (h1 : start 1 = 0) (h2 : start 2 = 0) (h3 : start 3 = 0) (h4 : start 4 = 0) (b h : Fin 4) (c k : Fin 128) :
    shapeCast S4x4x128x128 (Host.dynamicSlice S1x4x4x128x128 X start sliceFits_S32x4x4x128x128_S1x4x4x128x128)
      shapeCasts_S1x4x4x128x128_S4x4x128x128 (ix4 b h c k) = X (ix5 n b h c k) := by
  have hoff : S32x4x4x128x128.Slices ![n.val, 0, 0, 0, 0] S1x4x4x128x128 :=
    ⟨rfl, fun a => by have := n.isLt; fin_cases a <;> simp <;> omega⟩
  rw [Host.dynamicSlice_eq_extractStridedSlice S1x4x4x128x128 X start ![n.val, 0, 0, 0, 0] _ hoff
    (fun a => by fin_cases a; exacts [h0, h1, h2, h3, h4])]
  pointwise []

/-- The chunk's decays. -/
theorem chunkDecay_apply (X : S32x4x4.Idx → EReal) (start : Fin 3 → Int) (n : Fin 32) (h0 : start 0 = n.val)
    (h1 : start 1 = 0) (h2 : start 2 = 0) (b h : Fin 4) :
    shapeCast S4x4 (Host.dynamicSlice S1x4x4 X start sliceFits_S32x4x4_S1x4x4) shapeCasts_S1x4x4_S4x4 (ix2 b h) =
      X (ix3 n b h) := by
  have hoff : S32x4x4.Slices ![n.val, 0, 0] S1x4x4 := ⟨rfl, fun a => by have := n.isLt; fin_cases a <;> simp <;> omega⟩
  rw [Host.dynamicSlice_eq_extractStridedSlice S1x4x4 X start ![n.val, 0, 0] _ hoff
    (fun a => by fin_cases a; exacts [h0, h1, h2])]
  pointwise []

/-- A stack with the chunk's part replaced. -/
theorem replace_apply (X : S32x4x4x128x128.Idx → EReal) (O : S4x4x128x128.Idx → EReal) (start : Fin 5 → Int) (n : Fin 32)
    (h0 : start 0 = n.val) (h1 : start 1 = 0) (h2 : start 2 = 0) (h3 : start 3 = 0) (h4 : start 4 = 0) (j : Fin 32)
    (b h : Fin 4) (c k : Fin 128) :
    Host.dynamicUpdateSlice X (broadcastInDim S1x4x4x128x128 ![1, 2, 3, 4] bcast_S4x4x128x128_S1x4x4x128x128_1_2_3_4 O) start
      updateFits_S32x4x4x128x128_S1x4x4x128x128 (ix5 j b h c k) = if j = n then O (ix4 b h c k) else X (ix5 j b h c k) := by
  have hoff : S32x4x4x128x128.Slices ![n.val, 0, 0, 0, 0] S1x4x4x128x128 :=
    ⟨rfl, fun a => by have := n.isLt; fin_cases a <;> simp <;> omega⟩
  rw [Host.dynamicUpdateSlice_eq_updateSlice X _ start _ ![n.val, 0, 0, 0, 0]
    (fun a => by have := n.isLt; fin_cases a <;> simp [h0, h1, h2, h3, h4] <;> omega) hoff]
  pointwise []
  by_cases hj : j = n
  · subst hj
    rw [if_pos rfl, dif_pos (by omega)]
  · have : j.val ≠ n.val := fun e => hj (Fin.ext e)
    rw [if_neg hj, dif_neg (by omega)]

/-! ## The trip -/

variable (n : Fin 32) (s : State Ideal)

/-- What the loop's arrays hold: the stacks hold the problem's arrays by chunks, the carried state the state before
    chunk `k`, and the stack of outputs the raw outputs of the chunks before it. -/
structure Inv (p : Problem) (k : ℕ) (s : State Ideal) : Prop where
  u : ∀ n b h c v, (s.main_v21_0 : S32x4x4x128x128.Idx → EReal) (ix5 n b h c v) = p.u (ix4 b (tok n c) h v)
  w : ∀ n b h c v, (s.main_v21_1 : S32x4x4x128x128.Idx → EReal) (ix5 n b h c v) = p.w (ix4 b (tok n c) h v)
  qk : ∀ n b h c v, (s.main_v21_2 : S32x4x4x128x128.Idx → EReal) (ix5 n b h c v) = p.qk (ix4 b (tok n c) h v)
  qd : ∀ n b h c v, (s.main_v21_3 : S32x4x4x128x128.Idx → EReal) (ix5 n b h c v) = p.qd (ix4 b (tok n c) h v)
  kd : ∀ n b h c v, (s.main_v21_4 : S32x4x4x128x128.Idx → EReal) (ix5 n b h c v) = p.kd (ix4 b (tok n c) h v)
  g : ∀ n b h, (s.main_v21_5 : S32x4x4.Idx → EReal) (ix3 n b h) = p.g (ix3 b n h)
  state : (s.main_v21_7 : S4x4x128x128.Idx → EReal) = state p k
  out : ∀ n : Fin 32, n.val < k → ∀ b h c v, (s.main_v21_8 : S32x4x4x128x128.Idx → EReal) (ix5 n b h c v) =
    oNew p n (Scan.state p n.val) b h c v

theorem b5_apply (b h : Fin 4) (c v : Fin 128) :
    (b5 n.val s : S4x4x128x128.Idx → EReal) (ix4 b h c v) = (s.main_v21_0 : S32x4x4x128x128.Idx → EReal) (ix5 n b h c v) :=
  chunk_apply _ _ n (word_toInt n) rfl rfl rfl rfl b h c v

theorem b11_apply (b h : Fin 4) (c v : Fin 128) :
    (b11 n.val s : S4x4x128x128.Idx → EReal) (ix4 b h c v) = (s.main_v21_1 : S32x4x4x128x128.Idx → EReal) (ix5 n b h c v) :=
  chunk_apply _ _ n (word_toInt n) rfl rfl rfl rfl b h c v

theorem b17_apply (b h : Fin 4) (c v : Fin 128) :
    (b17 n.val s : S4x4x128x128.Idx → EReal) (ix4 b h c v) = (s.main_v21_2 : S32x4x4x128x128.Idx → EReal) (ix5 n b h c v) :=
  chunk_apply _ _ n (word_toInt n) rfl rfl rfl rfl b h c v

theorem b23_apply (b h : Fin 4) (c v : Fin 128) :
    (b23 n.val s : S4x4x128x128.Idx → EReal) (ix4 b h c v) = (s.main_v21_3 : S32x4x4x128x128.Idx → EReal) (ix5 n b h c v) :=
  chunk_apply _ _ n (word_toInt n) rfl rfl rfl rfl b h c v

theorem b29_apply (b h : Fin 4) (c v : Fin 128) :
    (b29 n.val s : S4x4x128x128.Idx → EReal) (ix4 b h c v) = (s.main_v21_4 : S32x4x4x128x128.Idx → EReal) (ix5 n b h c v) :=
  chunk_apply _ _ n (word_toInt n) rfl rfl rfl rfl b h c v

theorem b33_apply (b h : Fin 4) :
    (b33 n.val s : S4x4.Idx → EReal) (ix2 b h) = (s.main_v21_5 : S32x4x4.Idx → EReal) (ix3 n b h) :=
  chunkDecay_apply _ _ n (word_toInt n) rfl rfl b h

/-- The trip's operations on opaque arrays: rows by columns, and columns by columns, within a batch row and a head. -/
theorem rows_dot (x y : S4x4x128x128.Idx → EReal) (b h : Fin 4) (c v : Fin 128) :
    (Host.dotGeneral (F := Ideal) (φ₁ := .f32) (φ₂ := .f32) dot_S4x4x128x128_S4x4x128x128_S4x4x128x128_3_2_2_3_01_01 none x y : S4x4x128x128.Idx → EReal) (ix4 b h c v) =
      ∑ k : Fin 128, x (ix4 b h c k) * y (ix4 b h k v) := by
  pointwise []

theorem cols_dot (x y : S4x4x128x128.Idx → EReal) (b h : Fin 4) (c v : Fin 128) :
    (Host.dotGeneral (F := Ideal) (φ₁ := .f32) (φ₂ := .f32) dot_S4x4x128x128_S4x4x128x128_S4x4x128x128_2_2_3_3_01_01 none x y : S4x4x128x128.Idx → EReal) (ix4 b h c v) =
      ∑ k : Fin 128, x (ix4 b h k c) * y (ix4 b h k v) := by
  pointwise []

theorem spread_apply (x : S4x4.Idx → EReal) (b h : Fin 4) (c v : Fin 128) :
    broadcastInDim S4x4x128x128 ![0, 1, 2, 3] bcast_S4x4x1x1_S4x4x128x128_0_1_2_3
      (broadcastInDim S4x4x1x1 ![0, 1] bcast_S4x4_S4x4x1x1_0_1 x) (ix4 b h c v) = x (ix2 b h) := by
  pointwise []

variable {n s} {p : Problem} (I : Inv p n.val s)
include I

theorem b35_apply (b h : Fin 4) (c v : Fin 128) :
    (b35 n.val s : S4x4x128x128.Idx → EReal) (ix4 b h c v) = vNew p n (Scan.state p n.val) b h c v := by
  show (b5 n.val s : S4x4x128x128.Idx → EReal) (ix4 b h c v) - (b34 n.val s : S4x4x128x128.Idx → EReal) (ix4 b h c v) = _
  have h34 := rows_dot (b11 n.val s) s.main_v21_7 b h c v
  rw [b5_apply, I.u]
  refine congrArg (p.u (ix4 b (tok n c) h v) - ·) (h34.trans ?_)
  rw [I.state]
  exact Finset.sum_congr rfl fun k _ => by rw [b11_apply, I.w]

theorem b38_apply (b h : Fin 4) (c v : Fin 128) :
    (b38 n.val s : S4x4x128x128.Idx → EReal) (ix4 b h c v) = oNew p n (Scan.state p n.val) b h c v := by
  have h36 := rows_dot (b23 n.val s) s.main_v21_7 b h c v
  have h37 := rows_dot (b17 n.val s) (b35 n.val s) b h c v
  refine congrArg₂ (· + ·) (h36.trans ?_) (h37.trans ?_)
  · rw [I.state]
    exact Finset.sum_congr rfl fun k _ => by rw [b23_apply, I.qd]
  · exact Finset.sum_congr rfl fun k _ => by rw [b17_apply, I.qk, b35_apply I]

theorem b43_apply (b h : Fin 4) (c v : Fin 128) :
    (b43 n.val s : S4x4x128x128.Idx → EReal) (ix4 b h c v) = sNext p n (Scan.state p n.val) (ix4 b h c v) := by
  have h40 := spread_apply (b33 n.val s) b h c v
  have h42 := cols_dot (b29 n.val s) (b35 n.val s) b h c v
  refine congrArg₂ (· + ·) (congrArg₂ (· * ·) ?_ (h40.trans ?_)) (h42.trans ?_)
  · rw [I.state]
    rfl
  · rw [b33_apply, I.g]
    rfl
  · exact Finset.sum_congr rfl fun k _ => by rw [b29_apply, I.kd, b35_apply I]; rfl

/-- One trip takes what holds before a chunk to what holds before the next. -/
theorem Inv.step : Inv p (n.val + 1) (step n.val s) where
  u := I.u
  w := I.w
  qk := I.qk
  qd := I.qd
  kd := I.kd
  g := I.g
  state := by
    rw [step_main_v21_7, state_succ]
    funext i
    rw [eq_ix4 i]
    exact b43_apply I _ _ _ _
  out := by
    intro j hj b h c v
    rw [step_main_v21_8]
    refine (replace_apply s.main_v21_8 (b38 n.val s) _ n (word_toInt n) rfl rfl rfl rfl j b h c v).trans ?_
    by_cases hjn : j = n
    · subst hjn
      rw [if_pos rfl, b38_apply I]
    · rw [if_neg hjn]
      have : j.val ≠ n.val := fun e => hjn (Fin.ext e)
      exact I.out j (by omega) b h c v

end Cert.Scan

end

end
-- ==== Proof.ScanRef.lean ====
/-
  What the reference leaves: the loop's stacks hold the problem's arrays by chunks, its trips keep the invariant, and the
  operations after it make the normalized, gated outputs of the raw ones.
-/
module

public import proofs.«01_k».proof.Proof.ScanRefTrip
public import proofs.«01_k».proof.Proof.Gen.ReferenceIdeal.Run

@[expose] public section

set_option maxRecDepth 16384

noncomputable section

namespace Cert.Scan

open Cert.ReferenceIdeal Cert.ReferenceIdeal.Gen Cert.ReferenceIdeal.Step Cert.ReferenceIdeal.Value
open Idealize.ShloMosaic Idealize.ShloMosaic.TcCoe Idealize.SL.Sem Idealize.ShloMosaic.StableHlo

/-! ## Before the loop -/

theorem stack_apply (X : S4x4096x4x128.Idx → EReal) (n : Fin 32) (b h : Fin 4) (c v : Fin 128) :
    transpose S32x4x4x128x128 [1, 0, 2, 3, 4] (transpose S4x32x4x128x128 [0, 1, 3, 2, 4]
      (shapeCast S4x32x128x4x128 X shapeCasts_S4x4096x4x128_S4x32x128x4x128) transposes_S4x32x128x4x128_S4x32x4x128x128_0_1_3_2_4)
      transposes_S4x32x4x128x128_S32x4x4x128x128_1_0_2_3_4 (ix5 n b h c v) = X (ix4 b (tok n c) h v) := by
  pointwise []
  rfl

theorem stackDecay_apply (X : S4x32x4.Idx → EReal) (n : Fin 32) (b h : Fin 4) :
    transpose S32x4x4 [1, 0, 2] X transposes_S4x32x4_S32x4x4_1_0_2 (ix3 n b h) = X (ix3 b n h) := by
  pointwise []

theorem inv_init (p : Problem) : Inv p 0 (init (F := Ideal) p.s0 p.u p.w p.qd p.qk p.kd p.g) where
  u := stack_apply p.u
  w := stack_apply p.w
  qk := stack_apply p.qk
  qd := stack_apply p.qd
  kd := stack_apply p.kd
  g := stackDecay_apply p.g
  state := rfl
  out := fun n h => absurd h (Nat.not_lt_zero _)

/-! ## The loop -/

/-- The loop's arrays, of the buffers' contents. -/
def carried (V : Valuation τ sig (Elt Ideal)) : State Ideal where
  main_v21_7 := V (Proc.devRef .tc main_v21_7)
  main_v21_8 := V (Proc.devRef .tc main_v21_8)
  main_v21_0 := V (Proc.devRef .tc main_v21_0)
  main_v21_1 := V (Proc.devRef .tc main_v21_1)
  main_v21_2 := V (Proc.devRef .tc main_v21_2)
  main_v21_3 := V (Proc.devRef .tc main_v21_3)
  main_v21_4 := V (Proc.devRef .tc main_v21_4)
  main_v21_5 := V (Proc.devRef .tc main_v21_5)

/-- The buffers' contents before trip `k`: the counter is at `k`, and the loop's arrays are as they should be. -/
structure Before (p : Problem) (k : ℕ) (V : Valuation τ sig (Elt Ideal)) : Prop where
  counter : V (Proc.devRef .tc main_v21_6) = constantI S_ 32 (BitVec.ofNat 32 k)
  inv : Inv p k (carried V)

theorem trip_state (V : Valuation τ sig (Elt Ideal)) (k : ℕ)
    (h : V (Proc.devRef .tc main_v21_6) = constantI S_ 32 (BitVec.ofNat 32 k)) :
    Value.step_main_v21_7 V = b43 k (carried V) := by
  unfold Value.step_main_v21_7 res_main_while0b_v50
  rw [h]
  rfl

theorem trip_out (V : Valuation τ sig (Elt Ideal)) (k : ℕ)
    (h : V (Proc.devRef .tc main_v21_6) = constantI S_ 32 (BitVec.ofNat 32 k)) :
    Value.step_main_v21_8 V = b49 k (carried V) := by
  unfold Value.step_main_v21_8 res_main_while0b_v50
  rw [h]
  rfl

/-- One trip's contents are the trip of the loop's arrays. -/
theorem carried_trip (V : Valuation τ sig (Elt Ideal)) (k : ℕ)
    (h : V (Proc.devRef .tc main_v21_6) = constantI S_ 32 (BitVec.ofNat 32 k)) : carried (STEP V) = step k (carried V) := by
  unfold carried
  rw [STEP_main_v21_0, STEP_main_v21_1, STEP_main_v21_2, STEP_main_v21_3, STEP_main_v21_4, STEP_main_v21_5,
    STEP_main_v21_7, STEP_main_v21_8, trip_state V k h, trip_out V k h]
  rfl

theorem Before.next {p : Problem} {n : Fin 32} {V : Valuation τ sig (Elt Ideal)} (B : Before p n.val V) :
    Before p (n.val + 1) (STEP V) where
  counter := by
    rw [STEP_main_v21_6]
    unfold step_main_v21_6
    rw [B.counter]
    funext i
    exact (BitVec.ofNat_add n.val 1).symm
  inv := by
    rw [carried_trip V n.val B.counter]
    exact B.inv.step

theorem before_iter {p : Problem} {V : Valuation τ sig (Elt Ideal)} (B : Before p 0 V) (k : ℕ) (hk : k ≤ 32) :
    Before p k (STEP^[k] V) := by
  induction k with
  | zero => exact B
  | succ k ih =>
    rw [Function.iterate_succ_apply']
    exact Before.next (n := ⟨k, by omega⟩) (ih (by omega))

variable (m : (ℓ : Loc nD τ sig) → Buf (Elt Ideal) ℓ) (c : Dev nD)

/-- The problem's arrays, as launched on a device. -/
def refProblem : Problem where
  u := m ((c.tc : Thread nD τ).loc main_arg0)
  w := m ((c.tc : Thread nD τ).loc main_arg1)
  qd := m ((c.tc : Thread nD τ).loc main_arg2)
  qk := m ((c.tc : Thread nD τ).loc main_arg3)
  kd := m ((c.tc : Thread nD τ).loc main_arg4)
  g := m ((c.tc : Thread nD τ).loc main_arg5)
  z := m ((c.tc : Thread nD τ).loc main_arg6)
  s0 := m ((c.tc : Thread nD τ).loc main_arg7)
  nw := m ((c.tc : Thread nD τ).loc main_arg8)

set_option maxRecDepth 65536 in
theorem entry_carried : carried (entryContents preI m c) =
    init (F := Ideal) (m ((c.tc : Thread nD τ).loc main_arg7)) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  unfold carried init
  congr 1 <;> (simp only [entryContents, afterL_cons, afterL_nil]; after_reads_simp) <;> rfl

theorem entry : Before (refProblem m c) 0 (entryContents preI m c) where
  counter := (ctr_entry m c).trans rfl
  inv := by
    rw [entry_carried]
    exact inv_init (refProblem m c)

/-! ## After the loop -/

/-- The stack of outputs, laid out by tokens. -/
theorem unstack_apply (X : S32x4x4x128x128.Idx → EReal) (b : Fin 4) (t : Fin 4096) (h : Fin 4) (v : Fin 128) :
    shapeCast S4x4096x4x128 (transpose S4x32x128x4x128 [0, 1, 3, 2, 4] (transpose S4x32x4x128x128 [1, 0, 2, 3, 4] X
      transposes_S32x4x4x128x128_S4x32x4x128x128_1_0_2_3_4) transposes_S4x32x4x128x128_S4x32x128x4x128_0_1_3_2_4)
      shapeCasts_S4x32x128x4x128_S4x4096x4x128 (ix4 b t h v) = X (ix5 (chunkOf t) b h (placeOf t) v) := by
  pointwise []
  rfl

theorem post_apply (s : State Ideal) (z : S4x4096x512.Idx → EReal) (nw : S128.Idx → EReal) (b : Fin 4) (t : Fin 4096) (d : Fin 512) :
    (R_main_v42 s z nw : S4x4096x512.Idx → EReal) (ix3 b t d) =
      gated (fun v => (s.main_v21_8 : S32x4x4x128x128.Idx → EReal) (ix5 (chunkOf t) b (headOf d) (placeOf t) v))
        (fun v => nw (ix1 v)) (z (ix3 b t d)) (laneOf d) := by
  unfold R_main_v42
  generalize ho : shapeCast S4x4096x4x128 (transpose S4x32x128x4x128 [0, 1, 3, 2, 4] (transpose S4x32x4x128x128 [1, 0, 2, 3, 4] s.main_v21_8
      transposes_S32x4x4x128x128_S4x32x4x128x128_1_0_2_3_4) transposes_S4x32x4x128x128_S4x32x128x4x128_0_1_3_2_4)
      shapeCasts_S4x32x128x4x128_S4x4096x4x128 = o
  have h : ∀ h v, (s.main_v21_8 : S32x4x4x128x128.Idx → EReal) (ix5 (chunkOf t) b h (placeOf t) v) = o (ix4 b t h v) :=
    fun h v => by rw [← ho]; exact (unstack_apply s.main_v21_8 b t h v).symm
  simp only [h]
  clear h ho
  pointwise [gated]
  have hz : (0 : EReal) - z (ix3 b t d) = -z (ix3 b t d) := by rw [sub_eq_add_neg, zero_add]
  rw [hz]
  rfl

theorem post_carried (W : Valuation τ sig (Elt Ideal)) (z : S4x4096x512.Idx → EReal) (nw : S128.Idx → EReal)
    (hz : W (Proc.devRef .tc main_arg6) = z) (hn : W (Proc.devRef .tc main_arg8) = nw) :
    out_main_v42 W = R_main_v42 (carried W) z nw := by
  unfold out_main_v42 R_main_v42
  rw [hz, hn]
  rfl

/-- After the last trip the operations leave the tokens' outputs. -/
theorem post_eq (p : Problem) (s : State Ideal) (I : Inv p 32 s) :
    (R_main_v42 s p.z p.nw : S4x4096x512.Idx → EReal) = fun i => yOut p (i 0) (i 1) (i 2) := by
  have h : ∀ b t d, (R_main_v42 s p.z p.nw : S4x4096x512.Idx → EReal) (ix3 b t d) = yOut p b t d := fun b t d =>
    (post_apply s p.z p.nw b t d).trans (congrArg (fun o => gated o (fun v => p.nw (ix1 v)) (p.z (ix3 b t d)) (laneOf d))
      (funext fun v => I.out (chunkOf t) (chunkOf t).isLt b (headOf d) (placeOf t) v))
  funext i
  rw [eq_ix3 i]
  exact h (i 0) (i 1) (i 2)

/-- The array of outputs, of the tokens' rows. -/
theorem ref_out : (out_main_v42 (STEP^[32] (entryContents preI m c)) : S4x4096x512.Idx → EReal) =
    fun i => yOut (refProblem m c) (i 0) (i 1) (i 2) :=
  (post_carried _ _ _ (iter_main_arg6 m c 32) (iter_main_arg8 m c 32)).trans
    (post_eq (refProblem m c) _ (before_iter (entry m c) 32 (le_refl 32)).inv)

/-- The last state. -/
theorem ref_state : ((STEP^[32] (entryContents preI m c)) (Proc.devRef .tc main_v21_7) : S4x4x128x128.Idx → EReal) =
    state (refProblem m c) 32 :=
  (before_iter (entry m c) 32 (le_refl 32)).inv.state

end Cert.Scan

end

end
-- ==== Proof.Scan.lean ====
/-
  The recurrence's claims: the kernel and the reference both leave the tokens' normalized, gated outputs and the state
  after the last chunk, of the arrays they were launched on.
-/
module

public import proofs.«01_k».proof.Defs
public import proofs.«01_k».proof.Proof.ScanArrays
public import proofs.«01_k».proof.Proof.ScanRef
public import Idealize.ShloMosaic.Lib.Quiescent

@[expose] public section

set_option maxRecDepth 16384

noncomputable section

namespace Cert.Scan

open Idealize.ShloMosaic Idealize.SL.Sem

theorem frame_reference : Cert.quiescent_ReferenceIdeal (hReferenceIdeal := Cert.ReferenceIdeal.Gen.facts) := by
  intro m ρ _
  exact (θ_run Cert.ReferenceIdeal.defs _ _).mono
    (fun r h => ⟨fun c => (h c).2.2, sem_eq_zero_of_no_sems (by decide) r.2⟩) (Cert.ReferenceIdeal.Value.run m ρ)

theorem algebraic : Cert.algebraic_KernelIdeal_ReferenceIdeal (hKernelIdeal := Cert.KernelIdeal.Gen.facts)
    (hReferenceIdeal := Cert.ReferenceIdeal.Gen.facts) := by
  intro m ρ m' ρ' _ hagree
  have hp : ∀ c, refProblem m' c = problem m c := fun c => by
    obtain ⟨h0, h1, h2, h3, h4, h5, h6, h7, h8⟩ := hagree c
    unfold refProblem problem
    congr 1
  refine ⟨fun c => outArray (problem m c), fun c => state (problem m c) 32, ?_, ?_⟩
  · exact (θ_run Cert.KernelIdeal.defs _ _).mono (fun r h c => ⟨(h c).1.trans (array_9 m c),
      (h c).2.1.trans (array_10 m c), (h c).2.2⟩) (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run m' ρ')
    · exact (ref_out m' c).trans (congrArg outArray (hp c))
    · exact (ref_state m' c).trans (congrArg (fun p => state p 32) (hp c))

end Cert.Scan

end

end
-- ==== Proof.Rms.lean ====
/-
  The root-mean-square normalization of a row, and where a row of the prompt's `4 × 4096` tokens, laid out flat, lies.
-/
module

public import Idealize.ShloMosaic.Lib.Pointwise

@[expose] public section

noncomputable section

namespace Cert.Rows

open Idealize.ShloMosaic

/-- A row of the residual stream divided by its root mean square, times the norm's weight. -/
def rms (x w : Fin 1024 → EReal) (d : Fin 1024) : EReal :=
  x d * Ideal.rsqrt (Ideal.div (∑ k : Fin 1024, x k * x k) (Ideal.ofBits .f32 0x44800000#32)
    + Ideal.ofBits .f32 0x358637BD#32) * w d

/-- The batch entry of a flat row. -/
def batch (r : Fin 16384) : Fin 4 := ⟨r.val / 4096, by omega⟩

/-- The position of a flat row in its batch entry. -/
def pos (r : Fin 16384) : Fin 4096 := ⟨r.val % 4096, by omega⟩

/-- Row `i` of tile `n` of `512` rows, among the flat rows. -/
def tile (n : Fin 32) (i : Fin 512) : Fin 16384 := ⟨n.val * 512 + i.val, by omega⟩

/-- The logistic function. -/
def gate (z : EReal) : EReal := Ideal.div 1 (1 + Ideal.exp (0 - z))

/-- `z · σ(z)`. -/
def silu (z : EReal) : EReal := z * Ideal.div 1 (1 + Ideal.exp (0 - z))

/-- One hidden value of a row: the normalized row times a column of the first weights. -/
def hid (x nw : Fin 1024 → EReal) (wi : Fin 1024 → Fin 5632 → EReal) (k : Fin 5632) : EReal :=
  ∑ d : Fin 1024, rms x nw d * wi d k

/-- One activation of a row: its gate through `silu`, times its value. -/
def act (x nw : Fin 1024 → EReal) (wi : Fin 1024 → Fin 5632 → EReal) (j : Fin 2816) : EReal :=
  silu (hid x nw wi ⟨j.val, by omega⟩) * hid x nw wi ⟨2816 + j.val, by omega⟩

/-- The half step: the row plus half of its activations times the second weights. -/
def halfStep (x nw : Fin 1024 → EReal) (wi : Fin 1024 → Fin 5632 → EReal) (wo : Fin 2816 → Fin 1024 → EReal)
    (d : Fin 1024) : EReal :=
  x d + Ideal.ofBits .f32 0x3F000000#32 * ∑ j : Fin 2816, act x nw wi j * wo j d

/-- The two branches of a row, each through its gate, projected and added to the row. -/
def mergeRow (x : Fin 1024 → EReal) (a b : Fin 512 → EReal) (g : Fin 2048 → EReal) (wa wb : Fin 512 → Fin 1024 → EReal)
    (wo : Fin 1024 → Fin 1024 → EReal) (d : Fin 1024) : EReal :=
  x d + ∑ j : Fin 1024, (gate (g ⟨j.val, by omega⟩) * (∑ k : Fin 512, a k * wa k j)
    + gate (g ⟨1024 + j.val, by omega⟩) * (∑ k : Fin 512, b k * wb k j)) * wo j d

/-- The column of the attention's output, in the order of its heads, that lies at column `p` when the heads of a group
    lie together: `4` groups of `2` heads of `64` columns, out of `2` times `4` heads. -/
def head (p : Fin 512) : Fin 512 := ⟨p.val / 64 % 2 * 256 + p.val / 128 * 64 + p.val % 64, by omega⟩

/-- The other direction of `head`. -/
def headInv (q : Fin 512) : Fin 512 := ⟨q.val / 64 % 4 * 128 + q.val / 256 * 64 + q.val % 64, by omega⟩

/-- `head` permutes the columns. -/
def heads : Equiv.Perm (Fin 512) where
  toFun := head
  invFun := headInv
  left_inv := (by decide +kernel : ∀ p : Fin 512, headInv (head p) = p)
  right_inv := (by decide +kernel : ∀ q : Fin 512, head (headInv q) = q)

/-- A sum over the permuted columns is the sum over the columns. -/
theorem sum_head (f : Fin 512 → EReal) : ∑ p : Fin 512, f (head p) = ∑ q : Fin 512, f q :=
  Equiv.sum_comp heads f

end Cert.Rows

end

end
-- ==== Proof.FfnPoint.lean ====
/-
  What one grid point of the half step's kernel computes: the activations, stored tile by tile, and from all of them
  the block of outputs.
-/
module

public import proofs.«01_k».proof.Proof.Gen.Kernel2Ideal.Value
public import proofs.«01_k».proof.Proof.Rms
public import Idealize.ShloMosaic.Lib.Pipeline.ReadBack
public import Idealize.ShloMosaic.Lib.Pipeline.ValueKit.Point

@[expose] public section

set_option maxRecDepth 16384

noncomputable section

namespace Cert.Ffn

open Cert.Kernel2Ideal Cert.Kernel2Ideal.Gen Cert.Rows Idealize.ShloMosaic Idealize.ShloMosaic.TcCoe Idealize.SL.Sem

/-- An index of a tile of activations is a row and a column. -/
theorem tile_all {P : S512x256.Idx → Prop} (h : ∀ (r : Fin 512) (j : Fin 256), P (ix2 r j)) (x : S512x256.Idx) : P x := by
  rw [eq_ix2 x]
  exact h _ _

/-- Where a tile of activations lies. -/
theorem emb_tile (o : ℕ) (h : o + 256 ≤ 2816) (inb) (r : Fin 512) (j : Fin 256) :
    (Rect.unit (s := S512x2816) ![0, o] ![512, 256] inb).emb (ix2 r j) = ix2 (n0 := 512) (n1 := 2816) r ⟨o + j.val, by omega⟩ := by
  funext a
  apply Fin.ext
  fin_cases a <;> simp [Rect.emb, Rect.unit, ix2]

/-- The activations of a block's rows. -/
def acts (x0 : S512x1024.Idx → EReal) (x1 : S1x1024.Idx → EReal) (x2 : S1x1024x5632.Idx → EReal) : S512x2816.Idx → EReal :=
  fun i => act (fun k => x0 (ix2 (i 0) k)) (fun k => x1 (ix2 0 k)) (fun a k => x2 (ix3 0 a k)) (i 1)

set_option maxHeartbeats 4000000 in
theorem out_4 (c : Dev nD) (t : Fin cfg0.N) (x0 : Vec Ideal S512x1024 .f32) (x1 : Vec Ideal S1x1024 .f32)
    (x2 : Vec Ideal S1x1024x5632 .bf16) (x3 : Vec Ideal S1x2816x1024 .bf16) (r : Fin 512) (d : Fin 1024) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) x0 x1 x2 x3 (ix2 r d) =
      halfStep (fun k => x0 (ix2 r k)) (fun k => x1 (ix2 0 k)) (fun a k => x2 (ix3 0 a k)) (fun j a => x3 (ix3 0 j a)) d := by
  unfold out0_A_4
  rw [View.read_writes_eq_canon _ _ _ (cover0_A_4 c _ _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, (hs0_3 t).read_unread, View.ld_unit_lit, View.canon_cons_unit_lit]
  unfold k0_pay2 k0_pay3
  pointwise [halfStep]
  refine congrArg (fun z => x0 (ix2 r d) + Ideal.ofBits .f32 0x3F000000#32 * z) (Finset.sum_congr rfl fun j _ => congrArg (· * x3 (ix3 0 j d)) ?_)
  rw [View.readCov_eq_canon']
  refine (View.canon_append_of_piecesOf (Val := Elt Ideal) (e := .bf16) (s := S512x2816) (acts x0 x1 x2) [] [_, _, _, _, _, _, _, _, _, _, _]
    ⟨tile_all fun k v => ?_, tile_all fun k v => ?_, tile_all fun k v => ?_, tile_all fun k v => ?_, tile_all fun k v => ?_, tile_all fun k v => ?_, tile_all fun k v => ?_, tile_all fun k v => ?_, tile_all fun k v => ?_, tile_all fun k v => ?_, tile_all fun k v => ?_, trivial⟩ _ (View.cover_of_tiledL (s := S512x2816) _ S512x256.size (by sl_kernel_rfl) _)).trans ?_
  · dsimp only
    rw [emb_tile 2560 (by decide)]
    unfold_payloads
    pointwise [acts, act, silu, hid, rms]
    simp only [← Nat.add_assoc, Nat.reduceAdd]
  · dsimp only
    rw [emb_tile 2304 (by decide)]
    unfold_payloads
    pointwise [acts, act, silu, hid, rms]
    simp only [← Nat.add_assoc, Nat.reduceAdd]
  · dsimp only
    rw [emb_tile 2048 (by decide)]
    unfold_payloads
    pointwise [acts, act, silu, hid, rms]
    simp only [← Nat.add_assoc, Nat.reduceAdd]
  · dsimp only
    rw [emb_tile 1792 (by decide)]
    unfold_payloads
    pointwise [acts, act, silu, hid, rms]
    simp only [← Nat.add_assoc, Nat.reduceAdd]
  · dsimp only
    rw [emb_tile 1536 (by decide)]
    unfold_payloads
    pointwise [acts, act, silu, hid, rms]
    simp only [← Nat.add_assoc, Nat.reduceAdd]
  · dsimp only
    rw [emb_tile 1280 (by decide)]
    unfold_payloads
    pointwise [acts, act, silu, hid, rms]
    simp only [← Nat.add_assoc, Nat.reduceAdd]
  · dsimp only
    rw [emb_tile 1024 (by decide)]
    unfold_payloads
    pointwise [acts, act, silu, hid, rms]
    simp only [← Nat.add_assoc, Nat.reduceAdd]
  · dsimp only
    rw [emb_tile 768 (by decide)]
    unfold_payloads
    pointwise [acts, act, silu, hid, rms]
    simp only [← Nat.add_assoc, Nat.reduceAdd]
  · dsimp only
    rw [emb_tile 512 (by decide)]
    unfold_payloads
    pointwise [acts, act, silu, hid, rms]
    simp only [← Nat.add_assoc, Nat.reduceAdd]
  · dsimp only
    rw [emb_tile 256 (by decide)]
    unfold_payloads
    pointwise [acts, act, silu, hid, rms]
    simp only [← Nat.add_assoc, Nat.reduceAdd]
  · dsimp only
    rw [emb_tile 0 (by decide)]
    unfold_payloads
    pointwise [acts, act, silu, hid, rms]
  · refine congrArg (acts x0 x1 x2) (a₂ := ix2 r j) ?_
    funext a
    apply Fin.ext
    fin_cases a <;> simp [LoadRect.idx, Rect.unit, ix2]

end Cert.Ffn

end

end
-- ==== Proof.FfnKernel.lean ====
/-
  What the half step's kernel leaves in its output array: each token's row plus half of its feed-forward network.
-/
module

public import proofs.«01_k».proof.Proof.FfnPoint

@[expose] public section

set_option maxRecDepth 16384

noncomputable section

namespace Cert.Ffn

open Cert.Kernel2Ideal Cert.Kernel2Ideal.Gen Cert.Rows Idealize.ShloMosaic Idealize.ShloMosaic.TcCoe Idealize.SL.Sem

/-- The prompt after the first layer's first half step, laid out flat. -/
def stepped (x : S4x4096x1024.Idx → EReal) (nw : S4x1024.Idx → EReal) (wi : S4x1024x5632.Idx → EReal)
    (wo : S4x2816x1024.Idx → EReal) : S16384x1024.Idx → EReal := fun i =>
  halfStep (fun k => x (ix3 (batch (i 0)) (pos (i 0)) k)) (fun k => nw (ix2 0 k)) (fun a k => wi (ix3 0 a k))
    (fun j a => wo (ix3 0 j a)) (i 1)

/-- The prompt's rows laid out flat. -/
theorem flat_apply (X : S4x4096x1024.Idx → EReal) (r : Fin 16384) (k : Fin 1024) :
    shapeCast S16384x1024 X shapeCasts_S4x4096x1024_S16384x1024 (ix2 r k) = X (ix3 (batch r) (pos r) k) := by
  pointwise []
  rfl

/-- The first layer's norm weight as a row. -/
theorem weight_apply (X : S4x1024.Idx → EReal) (k : Fin 1024) :
    broadcastInDim S1x1024 ![1] bcast_S1024_S1x1024_1 (shapeCast S1024 (extractStridedSlice S1x1024 ![0, 0] X
      slices_S4x1024_S1x1024_0_0) shapeCasts_S1x1024_S1024) (ix2 0 k) = X (ix2 0 k) := by
  pointwise []
  try rfl

variable (m : (ℓ : Loc nD τ sig) → Buf (Elt Ideal) ℓ) (c : Dev nD)

abbrev argX : S4x4096x1024.Idx → EReal := m ((c : Thread nD τ).loc main_arg0)
abbrev argN : S4x1024.Idx → EReal := m ((c : Thread nD τ).loc main_arg1)
abbrev argI : S4x1024x5632.Idx → EReal := m ((c : Thread nD τ).loc main_arg2)
abbrev argO : S4x2816x1024.Idx → EReal := m ((c : Thread nD τ).loc main_arg3)

theorem V_x (r : Fin 16384) (k : Fin 1024) :
    (V m c main_v0 : S16384x1024.Idx → EReal) (ix2 r k) = argX m c (ix3 (batch r) (pos r) k) := by
  have e : (V m c main_v0 : S16384x1024.Idx → EReal) = shapeCast S16384x1024 (argX m c) shapeCasts_S4x4096x1024_S16384x1024 := by
    show StableHlo.after hostOps0 _ (Proc.devRef .tc main_v0) = _
    simp only [hostOps0]
    after_results
    rfl
  rw [e, flat_apply]

theorem V_n (k : Fin 1024) : (V m c main_v3 : S1x1024.Idx → EReal) (ix2 0 k) = argN m c (ix2 0 k) := by
  have e : (V m c main_v3 : S1x1024.Idx → EReal) = broadcastInDim S1x1024 ![1] bcast_S1024_S1x1024_1
      (shapeCast S1024 (extractStridedSlice S1x1024 ![0, 0] (argN m c) slices_S4x1024_S1x1024_0_0) shapeCasts_S1x1024_S1024) := by
    show StableHlo.after hostOps0 _ (Proc.devRef .tc main_v3) = _
    simp only [hostOps0]
    after_results
    rfl
  rw [e, weight_apply]

theorem V_i : (V m c main_v4 : S4x1024x5632.Idx → EReal) = argI m c := by
  show StableHlo.after hostOps0 _ (Proc.devRef .tc main_v4) = _
  simp only [hostOps0]
  after_results
  rfl

theorem V_o : (V m c main_v5 : S4x2816x1024.Idx → EReal) = argO m c := by
  show StableHlo.after hostOps0 _ (Proc.devRef .tc main_v5) = _
  simp only [hostOps0]
  after_results
  rfl

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0, 0] := (by decide +kernel : ∀ t : Fin grid0.N, _)
theorem idx_3 : ∀ t : Fin cfg0.N, win0_3.index t = ![0, 0, 0] := (by decide +kernel : ∀ t : Fin grid0.N, _)
theorem idx_4 : ∀ t : Fin cfg0.N, win0_4.index t = ![t.val, 0] := (by decide +kernel : ∀ t : Fin grid0.N, _)

theorem blk_0 (X : Vec Ideal S16384x1024 .f32) (n : Fin 32) (t : Fin cfg0.N) (ht : t.val = n.val) (i : Fin 512) (j : Fin 1024) :
    (((cfg0.win 0).blk t).view.read (Elt Ideal) X : Vec Ideal S512x1024 .f32) (ix2 i j) = X (ix2 (tile n i) j) := by
  blk_simp []
  blk_ext [idx_0 t]
  rw [ht]
  rfl

theorem blk_1 (X : Vec Ideal S1x1024 .f32) (t : Fin cfg0.N) (i : Fin 1) (j : Fin 1024) :
    (((cfg0.win 1).blk t).view.read (Elt Ideal) X : Vec Ideal S1x1024 .f32) (ix2 i j) = X (ix2 i j) := by
  blk_simp []
  blk_ext [idx_1 t]

theorem blk_2 (X : Vec Ideal S4x1024x5632 .bf16) (t : Fin cfg0.N) (a : Fin 1024) (k : Fin 5632) :
    (((cfg0.win 2).blk t).view.read (Elt Ideal) X : Vec Ideal S1x1024x5632 .bf16) (ix3 0 a k) = X (ix3 0 a k) := by
  blk_simp []
  blk_ext [idx_2 t]

theorem blk_3 (X : Vec Ideal S4x2816x1024 .bf16) (t : Fin cfg0.N) (j : Fin 2816) (a : Fin 1024) :
    (((cfg0.win 3).blk t).view.read (Elt Ideal) X : Vec Ideal S1x2816x1024 .bf16) (ix3 0 j a) = X (ix3 0 j a) := by
  blk_simp []
  blk_ext [idx_3 t]

theorem blk_4 (X : Vec Ideal S16384x1024 .f32) (n : Fin 32) (t : Fin cfg0.N) (ht : t.val = n.val) :
    (((cfg0.win 4).blk t).view.read (Elt Ideal) X : Vec Ideal S512x1024 .f32) = fun i => X (ix2 (tile n (i 0)) (i 1)) := by
  have h : ∀ (i : Fin 512) (j : Fin 1024),
      (((cfg0.win 4).blk t).view.read (Elt Ideal) X : Vec Ideal S512x1024 .f32) (ix2 i j) = X (ix2 (tile n i) j) := fun i j => by
    blk_simp []
    blk_ext [idx_4 t]
    rw [ht]
    rfl
  exact funext fun i => by rw [eq_ix2 i]; exact h (i 0) (i 1)

theorem iblk_x (n : Fin 32) (t : Fin cfg0.N) (ht : t.val = n.val) (i : Fin 512) (k : Fin 1024) :
    (iblk m c 0 t : Vec Ideal S512x1024 .f32) (ix2 i k) = argX m c (ix3 (batch (tile n i)) (pos (tile n i)) k) :=
  (blk_0 (V m c main_v0) n t ht i k).trans (V_x m c (tile n i) k)

theorem iblk_n (t : Fin cfg0.N) (k : Fin 1024) :
    (iblk m c 1 t : Vec Ideal S1x1024 .f32) (ix2 0 k) = argN m c (ix2 0 k) :=
  (blk_1 (V m c main_v3) t 0 k).trans (V_n m c k)

theorem iblk_i (t : Fin cfg0.N) (a : Fin 1024) (k : Fin 5632) :
    (iblk m c 2 t : Vec Ideal S1x1024x5632 .bf16) (ix3 0 a k) = argI m c (ix3 0 a k) :=
  (blk_2 (V m c main_v4) t a k).trans (congrFun (V_i m c) (ix3 0 a k))

theorem iblk_o (t : Fin cfg0.N) (j : Fin 2816) (a : Fin 1024) :
    (iblk m c 3 t : Vec Ideal S1x2816x1024 .bf16) (ix3 0 j a) = argO m c (ix3 0 j a) :=
  (blk_3 (V m c main_v5) t j a).trans (congrFun (V_o m c) (ix3 0 j a))

/-- A point whose blocks hold tile `n` leaves the tile's rows after the half step. -/
theorem point (X : S4x4096x1024.Idx → EReal) (W : S4x1024.Idx → EReal) (WI : S4x1024x5632.Idx → EReal)
    (WO : S4x2816x1024.Idx → EReal) (n : Fin 32) (t : Fin cfg0.N) (x0 : Vec Ideal S512x1024 .f32)
    (x1 : Vec Ideal S1x1024 .f32) (x2 : Vec Ideal S1x1024x5632 .bf16) (x3 : Vec Ideal S1x2816x1024 .bf16)
    (hx : ∀ i k, x0 (ix2 i k) = X (ix3 (batch (tile n i)) (pos (tile n i)) k))
    (hw : ∀ k, x1 (ix2 0 k) = W (ix2 0 k)) (hi : ∀ a k, x2 (ix3 0 a k) = WI (ix3 0 a k))
    (ho : ∀ j a, x3 (ix3 0 j a) = WO (ix3 0 j a)) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) x0 x1 x2 x3 =
      fun i => stepped X W WI WO (ix2 (tile n (i 0)) (i 1)) := by
  have h : ∀ (i : Fin 512) (j : Fin 1024),
      out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) x0 x1 x2 x3 (ix2 i j) =
        stepped X W WI WO (ix2 (tile n i) j) := fun i j => by
    rw [out_4]
    simp only [hx, hw, hi, ho]
    rfl
  exact funext fun i => by rw [eq_ix2 i]; exact h (i 0) (i 1)

theorem array_4 : (dats m 0 c).arrAt 4 cfg0.N = stepped (argX m c) (argN m c) (argI m c) (argO m c) := by
  refine (dats m 0 c).arrAt_eq_of_covers 4 (stepped (argX m c) (argN m c) (argI m c) (argO m c)) (by decide +kernel) fun t _ y => ?_
  have ht : t.val < 32 := lt_of_lt_of_eq t.isLt (show cfg0.N = 32 from N_0)
  have h := point c (argX m c) (argN m c) (argI m c) (argO m c) ⟨t.val, ht⟩ t _ _ _ _ (iblk_x m c ⟨t.val, ht⟩ t rfl)
    (iblk_n m c t) (iblk_i m c t) (iblk_o m c t)
  rw [after0_4 m c t]
  unfold outsAt0
  rw [h]
  exact (congrFun (blk_4 (stepped (argX m c) (argN m c) (argI m c) (argO m c)) ⟨t.val, ht⟩ t rfl) y).symm

end Cert.Ffn

end

end
-- ==== Proof.Ffn.lean ====
/-
  The half step's claims: the kernel and the reference both leave each token's row plus half of its feed-forward
  network.
-/
module

public import proofs.«01_k».proof.Defs
public import proofs.«01_k».proof.Proof.FfnKernel
public import proofs.«01_k».proof.Proof.Gen.Reference2Ideal.Read
public import Idealize.ShloMosaic.Lib.Quiescent

@[expose] public section

set_option maxRecDepth 16384

noncomputable section

namespace Cert.Ffn

open Cert.Reference2Ideal Cert.Reference2Ideal.Gen Cert.Reference2Ideal.Read Cert.Rows Idealize.ShloMosaic Idealize.ShloMosaic.TcCoe Idealize.SL.Sem

theorem frame_reference : Cert.quiescent_Reference2Ideal (hReference2Ideal := Cert.Reference2Ideal.Gen.facts) := by
  intro m ρ _
  exact (θ_run Cert.Reference2Ideal.defs _ _).mono
    (fun r h => ⟨fun c => (h c).2, sem_eq_zero_of_no_sems (by decide) r.2⟩) (Cert.Reference2Ideal.Value.run m ρ)

/-- The reference's result, on any arrays. -/
theorem ref_stepped (X : S4x4096x1024.Idx → EReal) (W : S4x1024.Idx → EReal) (WI : S4x1024x5632.Idx → EReal)
    (WO : S4x2816x1024.Idx → EReal) :
    (val_main_v28 (F := Ideal) X W WI WO : S16384x1024.Idx → EReal) = stepped X W WI WO := by
  have hz : ∀ z : EReal, 0 - z = -z := fun z => by rw [sub_eq_add_neg, zero_add]
  have h : ∀ (r : Fin 16384) (d : Fin 1024), (val_main_v28 (F := Ideal) X W WI WO : S16384x1024.Idx → EReal) (ix2 r d) =
      stepped X W WI WO (ix2 r d) := fun r d => by
    simp only [val_main_v28, val_main_v27, val_main_v26, val_main_v25, val_main_cst_2, val_main_v24, val_main_v23, val_main_v22, val_main_call0_v5, val_main_call0_v4, val_main_call0_cst_0, val_main_call0_v3, val_main_call0_v2, val_main_call0_cst, val_main_call0_v1, val_main_call0_v0, val_main_v21, val_main_v20, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1, val_main_v0]
    pointwise [stepped, halfStep, act, silu, hid, rms, hz]
    rfl
  exact funext fun i => by rw [eq_ix2 i]; exact h (i 0) (i 1)

theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => stepped (argX m c) (argN m c) (argI m c) (argO m c), ?_, ?_⟩
  · exact (θ_run Cert.Kernel2Ideal.defs _ _).mono (fun r h c => ⟨(h c).1.trans (array_4 m c), (h c).2⟩)
      (Cert.Kernel2Ideal.Value.run_blocks m ρ)
  · refine (θ_run Cert.Reference2Ideal.defs _ _).mono (fun r h c => ⟨(h c).1.trans ?_, (h c).2⟩)
      (Cert.Reference2Ideal.Value.run m' ρ')
    refine (val_main_v28_eq _ _).trans ((ref_stepped (m' ((c : Thread nD τ).loc main_arg0)) (m' ((c : Thread nD τ).loc main_arg1))
      (m' ((c : Thread nD τ).loc main_arg2)) (m' ((c : Thread nD τ).loc main_arg3))).trans ?_)
    obtain ⟨h0, h1, h2, h3⟩ := hagree c
    exact congr (congr (congrArg₂ stepped h0 h1) h2) h3

end Cert.Ffn

end

end
-- ==== Proof.MergeKernel.lean ====
/-
  What the merge kernel leaves in its output array: each token's row plus its two branches, gated and projected.
-/
module

public import proofs.«01_k».proof.Proof.Gen.Kernel3Ideal.Value
public import proofs.«01_k».proof.Proof.Rms
public import Idealize.ShloMosaic.Lib.Pipeline.ReadBack
public import Idealize.ShloMosaic.Lib.Pipeline.ValueKit.Point

@[expose] public section

set_option maxRecDepth 16384

noncomputable section

namespace Cert.Merge

open Cert.Kernel3Ideal Cert.Kernel3Ideal.Gen Cert.Rows Idealize.ShloMosaic Idealize.ShloMosaic.TcCoe Idealize.SL.Sem

/-- The prompt after the first layer's mixers, laid out flat. -/
def merged (x : S4x4096x1024.Idx → EReal) (a b : S4x4096x512.Idx → EReal) (g : S4x4096x2048.Idx → EReal)
    (wa wb : S4x512x1024.Idx → EReal) (wo : S4x1024x1024.Idx → EReal) : S16384x1024.Idx → EReal := fun i =>
  mergeRow (fun k => x (ix3 (batch (i 0)) (pos (i 0)) k)) (fun k => a (ix3 (batch (i 0)) (pos (i 0)) k))
    (fun k => b (ix3 (batch (i 0)) (pos (i 0)) k)) (fun k => g (ix3 (batch (i 0)) (pos (i 0)) k))
    (fun k j => wa (ix3 0 k j)) (fun k j => wb (ix3 0 k j)) (fun j d => wo (ix3 0 j d)) (i 1)

/-- One grid point merges the rows of its block. -/
theorem out_7 (x0 : Vec Ideal S512x1024 .f32) (x1 x2 : Vec Ideal S512x512 .bf16) (x3 : Vec Ideal S512x2048 .f32)
    (x4 x5 : Vec Ideal S512x1024 .bf16) (x6 : Vec Ideal S1024x1024 .bf16) (r : Fin 512) (d : Fin 1024) :
    out0_7 x0 x1 x2 x3 x4 x5 x6 (ix2 r d) = mergeRow (fun k => x0 (ix2 r k)) (fun k => x1 (ix2 r k)) (fun k => x2 (ix2 r k))
      (fun k => x3 (ix2 r k)) (fun k j => x4 (ix2 k j)) (fun k j => x5 (ix2 k j)) (fun j d => x6 (ix2 j d)) d := by
  unfold out0_7
  simp (disch := decide) only [r0_0, r0_1, r0_2, r0_3, View.ld_unit_lit, View.canon_cons_unit_lit]
  unfold_payloads
  pointwise [mergeRow, gate]

/-- The prompt's rows laid out flat. -/
theorem flat_apply (X : S4x4096x1024.Idx → EReal) (r : Fin 16384) (k : Fin 1024) :
    shapeCast S16384x1024 X shapeCasts_S4x4096x1024_S16384x1024 (ix2 r k) = X (ix3 (batch r) (pos r) k) := by
  pointwise []
  rfl

/-- The second branch's rows laid out flat. -/
theorem flat_b (X : S4x4096x512.Idx → EReal) (r : Fin 16384) (k : Fin 512) :
    shapeCast S16384x512 X shapeCasts_S4x4096x512_S16384x512 (ix2 r k) = X (ix3 (batch r) (pos r) k) := by
  pointwise []
  rfl

/-- The gates' rows laid out flat. -/
theorem flat_g (X : S4x4096x2048.Idx → EReal) (r : Fin 16384) (k : Fin 2048) :
    shapeCast S16384x2048 X shapeCasts_S4x4096x2048_S16384x2048 (ix2 r k) = X (ix3 (batch r) (pos r) k) := by
  pointwise []
  rfl

/-- The first branch's rows laid out flat, their columns permuted. -/
theorem flat_a (X : S4x4096x512.Idx → EReal) (r : Fin 16384) (p : Fin 512) :
    shapeCast S16384x512 (transpose S16384x4x2x64 [0, 2, 1, 3] (shapeCast S16384x2x4x64 X shapeCasts_S4x4096x512_S16384x2x4x64)
      transposes_S16384x2x4x64_S16384x4x2x64_0_2_1_3) shapeCasts_S16384x4x2x64_S16384x512 (ix2 r p) = X (ix3 (batch r) (pos r) (head p)) := by
  pointwise []
  rfl

/-- The first branch's weights, their rows permuted. -/
theorem weight_a (X : S4x512x1024.Idx → EReal) (p : Fin 512) (j : Fin 1024) :
    shapeCast S512x1024 (transpose S4x2x64x1024 [1, 0, 2, 3] (shapeCast S2x4x64x1024 (shapeCast S512x1024
      (extractStridedSlice S1x512x1024 ![0, 0, 0] X slices_S4x512x1024_S1x512x1024_0_0_0) shapeCasts_S1x512x1024_S512x1024)
      shapeCasts_S512x1024_S2x4x64x1024) transposes_S2x4x64x1024_S4x2x64x1024_1_0_2_3) shapeCasts_S4x2x64x1024_S512x1024
      (ix2 p j) = X (ix3 0 (head p) j) := by
  pointwise []
  rfl

/-- The second branch's weights. -/
theorem weight_b (X : S4x512x1024.Idx → EReal) (k : Fin 512) (j : Fin 1024) :
    shapeCast S512x1024 (extractStridedSlice S1x512x1024 ![0, 0, 0] X slices_S4x512x1024_S1x512x1024_0_0_0)
      shapeCasts_S1x512x1024_S512x1024 (ix2 k j) = X (ix3 0 k j) := by
  pointwise []

/-- The projection's weights. -/
theorem weight_o (X : S4x1024x1024.Idx → EReal) (j d : Fin 1024) :
    shapeCast S1024x1024 (extractStridedSlice S1x1024x1024 ![0, 0, 0] X slices_S4x1024x1024_S1x1024x1024_0_0_0)
      shapeCasts_S1x1024x1024_S1024x1024 (ix2 j d) = X (ix3 0 j d) := by
  pointwise []

variable (m : (ℓ : Loc nD τ sig) → Buf (Elt Ideal) ℓ) (c : Dev nD)

abbrev argX : S4x4096x1024.Idx → EReal := m ((c : Thread nD τ).loc main_arg0)
abbrev argA : S4x4096x512.Idx → EReal := m ((c : Thread nD τ).loc main_arg1)
abbrev argB : S4x4096x512.Idx → EReal := m ((c : Thread nD τ).loc main_arg2)
abbrev argG : S4x4096x2048.Idx → EReal := m ((c : Thread nD τ).loc main_arg3)
abbrev argWA : S4x512x1024.Idx → EReal := m ((c : Thread nD τ).loc main_arg4)
abbrev argWB : S4x512x1024.Idx → EReal := m ((c : Thread nD τ).loc main_arg5)
abbrev argWO : S4x1024x1024.Idx → EReal := m ((c : Thread nD τ).loc main_arg6)

theorem V_x (r : Fin 16384) (k : Fin 1024) : (V m c main_v0 : S16384x1024.Idx → EReal) (ix2 r k) = argX m c (ix3 (batch r) (pos r) k) := by
  have e : (V m c main_v0 : S16384x1024.Idx → EReal) = shapeCast S16384x1024 (argX m c) shapeCasts_S4x4096x1024_S16384x1024 := by
    show StableHlo.after hostOps0 _ (Proc.devRef .tc main_v0) = _
    simp only [hostOps0]
    after_results
    rfl
  rw [e, flat_apply]

theorem V_a (r : Fin 16384) (k : Fin 512) : (V m c main_v16 : S16384x512.Idx → EReal) (ix2 r k) = argA m c (ix3 (batch r) (pos r) (head k)) := by
  have e : (V m c main_v16 : S16384x512.Idx → EReal) = shapeCast S16384x512 (transpose S16384x4x2x64 [0, 2, 1, 3]
      (shapeCast S16384x2x4x64 (argA m c) shapeCasts_S4x4096x512_S16384x2x4x64) transposes_S16384x2x4x64_S16384x4x2x64_0_2_1_3)
      shapeCasts_S16384x4x2x64_S16384x512 := by
    show StableHlo.after hostOps0 _ (Proc.devRef .tc main_v16) = _
    simp only [hostOps0]
    after_results
    rfl
  rw [e, flat_a]

theorem V_b (r : Fin 16384) (k : Fin 512) : (V m c main_v18 : S16384x512.Idx → EReal) (ix2 r k) = argB m c (ix3 (batch r) (pos r) k) := by
  have e : (V m c main_v18 : S16384x512.Idx → EReal) = shapeCast S16384x512 (argB m c) shapeCasts_S4x4096x512_S16384x512 := by
    show StableHlo.after hostOps0 _ (Proc.devRef .tc main_v18) = _
    simp only [hostOps0]
    after_results
    rfl
  rw [e, flat_b]

theorem V_g (r : Fin 16384) (k : Fin 2048) : (V m c main_v19 : S16384x2048.Idx → EReal) (ix2 r k) = argG m c (ix3 (batch r) (pos r) k) := by
  have e : (V m c main_v19 : S16384x2048.Idx → EReal) = shapeCast S16384x2048 (argG m c) shapeCasts_S4x4096x2048_S16384x2048 := by
    show StableHlo.after hostOps0 _ (Proc.devRef .tc main_v19) = _
    simp only [hostOps0]
    after_results
    rfl
  rw [e, flat_g]

theorem V_wa (k : Fin 512) (j : Fin 1024) : (V m c main_v9 : S512x1024.Idx → EReal) (ix2 k j) = argWA m c (ix3 0 (head k) j) := by
  have e : (V m c main_v9 : S512x1024.Idx → EReal) = shapeCast S512x1024 (transpose S4x2x64x1024 [1, 0, 2, 3] (shapeCast S2x4x64x1024
      (shapeCast S512x1024 (extractStridedSlice S1x512x1024 ![0, 0, 0] (argWA m c) slices_S4x512x1024_S1x512x1024_0_0_0)
      shapeCasts_S1x512x1024_S512x1024) shapeCasts_S512x1024_S2x4x64x1024) transposes_S2x4x64x1024_S4x2x64x1024_1_0_2_3)
      shapeCasts_S4x2x64x1024_S512x1024 := by
    show StableHlo.after hostOps0 _ (Proc.devRef .tc main_v9) = _
    simp only [hostOps0]
    after_results
    rfl
  rw [e, weight_a]

theorem V_wb (k : Fin 512) (j : Fin 1024) : (V m c main_v12 : S512x1024.Idx → EReal) (ix2 k j) = argWB m c (ix3 0 k j) := by
  have e : (V m c main_v12 : S512x1024.Idx → EReal) = shapeCast S512x1024 (extractStridedSlice S1x512x1024 ![0, 0, 0] (argWB m c)
      slices_S4x512x1024_S1x512x1024_0_0_0) shapeCasts_S1x512x1024_S512x1024 := by
    show StableHlo.after hostOps0 _ (Proc.devRef .tc main_v12) = _
    simp only [hostOps0]
    after_results
    rfl
  rw [e, weight_b]

theorem V_wo (j d : Fin 1024) : (V m c main_v15 : S1024x1024.Idx → EReal) (ix2 j d) = argWO m c (ix3 0 j d) := by
  have e : (V m c main_v15 : S1024x1024.Idx → EReal) = shapeCast S1024x1024 (extractStridedSlice S1x1024x1024 ![0, 0, 0] (argWO m c)
      slices_S4x1024x1024_S1x1024x1024_0_0_0) shapeCasts_S1x1024x1024_S1024x1024 := by
    show StableHlo.after hostOps0 _ (Proc.devRef .tc main_v15) = _
    simp only [hostOps0]
    after_results
    rfl
  rw [e, weight_o]

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![t.val, 0] := (by decide +kernel : ∀ t : Fin grid0.N, _)

theorem blk_0 (X : Vec Ideal S16384x1024 .f32) (n : Fin 32) (t : Fin cfg0.N) (ht : t.val = n.val) (i : Fin 512) (j : Fin 1024) :
    (((cfg0.win 0).blk t).view.read (Elt Ideal) X : Vec Ideal S512x1024 .f32) (ix2 i j) = X (ix2 (tile n i) j) := by
  blk_simp []
  blk_ext [idx_0 t]
  rw [ht]
  rfl

theorem blk_1 (X : Vec Ideal S16384x512 .bf16) (n : Fin 32) (t : Fin cfg0.N) (ht : t.val = n.val) (i : Fin 512) (j : Fin 512) :
    (((cfg0.win 1).blk t).view.read (Elt Ideal) X : Vec Ideal S512x512 .bf16) (ix2 i j) = X (ix2 (tile n i) j) := by
  blk_simp []
  blk_ext [idx_1 t]
  rw [ht]
  rfl

theorem blk_2 (X : Vec Ideal S16384x512 .bf16) (n : Fin 32) (t : Fin cfg0.N) (ht : t.val = n.val) (i : Fin 512) (j : Fin 512) :
    (((cfg0.win 2).blk t).view.read (Elt Ideal) X : Vec Ideal S512x512 .bf16) (ix2 i j) = X (ix2 (tile n i) j) := by
  blk_simp []
  blk_ext [idx_2 t]
  rw [ht]
  rfl

theorem blk_3 (X : Vec Ideal S16384x2048 .f32) (n : Fin 32) (t : Fin cfg0.N) (ht : t.val = n.val) (i : Fin 512) (j : Fin 2048) :
    (((cfg0.win 3).blk t).view.read (Elt Ideal) X : Vec Ideal S512x2048 .f32) (ix2 i j) = X (ix2 (tile n i) j) := by
  blk_simp []
  blk_ext [idx_3 t]
  rw [ht]
  rfl

theorem blk_4 (X : Vec Ideal S512x1024 .bf16) (t : Fin cfg0.N) (i : Fin 512) (j : Fin 1024) :
    (((cfg0.win 4).blk t).view.read (Elt Ideal) X : Vec Ideal S512x1024 .bf16) (ix2 i j) = X (ix2 i j) := by
  blk_simp []
  blk_ext [idx_4 t]

theorem blk_5 (X : Vec Ideal S512x1024 .bf16) (t : Fin cfg0.N) (i : Fin 512) (j : Fin 1024) :
    (((cfg0.win 5).blk t).view.read (Elt Ideal) X : Vec Ideal S512x1024 .bf16) (ix2 i j) = X (ix2 i j) := by
  blk_simp []
  blk_ext [idx_5 t]

theorem blk_6 (X : Vec Ideal S1024x1024 .bf16) (t : Fin cfg0.N) (i : Fin 1024) (j : Fin 1024) :
    (((cfg0.win 6).blk t).view.read (Elt Ideal) X : Vec Ideal S1024x1024 .bf16) (ix2 i j) = X (ix2 i j) := by
  blk_simp []
  blk_ext [idx_6 t]

theorem blk_7 (X : Vec Ideal S16384x1024 .f32) (n : Fin 32) (t : Fin cfg0.N) (ht : t.val = n.val) :
    (((cfg0.win 7).blk t).view.read (Elt Ideal) X : Vec Ideal S512x1024 .f32) = fun i => X (ix2 (tile n (i 0)) (i 1)) := by
  have h : ∀ (i : Fin 512) (j : Fin 1024),
      (((cfg0.win 7).blk t).view.read (Elt Ideal) X : Vec Ideal S512x1024 .f32) (ix2 i j) = X (ix2 (tile n i) j) := fun i j => by
    blk_simp []
    blk_ext [idx_7 t]
    rw [ht]
    rfl
  exact funext fun i => by rw [eq_ix2 i]; exact h (i 0) (i 1)

theorem iblk_x (n : Fin 32) (t : Fin cfg0.N) (ht : t.val = n.val) (i : Fin 512) (k : Fin 1024) :
    (iblk m c 0 t : Vec Ideal S512x1024 .f32) (ix2 i k) = argX m c (ix3 (batch (tile n i)) (pos (tile n i)) k) :=
  (blk_0 (V m c main_v0) n t ht i k).trans (V_x m c (tile n i) k)

theorem iblk_a (n : Fin 32) (t : Fin cfg0.N) (ht : t.val = n.val) (i : Fin 512) (k : Fin 512) :
    (iblk m c 1 t : Vec Ideal S512x512 .bf16) (ix2 i k) = argA m c (ix3 (batch (tile n i)) (pos (tile n i)) (head k)) :=
  (blk_1 (V m c main_v16) n t ht i k).trans (V_a m c (tile n i) k)

theorem iblk_b (n : Fin 32) (t : Fin cfg0.N) (ht : t.val = n.val) (i : Fin 512) (k : Fin 512) :
    (iblk m c 2 t : Vec Ideal S512x512 .bf16) (ix2 i k) = argB m c (ix3 (batch (tile n i)) (pos (tile n i)) k) :=
  (blk_2 (V m c main_v18) n t ht i k).trans (V_b m c (tile n i) k)

theorem iblk_g (n : Fin 32) (t : Fin cfg0.N) (ht : t.val = n.val) (i : Fin 512) (k : Fin 2048) :
    (iblk m c 3 t : Vec Ideal S512x2048 .f32) (ix2 i k) = argG m c (ix3 (batch (tile n i)) (pos (tile n i)) k) :=
  (blk_3 (V m c main_v19) n t ht i k).trans (V_g m c (tile n i) k)

theorem iblk_wa (t : Fin cfg0.N) (k : Fin 512) (j : Fin 1024) :
    (iblk m c 4 t : Vec Ideal S512x1024 .bf16) (ix2 k j) = argWA m c (ix3 0 (head k) j) :=
  (blk_4 (V m c main_v9) t k j).trans (V_wa m c k j)

theorem iblk_wb (t : Fin cfg0.N) (k : Fin 512) (j : Fin 1024) :
    (iblk m c 5 t : Vec Ideal S512x1024 .bf16) (ix2 k j) = argWB m c (ix3 0 k j) :=
  (blk_5 (V m c main_v12) t k j).trans (V_wb m c k j)

theorem iblk_wo (t : Fin cfg0.N) (k : Fin 1024) (j : Fin 1024) :
    (iblk m c 6 t : Vec Ideal S1024x1024 .bf16) (ix2 k j) = argWO m c (ix3 0 k j) :=
  (blk_6 (V m c main_v15) t k j).trans (V_wo m c k j)

/-- A point whose blocks hold tile `n` leaves the tile's rows merged: the first branch's columns and its weights' rows are
    permuted alike, so their product is that of the arrays as given. -/
theorem point (X : S4x4096x1024.Idx → EReal) (A B : S4x4096x512.Idx → EReal) (G : S4x4096x2048.Idx → EReal)
    (WA WB : S4x512x1024.Idx → EReal) (WO : S4x1024x1024.Idx → EReal) (n : Fin 32)
    (x0 : Vec Ideal S512x1024 .f32) (x1 x2 : Vec Ideal S512x512 .bf16) (x3 : Vec Ideal S512x2048 .f32)
    (x4 x5 : Vec Ideal S512x1024 .bf16) (x6 : Vec Ideal S1024x1024 .bf16)
    (hx : ∀ i k, x0 (ix2 i k) = X (ix3 (batch (tile n i)) (pos (tile n i)) k))
    (ha : ∀ i k, x1 (ix2 i k) = A (ix3 (batch (tile n i)) (pos (tile n i)) (head k)))
    (hb : ∀ i k, x2 (ix2 i k) = B (ix3 (batch (tile n i)) (pos (tile n i)) k))
    (hg : ∀ i k, x3 (ix2 i k) = G (ix3 (batch (tile n i)) (pos (tile n i)) k))
    (hwa : ∀ k j, x4 (ix2 k j) = WA (ix3 0 (head k) j)) (hwb : ∀ k j, x5 (ix2 k j) = WB (ix3 0 k j))
    (hwo : ∀ j d, x6 (ix2 j d) = WO (ix3 0 j d)) :
    out0_7 x0 x1 x2 x3 x4 x5 x6 = fun i => merged X A B G WA WB WO (ix2 (tile n (i 0)) (i 1)) := by
  have h : ∀ (i : Fin 512) (d : Fin 1024),
      out0_7 x0 x1 x2 x3 x4 x5 x6 (ix2 i d) = merged X A B G WA WB WO (ix2 (tile n i) d) := fun i d => by
    have hs : ∀ j : Fin 1024, ∑ k : Fin 512, A (ix3 (batch (tile n i)) (pos (tile n i)) (head k)) * WA (ix3 0 (head k) j) =
        ∑ k : Fin 512, A (ix3 (batch (tile n i)) (pos (tile n i)) k) * WA (ix3 0 k j) := fun j =>
      sum_head fun q => A (ix3 (batch (tile n i)) (pos (tile n i)) q) * WA (ix3 0 q j)
    rw [out_7]
    simp only [mergeRow, hx, ha, hb, hg, hwa, hwb, hwo, hs]
    rfl
  exact funext fun i => by rw [eq_ix2 i]; exact h (i 0) (i 1)

theorem array_7 : (dats m 0 c).arrAt 7 cfg0.N =
    merged (argX m c) (argA m c) (argB m c) (argG m c) (argWA m c) (argWB m c) (argWO m c) := by
  refine (dats m 0 c).arrAt_eq_of_covers 7
    (merged (argX m c) (argA m c) (argB m c) (argG m c) (argWA m c) (argWB m c) (argWO m c)) (by decide +kernel) fun t _ y => ?_
  have ht : t.val < 32 := lt_of_lt_of_eq t.isLt (show cfg0.N = 32 from N_0)
  have h := point (argX m c) (argA m c) (argB m c) (argG m c) (argWA m c) (argWB m c) (argWO m c) ⟨t.val, ht⟩ _ _ _ _ _ _ _
    (iblk_x m c ⟨t.val, ht⟩ t rfl) (iblk_a m c ⟨t.val, ht⟩ t rfl) (iblk_b m c ⟨t.val, ht⟩ t rfl) (iblk_g m c ⟨t.val, ht⟩ t rfl)
    (iblk_wa m c t) (iblk_wb m c t) (iblk_wo m c t)
  rw [after0_7 m c t, h]
  exact (congrFun (blk_7 (merged (argX m c) (argA m c) (argB m c) (argG m c) (argWA m c) (argWB m c) (argWO m c)) ⟨t.val, ht⟩ t rfl) y).symm

end Cert.Merge

end

end
-- ==== Proof.Merge.lean ====
/-
  The merge's claims: the kernel and the reference both leave each token's row plus its two branches, gated and projected.
-/
module

public import proofs.«01_k».proof.Defs
public import proofs.«01_k».proof.Proof.MergeKernel
public import proofs.«01_k».proof.Proof.Gen.Reference3Ideal.Read
public import Idealize.ShloMosaic.Lib.Quiescent

@[expose] public section

set_option maxRecDepth 16384

noncomputable section

namespace Cert.Merge

open Cert.Reference3Ideal Cert.Reference3Ideal.Gen Cert.Reference3Ideal.Read Cert.Rows Idealize.ShloMosaic Idealize.ShloMosaic.TcCoe Idealize.SL.Sem

theorem frame_reference : Cert.quiescent_Reference3Ideal (hReference3Ideal := Cert.Reference3Ideal.Gen.facts) := by
  intro m ρ _
  exact (θ_run Cert.Reference3Ideal.defs _ _).mono
    (fun r h => ⟨fun c => (h c).2, sem_eq_zero_of_no_sems (by decide) r.2⟩) (Cert.Reference3Ideal.Value.run m ρ)

/-- The reference's result, on any arrays. -/
theorem ref_merged (X : S4x4096x1024.Idx → EReal) (A B : S4x4096x512.Idx → EReal) (G : S4x4096x2048.Idx → EReal)
    (WA WB : S4x512x1024.Idx → EReal) (WO : S4x1024x1024.Idx → EReal) :
    (val_main_v24 (F := Ideal) X A B G WA WB WO : S16384x1024.Idx → EReal) = merged X A B G WA WB WO := by
  have hz : ∀ z : EReal, 0 - z = -z := fun z => by rw [sub_eq_add_neg, zero_add]
  have h : ∀ (r : Fin 16384) (d : Fin 1024), (val_main_v24 (F := Ideal) X A B G WA WB WO : S16384x1024.Idx → EReal) (ix2 r d) =
      merged X A B G WA WB WO (ix2 r d) := fun r d => by
    simp only [val_main_v24, val_main_v23, val_main_v22, val_main_v21, val_main_v20, val_main_v19, val_main_v18, val_main_v17, val_main_v16, val_main_v15, val_main_v14, val_main_v13, val_main_v12, val_main_v11, val_main_v10, val_main_cst_0, val_main_v9, val_main_v8, val_main_cst, val_main_v7, val_main_v6, val_main_v5, val_main_v4, val_main_v3, val_main_v2, val_main_v1, val_main_v0]
    pointwise [merged, mergeRow, gate, hz]
    rfl
  exact funext fun i => by rw [eq_ix2 i]; exact h (i 0) (i 1)

theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => merged (argX m c) (argA m c) (argB m c) (argG m c) (argWA m c) (argWB m c) (argWO m c), ?_, ?_⟩
  · exact (θ_run Cert.Kernel3Ideal.defs _ _).mono (fun r h c => ⟨(h c).1.trans (array_7 m c), (h c).2⟩)
      (Cert.Kernel3Ideal.Value.run_blocks m ρ)
  · refine (θ_run Cert.Reference3Ideal.defs _ _).mono (fun r h c => ⟨(h c).1.trans ?_, (h c).2⟩)
      (Cert.Reference3Ideal.Value.run m' ρ')
    refine (val_main_v24_eq _ _ _ _ _ _ _).trans ((ref_merged (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6))).trans ?_)
    obtain ⟨h0, h1, h2, h3, h4, h5, h6⟩ := hagree c
    exact congr (congr (congr (congr (congr (congrArg₂ merged h0 h1) h2) h3) h4) h5) h6

end Cert.Merge

end

end
-- ==== Proof.NormKernel.lean ====
/-
  What the final normalization's kernel leaves in its output array: each token's row, normalized.
-/
module

public import proofs.«01_k».proof.Proof.Gen.Kernel4Ideal.Value
public import proofs.«01_k».proof.Proof.Rms
public import Idealize.ShloMosaic.Lib.Pipeline.ReadBack
public import Idealize.ShloMosaic.Lib.Pipeline.ValueKit.Point

@[expose] public section

set_option maxRecDepth 16384

noncomputable section

namespace Cert.Norm

open Cert.Kernel4Ideal Cert.Kernel4Ideal.Gen Cert.Rows Idealize.ShloMosaic Idealize.ShloMosaic.TcCoe Idealize.SL.Sem

/-- The normalized rows of the prompt, laid out flat. -/
def normed (x : S4x4096x1024.Idx → EReal) (w : S1024.Idx → EReal) : S16384x1024.Idx → EReal := fun i =>
  rms (fun k => x (ix3 (batch (i 0)) (pos (i 0)) k)) (fun k => w (ix1 k)) (i 1)

/-- One grid point normalizes the rows of its block. -/
theorem out_2 (x0 : Vec Ideal S512x1024 .f32) (x1 : Vec Ideal S1x1024 .f32) (r : Fin 512) (d : Fin 1024) :
    out0_2 x0 x1 (ix2 r d) = rms (fun k => x0 (ix2 r k)) (fun k => x1 (ix2 0 k)) d := by
  unfold out0_2
  simp (disch := decide) only [r0_0, r0_1, View.ld_unit_lit, View.canon_cons_unit_lit]
  unfold_payloads
  pointwise [rms]

/-- The prompt's rows laid out flat. -/
theorem flat_apply (X : S4x4096x1024.Idx → EReal) (r : Fin 16384) (k : Fin 1024) :
    shapeCast S16384x1024 X shapeCasts_S4x4096x1024_S16384x1024 (ix2 r k) = X (ix3 (batch r) (pos r) k) := by
  pointwise []
  rfl

/-- The norm's weight as a row. -/
theorem weight_apply (X : S1024.Idx → EReal) (k : Fin 1024) :
    broadcastInDim S1x1024 ![1] bcast_S1024_S1x1024_1 X (ix2 0 k) = X (ix1 k) := by
  pointwise []

variable (m : (ℓ : Loc nD τ sig) → Buf (Elt Ideal) ℓ) (c : Dev nD)

abbrev argX : S4x4096x1024.Idx → EReal := m ((c : Thread nD τ).loc main_arg0)
abbrev argW : S1024.Idx → EReal := m ((c : Thread nD τ).loc main_arg1)

theorem V_x (r : Fin 16384) (k : Fin 1024) :
    (V m c main_v0 : S16384x1024.Idx → EReal) (ix2 r k) = argX m c (ix3 (batch r) (pos r) k) := by
  have e : (V m c main_v0 : S16384x1024.Idx → EReal) = shapeCast S16384x1024 (argX m c) shapeCasts_S4x4096x1024_S16384x1024 := by
    show StableHlo.after hostOps0 _ (Proc.devRef .tc main_v0) = _
    simp only [hostOps0]
    after_results
    rfl
  rw [e, flat_apply]

theorem V_w (k : Fin 1024) : (V m c main_v1 : S1x1024.Idx → EReal) (ix2 0 k) = argW m c (ix1 k) := by
  have e : (V m c main_v1 : S1x1024.Idx → EReal) = broadcastInDim S1x1024 ![1] bcast_S1024_S1x1024_1 (argW m c) := by
    show StableHlo.after hostOps0 _ (Proc.devRef .tc main_v1) = _
    simp only [hostOps0]
    after_results
  rw [e, weight_apply]

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)

theorem blk_0 (X : Vec Ideal S16384x1024 .f32) (n : Fin 32) (t : Fin cfg0.N) (ht : t.val = n.val) (i : Fin 512) (j : Fin 1024) :
    (((cfg0.win 0).blk t).view.read (Elt Ideal) X : Vec Ideal S512x1024 .f32) (ix2 i j) = X (ix2 (tile n i) j) := by
  blk_simp []
  blk_ext [idx_0 t]
  rw [ht]
  rfl

theorem blk_1 (X : Vec Ideal S1x1024 .f32) (t : Fin cfg0.N) (i : Fin 1) (j : Fin 1024) :
    (((cfg0.win 1).blk t).view.read (Elt Ideal) X : Vec Ideal S1x1024 .f32) (ix2 i j) = X (ix2 i j) := by
  blk_simp []
  blk_ext [idx_1 t]

theorem blk_2 (X : Vec Ideal S16384x1024 .f32) (n : Fin 32) (t : Fin cfg0.N) (ht : t.val = n.val) :
    (((cfg0.win 2).blk t).view.read (Elt Ideal) X : Vec Ideal S512x1024 .f32) = fun i => X (ix2 (tile n (i 0)) (i 1)) := by
  have h : ∀ (i : Fin 512) (j : Fin 1024),
      (((cfg0.win 2).blk t).view.read (Elt Ideal) X : Vec Ideal S512x1024 .f32) (ix2 i j) = X (ix2 (tile n i) j) := fun i j => by
    blk_simp []
    blk_ext [idx_2 t]
    rw [ht]
    rfl
  exact funext fun i => by rw [eq_ix2 i]; exact h (i 0) (i 1)

theorem iblk_x (n : Fin 32) (t : Fin cfg0.N) (ht : t.val = n.val) (i : Fin 512) (k : Fin 1024) :
    (iblk m c 0 t : Vec Ideal S512x1024 .f32) (ix2 i k) = argX m c (ix3 (batch (tile n i)) (pos (tile n i)) k) :=
  (blk_0 (V m c main_v0) n t ht i k).trans (V_x m c (tile n i) k)

theorem iblk_w (t : Fin cfg0.N) (k : Fin 1024) :
    (iblk m c 1 t : Vec Ideal S1x1024 .f32) (ix2 0 k) = argW m c (ix1 k) :=
  (blk_1 (V m c main_v1) t 0 k).trans (V_w m c k)

/-- A point whose blocks hold tile `n` leaves the tile's rows normalized. -/
theorem point (X : S4x4096x1024.Idx → EReal) (W : S1024.Idx → EReal) (n : Fin 32) (x0 : Vec Ideal S512x1024 .f32)
    (x1 : Vec Ideal S1x1024 .f32) (hx : ∀ i k, x0 (ix2 i k) = X (ix3 (batch (tile n i)) (pos (tile n i)) k))
    (hw : ∀ k, x1 (ix2 0 k) = W (ix1 k)) :
    out0_2 x0 x1 = fun i => normed X W (ix2 (tile n (i 0)) (i 1)) := by
  have h : ∀ (i : Fin 512) (j : Fin 1024), out0_2 x0 x1 (ix2 i j) = normed X W (ix2 (tile n i) j) := fun i j => by
    rw [out_2]
    simp only [hx, hw]
    rfl
  exact funext fun i => by rw [eq_ix2 i]; exact h (i 0) (i 1)

theorem array_2 : (dats m 0 c).arrAt 2 cfg0.N = normed (argX m c) (argW m c) := by
  refine (dats m 0 c).arrAt_eq_of_covers 2 (normed (argX m c) (argW m c)) (by decide +kernel) fun t _ y => ?_
  have ht : t.val < 32 := lt_of_lt_of_eq t.isLt (show cfg0.N = 32 from N_0)
  have h := point (argX m c) (argW m c) ⟨t.val, ht⟩ _ _ (iblk_x m c ⟨t.val, ht⟩ t rfl) (iblk_w m c t)
  rw [after0_2 m c t, h]
  exact (congrFun (blk_2 (normed (argX m c) (argW m c)) ⟨t.val, ht⟩ t rfl) y).symm

end Cert.Norm

end

end
-- ==== Proof.Norm.lean ====
/-
  The final normalization's claims: the kernel and the reference both leave each token's row normalized.
-/
module

public import proofs.«01_k».proof.Defs
public import proofs.«01_k».proof.Proof.NormKernel
public import proofs.«01_k».proof.Proof.Gen.Reference4Ideal.Read
public import Idealize.ShloMosaic.Lib.Quiescent

@[expose] public section

set_option maxRecDepth 16384

noncomputable section

namespace Cert.Norm

open Cert.Reference4Ideal Cert.Reference4Ideal.Gen Cert.Reference4Ideal.Read Cert.Rows Idealize.ShloMosaic Idealize.ShloMosaic.TcCoe Idealize.SL.Sem

theorem frame_reference : Cert.quiescent_Reference4Ideal (hReference4Ideal := Cert.Reference4Ideal.Gen.facts) := by
  intro m ρ _
  exact (θ_run Cert.Reference4Ideal.defs _ _).mono
    (fun r h => ⟨fun c => (h c).2, sem_eq_zero_of_no_sems (by decide) r.2⟩) (Cert.Reference4Ideal.Value.run m ρ)

/-- The reference's result, on any arrays. -/
theorem ref_normed (X : S4x4096x1024.Idx → EReal) (W : S1024.Idx → EReal) :
    (val_main_v13 (F := Ideal) X W : S16384x1024.Idx → EReal) = normed X W := by
  have h : ∀ (r : Fin 16384) (d : Fin 1024), (val_main_v13 (F := Ideal) X W : S16384x1024.Idx → EReal) (ix2 r d) =
      normed X W (ix2 r d) := fun r d => by
    simp only [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
    pointwise [normed, rms]
    rfl
  exact funext fun i => by rw [eq_ix2 i]; exact h (i 0) (i 1)

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => normed (argX m c) (argW m c), ?_, ?_⟩
  · exact (θ_run Cert.Kernel4Ideal.defs _ _).mono (fun r h c => ⟨(h c).1.trans (array_2 m c), (h c).2⟩)
      (Cert.Kernel4Ideal.Value.run_blocks m ρ)
  · refine (θ_run Cert.Reference4Ideal.defs _ _).mono (fun r h c => ⟨(h c).1.trans ?_, (h c).2⟩)
      (Cert.Reference4Ideal.Value.run m' ρ')
    refine (val_main_v13_eq _ _).trans ((ref_normed (m' ((c : Thread nD τ).loc main_arg0)) (m' ((c : Thread nD τ).loc main_arg1))).trans ?_)
    exact congrArg₂ normed (hagree c).1 (hagree c).2

end Cert.Norm

end

end
-- ==== Proof.MixRow.lean ====
/-
  The mixers' input projection on a row: the normalized row times a column of the weights, and the rotary embedding of two
  heads lying side by side.
-/
module

public import proofs.«01_k».proof.Proof.Rms

@[expose] public section

noncomputable section

namespace Cert.Rows

open Idealize.ShloMosaic

/-- A column of the projection of a row: the normalized row times a column of the weights. -/
def proj {n : ℕ} (x nw : Fin 1024 → EReal) (w : Fin 1024 → Fin n → EReal) (k : Fin n) : EReal :=
  ∑ d : Fin 1024, rms x nw d * w d k

/-- The lane that the rotary embedding turns a lane with: the other half of the same head of `64` lanes. -/
def partner (l : Fin 128) : Fin 128 := if l.val % 64 < 32 then ⟨(l.val + 32) % 128, by omega⟩ else ⟨(l.val + 96) % 128, by omega⟩

/-- Two heads turned: each lane times its cosine plus its partner times its signed sine. -/
def turned (z cs sn : Fin 128 → EReal) (l : Fin 128) : EReal := z l * cs l + z (partner l) * sn l

/-- The scale of the queries. -/
def qscale : EReal := Ideal.ofBits .f32 0x3E38AA3B#32

/-- The queries of a row of packed columns `p`, scaled. -/
def qrawRow (p : Fin 5504 → EReal) (k : Fin 512) : EReal := p ⟨k.val, by omega⟩ * qscale

/-- The queries turned, two heads at a time, and scaled. -/
def qrotRow (p : Fin 5504 → EReal) (cs sn : Fin 128 → EReal) (k : Fin 512) : EReal :=
  turned (fun l => p ⟨k.val / 128 * 128 + l.val, by omega⟩) cs sn ⟨k.val % 128, by omega⟩ * qscale

/-- The `128` columns from column `o` on turned. -/
def turnRow (p : Fin 5504 → EReal) (cs sn : Fin 128 → EReal) (o : ℕ) (h : o + 128 ≤ 5504) (l : Fin 128) : EReal :=
  turned (fun l => p ⟨o + l.val, by omega⟩) cs sn l

/-- A row's compressed keys and values, its selected keys, turned, and its selected values. -/
def rowsRow (p : Fin 5504 → EReal) (cs sn : Fin 128 → EReal) (k : Fin 512) : EReal :=
  if k.val / 128 = 2 then turnRow p cs sn 768 (by omega) ⟨k.val % 128, by omega⟩ else p ⟨512 + k.val, by omega⟩

/-- A row's window keys, turned, and its window values. -/
def winRow (p : Fin 5504 → EReal) (cs sn : Fin 128 → EReal) (k : Fin 256) : EReal :=
  if k.val / 128 = 0 then turnRow p cs sn 1024 (by omega) ⟨k.val % 128, by omega⟩ else p ⟨1024 + k.val, by omega⟩

/-- Row `i` of tile `n` of `256` rows, among the flat rows. -/
def tile256 (n : Fin 64) (i : Fin 256) : Fin 16384 := ⟨n.val * 256 + i.val, by omega⟩

/-- The columns of a row of the weights in the order in which the kernel packs them: the two gates' four columns each follow
    the branches' gate, `96` columns of zeros fill up their group, and the delta rule's columns follow. -/
def packed (w : Fin 5408 → EReal) (k : Fin 5504) : EReal :=
  if h : k.val < 1304 then w ⟨k.val, by omega⟩
  else if h : k.val < 1312 then w ⟨k.val + 1536, by omega⟩
  else if h : k.val < 1408 then 0
  else if h : k.val < 2944 then w ⟨k.val - 104, by omega⟩
  else w ⟨k.val - 96, by omega⟩

/-- The rotary embedding's angle at a position, for one of the `32` frequencies. -/
def angle (p : Fin 4096) (f : ℕ) : EReal :=
  FloatOps.sitofp (F := Ideal) .f32 (BitVec.ofNat 32 p.val) * Ideal.pow (Ideal.ofBits .f32 0x461C4000#32)
    (Ideal.div (-FloatOps.sitofp (F := Ideal) .f32 (BitVec.ofNat 32 f)) (Ideal.ofBits .f32 0x42000000#32))

/-- The table of cosines. -/
def cosT (p : Fin 4096) (l : Fin 128) : EReal := Ideal.cos (angle p (l.val % 32))

/-- The table of signed sines: negative on the first half of a head. -/
def sinT (p : Fin 4096) (l : Fin 128) : EReal :=
  if l.val % 64 < 32 then -Ideal.sin (angle p (l.val % 32)) else Ideal.sin (angle p (l.val % 32))

/-- The columns from column `o` on. -/
def shift {n : ℕ} (p : Fin 5504 → EReal) (o : ℕ) (h : o + n ≤ 5504) (k : Fin n) : EReal := p ⟨o + k.val, by omega⟩

/-- The batch entry of a tile of `256` rows. -/
def entry (n : Fin 64) : Fin 4 := ⟨n.val / 16, by omega⟩

/-- The position of a row of a tile in its batch entry. -/
def place (n : Fin 64) (i : Fin 256) : Fin 4096 := ⟨n.val % 16 * 256 + i.val, by omega⟩

/-- The flat row of a position of a batch entry. -/
def flatRow (b : Fin 4) (t : Fin 4096) : Fin 16384 := ⟨b.val * 4096 + t.val, by omega⟩

theorem pos_tile (n : Fin 64) (i : Fin 256) : pos (tile256 n i) = place n i := by
  apply Fin.ext
  show (n.val * 256 + i.val) % 4096 = n.val % 16 * 256 + i.val
  omega

theorem flat_place (n : Fin 64) (i : Fin 256) : flatRow (entry n) (place n i) = tile256 n i := by
  apply Fin.ext
  show n.val / 16 * 4096 + (n.val % 16 * 256 + i.val) = n.val * 256 + i.val
  omega

end Cert.Rows

end

end
-- ==== Proof.MixTurn.lean ====
/-
  The values that one grid point of the input projection's kernel shares between its outputs: the packed columns of its
  rows, and two heads turned by a rotation of the lanes either way and a choice of one of them per lane.
-/
module

public import proofs.«01_k».proof.Proof.Gen.Kernel5Ideal.Value
public import proofs.«01_k».proof.Proof.MixRow
public import Idealize.ShloMosaic.Lib.Pipeline.ReadBack
public import Idealize.ShloMosaic.Lib.Pipeline.ValueKit.Point

@[expose] public section

set_option maxRecDepth 16384

noncomputable section

namespace Cert.Mix

open Cert.Kernel5Ideal Cert.Kernel5Ideal.Gen Cert.Rows Idealize.ShloMosaic Idealize.ShloMosaic.TcCoe Idealize.SL.Sem

/-- The kernel's test whether a lane lies in the first half of its head, on 32-bit integers. -/
abbrev lower (l : Fin 128) : BitVec 1 :=
  IntOp.cmpi CmpIPredicate.slt
    (Scalar.select
      (IntOp.andi
        (IntOp.xori
          (IntOp.cmpi CmpIPredicate.slt
            (IntOp.remsi ArithUnit.vector (BitVec.ofNat 32 l.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32)
            0#32))
        (IntOp.cmpi CmpIPredicate.ne
          (IntOp.remsi ArithUnit.vector (BitVec.ofNat 32 l.val)
            (Scalar.select (Scalar.cmpi CmpIPredicate.eq 64#32 0#32) 1#32 64#32))
          0#32))
      (IntOp.addi
        (IntOp.remsi ArithUnit.vector (BitVec.ofNat 32 l.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val)
        (Scalar.select (Scalar.cmpi CmpIPredicate.eq 64#32 0#32) 1#32 64#32)))
    32#32

/-- The test says what it should. -/
theorem lower_eq (l : Fin 128) : lower l = if l.val % 64 < 32 then 1#1 else 0#1 :=
  (by decide +kernel : ∀ l : Fin 128, lower l = if l.val % 64 < 32 then 1#1 else 0#1) l

/-- The lanes rotated either way and chosen by the test: each lane's partner. -/
theorem choose (f : Fin 128 → EReal) (l : Fin 128) :
    Scalar.select (lower l) (f ⟨(l.val + 128 - 96) % 128, Nat.mod_lt _ (by decide)⟩) (f ⟨(l.val + 128 - 32) % 128, Nat.mod_lt _ (by decide)⟩) = f (partner l) := by
  rw [lower_eq]
  by_cases h : l.val % 64 < 32
  · rw [if_pos h, partner, if_pos h]
    exact congrArg f (Fin.ext (by show (l.val + 128 - 96) % 128 = (l.val + 32) % 128; omega))
  · rw [if_neg h, partner, if_neg h]
    exact congrArg f (Fin.ext (by show (l.val + 128 - 32) % 128 = (l.val + 96) % 128; omega))

/-- The selected keys. -/
theorem turn_27 (c s : Vec Ideal S256x128 .f32) (z : Vec Ideal S256x1408 .f32) (r : Fin 256) (l : Fin 128) :
    k0_pay27 (F := Ideal) c s z (ix2 r l) = turned (fun l => z (ix2 r ⟨768 + l.val, by omega⟩)) (fun l => c (ix2 r l)) (fun l => s (ix2 r l)) l := by
  unfold_payloads
  pointwise [turned]
  simp only [← Nat.add_assoc, Nat.reduceAdd]
  exact congrArg (fun t => z (ix2 r ⟨768 + l.val, by omega⟩) * c (ix2 r l) + t * s (ix2 r l)) (choose (fun l => z (ix2 r ⟨768 + l.val, by omega⟩)) l)

/-- The window keys. -/
theorem turn_32 (c s : Vec Ideal S256x128 .f32) (z : Vec Ideal S256x1408 .f32) (r : Fin 256) (l : Fin 128) :
    k0_pay32 (F := Ideal) c s (k0_pay29 z) (Scalar.select (Scalar.cmpi .eq 64#32 0#32) 1#32 64#32) k0_pay30 k0_pay31 (ix2 r l) =
      turned (fun l => z (ix2 r ⟨1024 + l.val, by omega⟩)) (fun l => c (ix2 r l)) (fun l => s (ix2 r l)) l := by
  unfold_payloads
  pointwise [turned]
  simp only [← Nat.add_assoc, Nat.reduceAdd]
  exact congrArg (fun t => z (ix2 r ⟨1024 + l.val, by omega⟩) * c (ix2 r l) + t * s (ix2 r l)) (choose (fun l => z (ix2 r ⟨1024 + l.val, by omega⟩)) l)

/-- The first two heads' queries. -/
theorem turn_9 (c s : Vec Ideal S256x128 .f32) (z : Vec Ideal S256x128 .f32) (r : Fin 256) (l : Fin 128) :
    k0_pay9 (F := Ideal) c s z (Scalar.select (Scalar.cmpi .eq 64#32 0#32) 1#32 64#32) k0_pay7 k0_pay8 (ix2 r l) =
      turned (fun l => z (ix2 r l)) (fun l => c (ix2 r l)) (fun l => s (ix2 r l)) l * qscale := by
  unfold_payloads
  pointwise [turned, qscale]
  exact congrArg (fun t => (z (ix2 r l) * c (ix2 r l) + t * s (ix2 r l)) * Ideal.ofBits .f32 0x3E38AA3B#32) (choose (fun l => z (ix2 r l)) l)

/-- The second two heads' queries. -/
theorem turn_14 (c s : Vec Ideal S256x128 .f32) (z : Vec Ideal S256x128 .f32) (r : Fin 256) (l : Fin 128) :
    k0_pay14 (F := Ideal) c s z (Scalar.select (Scalar.cmpi .eq 64#32 0#32) 1#32 64#32) k0_pay12 k0_pay13 (ix2 r l) =
      turned (fun l => z (ix2 r l)) (fun l => c (ix2 r l)) (fun l => s (ix2 r l)) l * qscale := by
  unfold_payloads
  pointwise [turned, qscale]
  exact congrArg (fun t => (z (ix2 r l) * c (ix2 r l) + t * s (ix2 r l)) * Ideal.ofBits .f32 0x3E38AA3B#32) (choose (fun l => z (ix2 r l)) l)

/-- The third two heads' queries. -/
theorem turn_19 (c s : Vec Ideal S256x128 .f32) (z : Vec Ideal S256x1408 .f32) (r : Fin 256) (l : Fin 128) :
    k0_pay19 (F := Ideal) c s (k0_pay15 z) k0_pay17 (k0_pay18 z) 32#32 (ix2 r l) =
      turned (fun l => z (ix2 r ⟨256 + l.val, by omega⟩)) (fun l => c (ix2 r l)) (fun l => s (ix2 r l)) l * qscale := by
  unfold_payloads
  pointwise [turned, qscale]
  exact congrArg (fun t => (z (ix2 r ⟨256 + l.val, by omega⟩) * c (ix2 r l) + t * s (ix2 r l)) * Ideal.ofBits .f32 0x3E38AA3B#32) (choose (fun l => z (ix2 r ⟨256 + l.val, by omega⟩)) l)

/-- The last two heads' queries. -/
theorem turn_22 (c s : Vec Ideal S256x128 .f32) (z : Vec Ideal S256x1408 .f32) (r : Fin 256) (l : Fin 128) :
    k0_pay22 (F := Ideal) c s z (ix2 r l) =
      turned (fun l => z (ix2 r ⟨384 + l.val, by omega⟩)) (fun l => c (ix2 r l)) (fun l => s (ix2 r l)) l * qscale := by
  unfold_payloads
  pointwise [turned, qscale]
  exact congrArg (fun t => (z (ix2 r ⟨384 + l.val, by omega⟩) * c (ix2 r l) + t * s (ix2 r l)) * Ideal.ofBits .f32 0x3E38AA3B#32) (choose (fun l => z (ix2 r ⟨384 + l.val, by omega⟩)) l)

/-- The packed columns of a block's row. -/
abbrev cols (x0 : S256x1024.Idx → EReal) (x1 : S1x1024.Idx → EReal) (x2 : S1x1024x5504.Idx → EReal) (r : Fin 256) : Fin 5504 → EReal :=
  proj (fun k => x0 (ix2 r k)) (fun k => x1 (ix2 0 k)) (fun d k => x2 (ix3 0 d k))

/-- The first product holds the first columns. -/
theorem first (i : grid0.Coords) (x0 : Vec Ideal S256x1024 .f32) (x1 : Vec Ideal S1x1024 .f32) (x2 : Vec Ideal S1x1024x5504 .bf16)
    (x3 x4 : Vec Ideal S256x128 .f32) (r : Fin 256) (k : Fin 1408) :
    k0_pay62 (F := Ideal) i x0 x1 x2 x3 x4 (ix2 r k) = cols x0 x1 x2 r ⟨k.val, by omega⟩ := by
  unfold k0_pay62
  simp (disch := decide) only [r0_0, r0_1, r0_3, View.ld_unit_lit]
  unfold_payloads
  pointwise [cols, proj, rms]

/-- The cosines of a block. -/
theorem cosines (i : grid0.Coords) (x0 : Vec Ideal S256x1024 .f32) (x1 : Vec Ideal S1x1024 .f32) (x2 : Vec Ideal S1x1024x5504 .bf16)
    (x3 x4 : Vec Ideal S256x128 .f32) (r : Fin 256) (l : Fin 128) : k0_pay60 (F := Ideal) i x0 x1 x2 x3 x4 (ix2 r l) = x3 (ix2 r l) := by
  unfold k0_pay60
  simp (disch := decide) only [r0_2, View.ld_unit_lit]
  unfold_payloads
  pointwise []

/-- The signed sines of a block. -/
theorem sines (i : grid0.Coords) (x0 : Vec Ideal S256x1024 .f32) (x1 : Vec Ideal S1x1024 .f32) (x2 : Vec Ideal S1x1024x5504 .bf16)
    (x3 x4 : Vec Ideal S256x128 .f32) (r : Fin 256) (l : Fin 128) : k0_pay61 (F := Ideal) i x0 x1 x2 x3 x4 (ix2 r l) = x4 (ix2 r l) := by
  unfold k0_pay61
  simp (disch := decide) only [r0_2, View.ld_unit_lit]
  unfold_payloads
  pointwise []

end Cert.Mix

end

end
-- ==== Proof.MixPoint.lean ====
/-
  What one grid point of the input projection's kernel leaves in each of its outputs' blocks.
-/
module

public import proofs.«01_k».proof.Proof.MixTurn

@[expose] public section

set_option maxRecDepth 16384

noncomputable section

namespace Cert.Mix

open Cert.Kernel5Ideal Cert.Kernel5Ideal.Gen Cert.Rows Idealize.ShloMosaic Idealize.ShloMosaic.TcCoe Idealize.SL.Sem

theorem all_piece {P : S256x128.Idx → Prop} (h : ∀ (r : Fin 256) (l : Fin 128), P (ix2 r l)) (x : S256x128.Idx) : P x := by
  rw [eq_ix2 x]
  exact h _ _

theorem all_rows {P : S1x1x128x256.Idx → Prop} (h : ∀ (a b : Fin 1) (l : Fin 128) (r : Fin 256), P (ix4 a b l r)) (x : S1x1x128x256.Idx) : P x := by
  rw [eq_ix4 x]
  exact h _ _ _ _

theorem all_win {P : S1x128x256.Idx → Prop} (h : ∀ (a : Fin 1) (l : Fin 128) (r : Fin 256), P (ix3 a l r)) (x : S1x128x256.Idx) : P x := by
  rw [eq_ix3 x]
  exact h _ _ _

/-- Where two heads' queries lie. -/
theorem emb_piece (o : ℕ) (h : o + 128 ≤ 512) (inb) (r : Fin 256) (l : Fin 128) :
    (Rect.unit (s := S256x512) ![0, o] ![256, 128] inb).emb (ix2 r l) = ix2 (n0 := 256) (n1 := 512) r ⟨o + l.val, by omega⟩ := by
  funext a
  apply Fin.ext
  fin_cases a <;> simp [Rect.emb, Rect.unit, ix2]

/-- Where two heads' rows lie. -/
theorem emb_rows (o : ℕ) (h : o + 128 ≤ 512) (inb) (a b : Fin 1) (l : Fin 128) (r : Fin 256) :
    (Rect.unit (s := S1x1x512x256) ![0, 0, o, 0] ![1, 1, 128, 256] inb).emb (ix4 a b l r) =
      ix4 (n0 := 1) (n1 := 1) (n2 := 512) (n3 := 256) a b ⟨o + l.val, by omega⟩ r := by
  funext a
  apply Fin.ext
  fin_cases a <;> simp [Rect.emb, Rect.unit, ix4]

/-- Where two heads' window rows lie. -/
theorem emb_win (o : ℕ) (h : o + 128 ≤ 256) (inb) (a : Fin 1) (l : Fin 128) (r : Fin 256) :
    (Rect.unit (s := S1x256x256) ![0, o, 0] ![1, 128, 256] inb).emb (ix3 a l r) =
      ix3 (n0 := 1) (n1 := 256) (n2 := 256) a ⟨o + l.val, by omega⟩ r := by
  funext a
  apply Fin.ext
  fin_cases a <;> simp [Rect.emb, Rect.unit, ix3]

/-- The columns `o + l` of a group of `128`, as the spec reads them. -/
theorem group (o : ℕ) (ho : o % 128 = 0) (l : Fin 128) : (o + l.val) / 128 * 128 = o ∧ (o + l.val) % 128 = l.val := by
  omega

/-- Queries at a column of a group. -/
theorem qrot_at (p : Fin 5504 → EReal) (cs sn : Fin 128 → EReal) (o : ℕ) (ho : o % 128 = 0) (h : o + 128 ≤ 512) (l : Fin 128) :
    qrotRow p cs sn ⟨o + l.val, by omega⟩ = turned (fun l => p ⟨o + l.val, by omega⟩) cs sn l * qscale := by
  unfold qrotRow
  have e1 : (fun j : Fin 128 => p ⟨(o + l.val) / 128 * 128 + j.val, by omega⟩) = fun j => p ⟨o + j.val, by omega⟩ :=
    funext fun j => congrArg p (Fin.ext (by show (o + l.val) / 128 * 128 + j.val = o + j.val; rw [(group o ho l).1]))
  have e2 : (⟨(o + l.val) % 128, by omega⟩ : Fin 128) = l := Fin.ext (group o ho l).2
  exact congrArg₂ (fun f j => turned f cs sn j * qscale) e1 e2

variable (i : grid0.Coords) (x0 : Vec Ideal S256x1024 .f32) (x1 : Vec Ideal S1x1024 .f32) (x2 : Vec Ideal S1x1024x5504 .bf16)
  (x3 x4 : Vec Ideal S256x128 .f32)

theorem turned_congr (f g cs sn cs' sn' : Fin 128 → EReal) (hf : ∀ l, f l = g l) (hc : ∀ l, cs l = cs' l) (hs : ∀ l, sn l = sn' l)
    (l : Fin 128) : turned f cs sn l = turned g cs' sn' l := by
  rw [show f = g from funext hf, show cs = cs' from funext hc, show sn = sn' from funext hs]

theorem out_8 (r : Fin 256) (k : Fin 1536) :
    out0_8 (F := Ideal) i x0 x1 x2 x3 x4 (ix2 r k) = cols x0 x1 x2 r ⟨1408 + k.val, by omega⟩ := by
  unfold out0_8 k0_pay59
  simp (disch := decide) only [r0_0, r0_1, r0_18, r0_19, View.ld_unit_lit, View.canon_cons_unit_lit]
  unfold_payloads
  pointwise [cols, proj, rms]

theorem out_9 (r : Fin 256) (k : Fin 512) :
    out0_9 (F := Ideal) i x0 x1 x2 x3 x4 (ix2 r k) = cols x0 x1 x2 r ⟨2944 + k.val, by omega⟩ := by
  unfold out0_9 k0_pay59
  simp (disch := decide) only [r0_0, r0_1, r0_20, r0_21, View.ld_unit_lit, View.canon_cons_unit_lit]
  unfold_payloads
  pointwise [cols, proj, rms]

theorem out_10 (r : Fin 256) (k : Fin 2048) :
    out0_10 (F := Ideal) i x0 x1 x2 x3 x4 (ix2 r k) = cols x0 x1 x2 r ⟨3456 + k.val, by omega⟩ := by
  unfold out0_10 k0_pay59
  simp (disch := decide) only [r0_0, r0_1, r0_22, r0_23, View.ld_unit_lit, View.canon_cons_unit_lit]
  unfold_payloads
  pointwise [cols, proj, rms]

theorem out_7 (r : Fin 256) (k : Fin 128) :
    out0_7 (F := Ideal) i x0 x1 x2 x3 x4 (ix2 r k) = cols x0 x1 x2 r ⟨1280 + k.val, by omega⟩ := by
  have h : out0_7 (F := Ideal) i x0 x1 x2 x3 x4 (ix2 r k) = k0_pay62 (F := Ideal) i x0 x1 x2 x3 x4 (ix2 r ⟨1280 + k.val, by omega⟩) := by
    unfold out0_7
    simp (disch := decide) only [r0_2, View.canon_cons_unit_lit]
    generalize k0_pay62 (F := Ideal) i x0 x1 x2 x3 x4 = z
    unfold_payloads
    pointwise []
    try simp only [← Nat.add_assoc, Nat.reduceAdd]
  exact h.trans (first i x0 x1 x2 x3 x4 r _)

theorem out_13 (r : Fin 256) (k : Fin 128) :
    out0_13 (F := Ideal) i x0 x1 x2 x3 x4 (ix2 r k) = cols x0 x1 x2 r ⟨512 + k.val, by omega⟩ := by
  have h : out0_13 (F := Ideal) i x0 x1 x2 x3 x4 (ix2 r k) = k0_pay62 (F := Ideal) i x0 x1 x2 x3 x4 (ix2 r ⟨512 + k.val, by omega⟩) := by
    unfold out0_13 k0_pay63
    simp (disch := decide) only [r0_2, View.canon_cons_unit_lit]
    generalize k0_pay62 (F := Ideal) i x0 x1 x2 x3 x4 = z
    unfold_payloads
    pointwise []
    try simp only [← Nat.add_assoc, Nat.reduceAdd]
  exact h.trans (first i x0 x1 x2 x3 x4 r _)

theorem out_14 (r : Fin 256) (k : Fin 128) :
    out0_14 (F := Ideal) i x0 x1 x2 x3 x4 (ix2 r k) = cols x0 x1 x2 r ⟨640 + k.val, by omega⟩ := by
  have h : out0_14 (F := Ideal) i x0 x1 x2 x3 x4 (ix2 r k) = k0_pay62 (F := Ideal) i x0 x1 x2 x3 x4 (ix2 r ⟨640 + k.val, by omega⟩) := by
    unfold out0_14 k0_pay64
    simp (disch := decide) only [r0_2, View.canon_cons_unit_lit]
    generalize k0_pay62 (F := Ideal) i x0 x1 x2 x3 x4 = z
    unfold_payloads
    pointwise []
    try simp only [← Nat.add_assoc, Nat.reduceAdd]
  exact h.trans (first i x0 x1 x2 x3 x4 r _)

/-- The window keys, turned. -/
theorem keys (r : Fin 256) (l : Fin 128) :
    k0_pay67 (F := Ideal) i x0 x1 x2 x3 x4 (ix2 r l) =
      turnRow (cols x0 x1 x2 r) (fun l => x3 (ix2 r l)) (fun l => x4 (ix2 r l)) 1024 (by omega) l := by
  unfold k0_pay67
  exact (turn_32 _ _ _ r l).trans (turned_congr _ _ _ _ _ _ (fun l => first i x0 x1 x2 x3 x4 r _)
    (fun l => cosines i x0 x1 x2 x3 x4 r l) (fun l => sines i x0 x1 x2 x3 x4 r l) l)

/-- The selected keys, turned. -/
theorem selected (r : Fin 256) (l : Fin 128) :
    k0_pay65 (F := Ideal) i x0 x1 x2 x3 x4 (ix2 r l) =
      turnRow (cols x0 x1 x2 r) (fun l => x3 (ix2 r l)) (fun l => x4 (ix2 r l)) 768 (by omega) l := by
  unfold k0_pay65
  exact (turn_27 _ _ _ r l).trans (turned_congr _ _ _ _ _ _ (fun l => first i x0 x1 x2 x3 x4 r _)
    (fun l => cosines i x0 x1 x2 x3 x4 r l) (fun l => sines i x0 x1 x2 x3 x4 r l) l)

theorem out_16 (r : Fin 256) (l : Fin 128) :
    out0_16 (F := Ideal) i x0 x1 x2 x3 x4 (ix2 r l) =
      turnRow (cols x0 x1 x2 r) (fun l => x3 (ix2 r l)) (fun l => x4 (ix2 r l)) 1024 (by omega) l := by
  have h : out0_16 (F := Ideal) i x0 x1 x2 x3 x4 (ix2 r l) = k0_pay67 (F := Ideal) i x0 x1 x2 x3 x4 (ix2 r l) := by
    unfold out0_16
    simp (disch := decide) only [r0_2, View.canon_cons_unit_lit]
    generalize k0_pay67 (F := Ideal) i x0 x1 x2 x3 x4 = z
    unfold_payloads
    pointwise []
  exact h.trans (keys i x0 x1 x2 x3 x4 r l)

theorem out_5 : out0_5 (F := Ideal) i x0 x1 x2 x3 x4 = fun y => qrawRow (cols x0 x1 x2 (y 0)) (y 1) := by
  funext y
  unfold out0_5
  refine View.canon_append_of_piecesOf (Val := Elt Ideal) (e := .bf16) (s := S256x512) (fun y => qrawRow (cols x0 x1 x2 (y 0)) (y 1)) [] [_, _, _, _]
    ⟨all_piece fun k v => ?_, all_piece fun k v => ?_, all_piece fun k v => ?_, all_piece fun k v => ?_, trivial⟩ _ (cover0_5 _ _ _ _ y)
  · dsimp only
    rw [emb_piece 384 (by decide)]
    show _ = cols x0 x1 x2 k ⟨384 + v.val, by omega⟩ * qscale
    rw [← first i x0 x1 x2 x3 x4 k ⟨384 + v.val, by omega⟩]
    generalize k0_pay62 (F := Ideal) i x0 x1 x2 x3 x4 = z
    unfold_payloads
    pointwise [qscale]
  · dsimp only
    rw [emb_piece 256 (by decide)]
    show _ = cols x0 x1 x2 k ⟨256 + v.val, by omega⟩ * qscale
    rw [← first i x0 x1 x2 x3 x4 k ⟨256 + v.val, by omega⟩]
    generalize k0_pay62 (F := Ideal) i x0 x1 x2 x3 x4 = z
    unfold_payloads
    pointwise [qscale]
  · dsimp only
    rw [emb_piece 128 (by decide)]
    show _ = cols x0 x1 x2 k ⟨128 + v.val, by omega⟩ * qscale
    rw [← first i x0 x1 x2 x3 x4 k ⟨128 + v.val, by omega⟩]
    generalize k0_pay62 (F := Ideal) i x0 x1 x2 x3 x4 = z
    unfold_payloads
    pointwise [qscale]
  · dsimp only
    rw [emb_piece 0 (by decide)]
    show _ = cols x0 x1 x2 k ⟨0 + v.val, by omega⟩ * qscale
    rw [← first i x0 x1 x2 x3 x4 k ⟨0 + v.val, by omega⟩]
    unfold k0_pay62
    generalize View.ld x0 r0_0 = a
    generalize View.ld x1 r0_1 = b
    generalize View.ld x2 r0_3 = c
    have h : ∀ (u : Fin 1408), k0_pay6 (F := Ideal) a b c (ix2 k v) = k0_pay4 (F := Ideal) a b c (ix2 k ⟨0 + v.val, by omega⟩) * qscale := fun _ => by
      unfold k0_pay6 k0_pay5
      generalize k0_pay4 (F := Ideal) a b c = z
      pointwise [qscale]
    exact h 0

theorem slice_128 (z : Vec Ideal S256x1408 .f32) (r : Fin 256) (l : Fin 128) :
    k0_pay10 (F := Ideal) z (ix2 r l) = z (ix2 r ⟨128 + l.val, by omega⟩) := by
  unfold_payloads
  pointwise []

theorem slice_0 (a : Vec Ideal S256x1024 .f32) (b : Vec Ideal S1x1024 .f32) (c : Vec Ideal S1x1024x1408 .bf16) (r : Fin 256) (l : Fin 128) :
    k0_pay5 (F := Ideal) a b c (ix2 r l) = k0_pay4 (F := Ideal) a b c (ix2 r ⟨0 + l.val, by omega⟩) := by
  unfold k0_pay5
  generalize k0_pay4 (F := Ideal) a b c = z
  pointwise []

theorem out_6 : out0_6 (F := Ideal) i x0 x1 x2 x3 x4 = fun y => qrotRow (cols x0 x1 x2 (y 0)) (fun l => x3 (ix2 (y 0) l)) (fun l => x4 (ix2 (y 0) l)) (y 1) := by
  funext y
  unfold out0_6
  refine View.canon_append_of_piecesOf (Val := Elt Ideal) (e := .bf16) (s := S256x512) (fun y => qrotRow (cols x0 x1 x2 (y 0)) (fun l => x3 (ix2 (y 0) l)) (fun l => x4 (ix2 (y 0) l)) (y 1)) [] [_, _, _, _]
    ⟨all_piece fun k v => ?_, all_piece fun k v => ?_, all_piece fun k v => ?_, all_piece fun k v => ?_, trivial⟩ _ (cover0_6 _ _ _ _ y)
  · dsimp only
    rw [emb_piece 384 (by decide)]
    exact (turn_22 _ _ _ k v).trans ((congrArg (· * qscale) (turned_congr _ _ _ _ _ _ (fun l => first i x0 x1 x2 x3 x4 k _) (fun l => cosines i x0 x1 x2 x3 x4 k l) (fun l => sines i x0 x1 x2 x3 x4 k l) v)).trans (qrot_at _ _ _ 384 (by decide) (by decide) v).symm)
  · dsimp only
    rw [emb_piece 256 (by decide)]
    exact (turn_19 _ _ _ k v).trans ((congrArg (· * qscale) (turned_congr _ _ _ _ _ _ (fun l => first i x0 x1 x2 x3 x4 k _) (fun l => cosines i x0 x1 x2 x3 x4 k l) (fun l => sines i x0 x1 x2 x3 x4 k l) v)).trans (qrot_at _ _ _ 256 (by decide) (by decide) v).symm)
  · dsimp only
    rw [emb_piece 128 (by decide)]
    exact (turn_14 _ _ _ k v).trans ((congrArg (· * qscale) (turned_congr _ _ _ _ _ _ (fun l => (slice_128 _ k l).trans (first i x0 x1 x2 x3 x4 k _)) (fun l => cosines i x0 x1 x2 x3 x4 k l) (fun l => sines i x0 x1 x2 x3 x4 k l) v)).trans (qrot_at _ _ _ 128 (by decide) (by decide) v).symm)
  · dsimp only
    rw [emb_piece 0 (by decide)]
    exact (turn_9 _ _ _ k v).trans ((congrArg (· * qscale) (turned_congr _ _ _ _ _ _ (fun l => (slice_0 _ _ _ k l).trans (first i x0 x1 x2 x3 x4 k _)) (fun l => cosines i x0 x1 x2 x3 x4 k l) (fun l => sines i x0 x1 x2 x3 x4 k l) v)).trans (qrot_at _ _ _ 0 (by decide) (by decide) v).symm)

theorem flip_36 (z : Vec Ideal S256x128 .f32) (a b : Fin 1) (l : Fin 128) (r : Fin 256) : k0_pay36 (F := Ideal) z (ix4 a b l r) = z (ix2 r l) := by
  unfold_payloads
  pointwise []

theorem flip_35 (z : Vec Ideal S256x128 .f32) (a b : Fin 1) (l : Fin 128) (r : Fin 256) : k0_pay35 (F := Ideal) z (ix4 a b l r) = z (ix2 r l) := by
  unfold_payloads
  pointwise []

theorem flip_37 (z : Vec Ideal S256x128 .f32) (a b : Fin 1) (l : Fin 128) (r : Fin 256) : k0_pay37 (F := Ideal) z (ix4 a b l r) = z (ix2 r l) := by
  unfold_payloads
  pointwise []

theorem flip_39 (z : Vec Ideal S256x128 .f32) (a b : Fin 1) (l : Fin 128) (r : Fin 256) : k0_pay39 (F := Ideal) (k0_pay38 z) (ix4 a b l r) = z (ix2 r l) := by
  unfold_payloads
  pointwise []

theorem flip_40 (z : Vec Ideal S256x128 .f32) (a : Fin 1) (l : Fin 128) (r : Fin 256) : k0_pay40 (F := Ideal) z (ix3 a l r) = z (ix2 r l) := by
  unfold_payloads
  pointwise []

theorem flip_41 (z : Vec Ideal S256x128 .f32) (a : Fin 1) (l : Fin 128) (r : Fin 256) : k0_pay41 (F := Ideal) z (ix3 a l r) = z (ix2 r l) := by
  unfold_payloads
  pointwise []

/-- The other parts of the keys and values. -/
theorem part_63 (r : Fin 256) (l : Fin 128) : k0_pay63 (F := Ideal) i x0 x1 x2 x3 x4 (ix2 r l) = cols x0 x1 x2 r ⟨512 + (0 + l.val), by omega⟩ := by
  unfold k0_pay63
  rw [← first i x0 x1 x2 x3 x4 r ⟨512 + (0 + l.val), by omega⟩]
  generalize k0_pay62 (F := Ideal) i x0 x1 x2 x3 x4 = z
  unfold_payloads
  pointwise []
  try simp only [← Nat.add_assoc, Nat.reduceAdd]

theorem part_64 (r : Fin 256) (l : Fin 128) : k0_pay64 (F := Ideal) i x0 x1 x2 x3 x4 (ix2 r l) = cols x0 x1 x2 r ⟨640 + l.val, by omega⟩ := by
  unfold k0_pay64
  rw [← first i x0 x1 x2 x3 x4 r ⟨640 + l.val, by omega⟩]
  generalize k0_pay62 (F := Ideal) i x0 x1 x2 x3 x4 = z
  unfold_payloads
  pointwise []
  try simp only [← Nat.add_assoc, Nat.reduceAdd]

theorem part_66 (r : Fin 256) (l : Fin 128) : k0_pay66 (F := Ideal) i x0 x1 x2 x3 x4 (ix2 r l) = cols x0 x1 x2 r ⟨896 + l.val, by omega⟩ := by
  unfold k0_pay66
  rw [← first i x0 x1 x2 x3 x4 r ⟨896 + l.val, by omega⟩]
  generalize k0_pay62 (F := Ideal) i x0 x1 x2 x3 x4 = z
  unfold_payloads
  pointwise []
  try simp only [← Nat.add_assoc, Nat.reduceAdd]

theorem part_68 (r : Fin 256) (l : Fin 128) : k0_pay68 (F := Ideal) i x0 x1 x2 x3 x4 (ix2 r l) = cols x0 x1 x2 r ⟨1152 + l.val, by omega⟩ := by
  unfold k0_pay68
  rw [← first i x0 x1 x2 x3 x4 r ⟨1152 + l.val, by omega⟩]
  generalize k0_pay62 (F := Ideal) i x0 x1 x2 x3 x4 = z
  unfold_payloads
  pointwise []
  try simp only [← Nat.add_assoc, Nat.reduceAdd]

/-- The rows at a column that is not turned. -/
theorem rows_plain (p : Fin 5504 → EReal) (cs sn : Fin 128 → EReal) (o : ℕ) (ho : o % 128 = 0) (h2 : o ≠ 256) (h : o + 128 ≤ 512) (l : Fin 128)
    (k : Fin 5504) (hk : k.val = 512 + (o + l.val)) : rowsRow p cs sn ⟨o + l.val, by omega⟩ = p k := by
  have hn : ¬ (o + l.val) / 128 = 2 := by have := (group o ho l).1; omega
  unfold rowsRow
  rw [if_neg hn]
  exact congrArg p (Fin.ext hk.symm)

/-- The rows at a column that is turned. -/
theorem rows_turned (p : Fin 5504 → EReal) (cs sn : Fin 128 → EReal) (l : Fin 128) :
    rowsRow p cs sn ⟨256 + l.val, by omega⟩ = turnRow p cs sn 768 (by omega) l := by
  have hn : (256 + l.val) / 128 = 2 := by omega
  unfold rowsRow
  rw [if_pos hn]
  exact congrArg (turnRow p cs sn 768 _) (Fin.ext (group 256 (by decide) l).2)

theorem out_11 : out0_11 (F := Ideal) i x0 x1 x2 x3 x4 = fun y => rowsRow (cols x0 x1 x2 (y 3)) (fun l => x3 (ix2 (y 3) l)) (fun l => x4 (ix2 (y 3) l)) (y 2) := by
  funext y
  unfold out0_11
  refine View.canon_append_of_piecesOf (Val := Elt Ideal) (e := .f32) (s := S1x1x512x256) (fun y => rowsRow (cols x0 x1 x2 (y 3)) (fun l => x3 (ix2 (y 3) l)) (fun l => x4 (ix2 (y 3) l)) (y 2)) [] [_, _, _, _]
    ⟨all_rows fun a b l r => ?_, all_rows fun a b l r => ?_, all_rows fun a b l r => ?_, all_rows fun a b l r => ?_, trivial⟩ _ (cover0_11 _ _ _ _ y)
  · dsimp only
    rw [emb_rows 384 (by decide)]
    exact (flip_39 _ a b l r).trans ((part_66 i x0 x1 x2 x3 x4 r l).trans (rows_plain _ _ _ 384 (by decide) (by decide) (by decide) l _ (by show 896 + l.val = 512 + (384 + l.val); omega)).symm)
  · dsimp only
    rw [emb_rows 256 (by decide)]
    exact (flip_37 _ a b l r).trans ((selected i x0 x1 x2 x3 x4 r l).trans (rows_turned _ _ _ l).symm)
  · dsimp only
    rw [emb_rows 128 (by decide)]
    exact (flip_36 _ a b l r).trans ((part_64 i x0 x1 x2 x3 x4 r l).trans (rows_plain _ _ _ 128 (by decide) (by decide) (by decide) l _ (by show 640 + l.val = 512 + (128 + l.val); omega)).symm)
  · dsimp only
    rw [emb_rows 0 (by decide)]
    exact (flip_35 _ a b l r).trans ((part_63 i x0 x1 x2 x3 x4 r l).trans (rows_plain _ _ _ 0 (by decide) (by decide) (by decide) l _ rfl).symm)

/-- The window rows at a column that is not turned. -/
theorem win_plain (p : Fin 5504 → EReal) (cs sn : Fin 128 → EReal) (l : Fin 128) :
    winRow p cs sn ⟨128 + l.val, by omega⟩ = p ⟨1152 + l.val, by omega⟩ := by
  have hn : ¬ (128 + l.val) / 128 = 0 := by omega
  unfold winRow
  rw [if_neg hn]
  exact congrArg p (Fin.ext (by show 1024 + (128 + l.val) = 1152 + l.val; omega))

/-- The window rows at a column that is turned. -/
theorem win_turned (p : Fin 5504 → EReal) (cs sn : Fin 128 → EReal) (l : Fin 128) :
    winRow p cs sn ⟨0 + l.val, by omega⟩ = turnRow p cs sn 1024 (by omega) l := by
  have hn : (0 + l.val) / 128 = 0 := by omega
  unfold winRow
  rw [if_pos hn]
  exact congrArg (turnRow p cs sn 1024 _) (Fin.ext (group 0 (by decide) l).2)

theorem out_12 : out0_12 (F := Ideal) i x0 x1 x2 x3 x4 = fun y => winRow (cols x0 x1 x2 (y 2)) (fun l => x3 (ix2 (y 2) l)) (fun l => x4 (ix2 (y 2) l)) (y 1) := by
  funext y
  unfold out0_12
  refine View.canon_append_of_piecesOf (Val := Elt Ideal) (e := .f32) (s := S1x256x256) (fun y => winRow (cols x0 x1 x2 (y 2)) (fun l => x3 (ix2 (y 2) l)) (fun l => x4 (ix2 (y 2) l)) (y 1)) [] [_, _]
    ⟨all_win fun a l r => ?_, all_win fun a l r => ?_, trivial⟩ _ (cover0_12 _ _ y)
  · dsimp only
    rw [emb_win 128 (by decide)]
    refine (flip_41 _ a l r).trans ((part_68 i x0 x1 x2 x3 x4 r l).trans ?_)
    exact (win_plain _ _ _ l).symm
  · dsimp only
    rw [emb_win 0 (by decide)]
    refine (flip_40 _ a l r).trans ((keys i x0 x1 x2 x3 x4 r l).trans ?_)
    exact (win_turned _ _ _ l).symm

end Cert.Mix

end

end
-- ==== Proof.MixHost.lean ====
/-
  What the host hands to the input projection's kernel: the prompt laid out flat, the norm's weight, the packed weights and
  the rotary tables.
-/
module

public import proofs.«01_k».proof.Proof.MixPoint

@[expose] public section

set_option maxRecDepth 16384

noncomputable section

namespace Cert.Mix

open Cert.Kernel5Ideal Cert.Kernel5Ideal.Gen Cert.Rows Idealize.ShloMosaic Idealize.ShloMosaic.TcCoe Idealize.SL.Sem

/-- The prompt's rows laid out flat. -/
theorem flat_apply (X : S4x4096x1024.Idx → EReal) (r : Fin 16384) (k : Fin 1024) :
    shapeCast S16384x1024 X shapeCasts_S4x4096x1024_S16384x1024 (ix2 r k) = X (ix3 (batch r) (pos r) k) := by
  pointwise []
  rfl

/-- The first layer's norm weight as a row. -/
theorem norm_apply (N : S4x1024.Idx → EReal) (k : Fin 1024) :
    broadcastInDim S1x1024 ![1] bcast_S1024_S1x1024_1 (shapeCast S1024 (extractStridedSlice S1x1024 ![0, 0] N slices_S4x1024_S1x1024_0_0)
      shapeCasts_S1x1024_S1024) (ix2 0 k) = N (ix2 0 k) := by
  pointwise []

/-- The weights as the host packs them. -/
abbrev pack (W : S4x1024x5408.Idx → EReal) : S4x1024x5504.Idx → EReal :=
  concatenate S4x1024x5504 2 [⟨S4x1024x512, extractStridedSlice S4x1024x512 ![0, 0, 0] W slices_S4x1024x5408_S4x1024x512_0_0_0⟩,
    ⟨S4x1024x768, extractStridedSlice S4x1024x768 ![0, 0, 512] W slices_S4x1024x5408_S4x1024x768_0_0_512⟩,
    ⟨S4x1024x128, concatenate S4x1024x128 2 [⟨S4x1024x24, extractStridedSlice S4x1024x24 ![0, 0, 1280] W slices_S4x1024x5408_S4x1024x24_0_0_1280⟩,
      ⟨S4x1024x4, extractStridedSlice S4x1024x4 ![0, 0, 2840] W slices_S4x1024x5408_S4x1024x4_0_0_2840⟩,
      ⟨S4x1024x4, extractStridedSlice S4x1024x4 ![0, 0, 2844] W slices_S4x1024x5408_S4x1024x4_0_0_2844⟩,
      ⟨S4x1024x96, broadcastInDim S4x1024x96 ![] bcast_S_S4x1024x96 (constant (F := Ideal) S_ .f32 0x00000000#32)⟩] concatenates_S4x1024x24_S4x1024x4_S4x1024x4_S4x1024x96_S4x1024x128_d2⟩,
    ⟨S4x1024x1536, extractStridedSlice S4x1024x1536 ![0, 0, 1304] W slices_S4x1024x5408_S4x1024x1536_0_0_1304⟩,
    ⟨S4x1024x512, extractStridedSlice S4x1024x512 ![0, 0, 2848] W slices_S4x1024x5408_S4x1024x512_0_0_2848⟩,
    ⟨S4x1024x2048, extractStridedSlice S4x1024x2048 ![0, 0, 3360] W slices_S4x1024x5408_S4x1024x2048_0_0_3360⟩] concatenates_S4x1024x512_S4x1024x768_S4x1024x128_S4x1024x1536_S4x1024x512_S4x1024x2048_S4x1024x5504_d2

theorem pack_apply (W : S4x1024x5408.Idx → EReal) (d : Fin 1024) (k : Fin 5504) :
    pack W (ix3 0 d k) = packed (fun k => W (ix3 0 d k)) k := by
  pointwise [packed]
  repeat' split
  all_goals first
    | (exfalso; omega)
    | rfl
    | exact congrArg (fun j => W (ix3 0 d j)) (Fin.ext (by dsimp only <;> omega))

/-- The angles as the host makes them. -/
abbrev hostAngles : S4096x32.Idx → EReal :=
  (mulf (broadcastInDim S4096x32 ![0, 1] bcast_S4096x1_S4096x32_0_1 (broadcastInDim S4096x1 ![0] bcast_S4096_S4096x1_0
      (sitofp (F := Ideal) .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32)))))))

theorem angles_apply (p : Fin 4096) (f : Fin 32) : hostAngles (ix2 p f) = angle p f.val := by
  pointwise [angle]

theorem cos_apply (p : Fin 4096) (l : Fin 128) :
    concatenate S4096x128 1 [⟨S4096x32, Host.cos (F := Ideal) (φ := .f32) hostAngles⟩, ⟨S4096x32, Host.cos (F := Ideal) (φ := .f32) hostAngles⟩, ⟨S4096x32, Host.cos (F := Ideal) (φ := .f32) hostAngles⟩,
      ⟨S4096x32, Host.cos (F := Ideal) (φ := .f32) hostAngles⟩] concatenates_S4096x32_S4096x32_S4096x32_S4096x32_S4096x128_d1 (ix2 p l) = cosT p l := by
  have h : ∀ A : S4096x32.Idx → EReal, concatenate S4096x128 1 [⟨S4096x32, A⟩, ⟨S4096x32, A⟩, ⟨S4096x32, A⟩, ⟨S4096x32, A⟩] concatenates_S4096x32_S4096x32_S4096x32_S4096x32_S4096x128_d1 (ix2 p l) = A (ix2 p ⟨l.val % 32, by omega⟩) := fun A => by
    pointwise []
    repeat' split
    all_goals first
      | (exfalso; omega)
      | exact congrArg (fun j => A (ix2 p j)) (Fin.ext (by dsimp only <;> omega))
  rw [h]
  exact congrArg Ideal.cos (angles_apply p ⟨l.val % 32, by omega⟩)

theorem sin_apply (p : Fin 4096) (l : Fin 128) (A : S4096x32.Idx → EReal) :
    concatenate S4096x128 1 [⟨S4096x32, Host.negf (F := Ideal) (φ := .f32) A⟩, ⟨S4096x32, A⟩, ⟨S4096x32, Host.negf (F := Ideal) (φ := .f32) A⟩, ⟨S4096x32, A⟩] concatenates_S4096x32_S4096x32_S4096x32_S4096x32_S4096x128_d1 (ix2 p l) =
      if l.val % 64 < 32 then -A (ix2 p ⟨l.val % 32, by omega⟩) else A (ix2 p ⟨l.val % 32, by omega⟩) := by
  pointwise []
  repeat' split
  all_goals first
    | (exfalso; omega)
    | exact congrArg (fun j => A (ix2 p j)) (Fin.ext (by dsimp only <;> omega))
    | exact congrArg (fun j => -A (ix2 p j)) (Fin.ext (by dsimp only <;> omega))

variable (m : (ℓ : Loc nD τ sig) → Buf (Elt Ideal) ℓ) (c : Dev nD)

abbrev argX : S4x4096x1024.Idx → EReal := m ((c : Thread nD τ).loc main_arg0)
abbrev argN : S4x1024.Idx → EReal := m ((c : Thread nD τ).loc main_arg1)
abbrev argW : S4x1024x5408.Idx → EReal := m ((c : Thread nD τ).loc main_arg2)

theorem V_x (r : Fin 16384) (k : Fin 1024) : (V m c main_v18 : S16384x1024.Idx → EReal) (ix2 r k) = argX m c (ix3 (batch r) (pos r) k) := by
  have e : (V m c main_v18 : S16384x1024.Idx → EReal) = shapeCast S16384x1024 (argX m c) shapeCasts_S4x4096x1024_S16384x1024 := by
    show StableHlo.after hostOps0 _ (Proc.devRef .tc main_v18) = _
    simp only [hostOps0]
    after_results
    rfl
  rw [e, flat_apply]

theorem V_n (k : Fin 1024) : (V m c main_v21 : S1x1024.Idx → EReal) (ix2 0 k) = argN m c (ix2 0 k) := by
  have e : (V m c main_v21 : S1x1024.Idx → EReal) = broadcastInDim S1x1024 ![1] bcast_S1024_S1x1024_1 (shapeCast S1024
      (extractStridedSlice S1x1024 ![0, 0] (argN m c) slices_S4x1024_S1x1024_0_0) shapeCasts_S1x1024_S1024) := by
    show StableHlo.after hostOps0 _ (Proc.devRef .tc main_v21) = _
    simp only [hostOps0]
    after_results
    rfl
  rw [e, norm_apply]

theorem V_w (d : Fin 1024) (k : Fin 5504) :
    (V m c main_v33 : S4x1024x5504.Idx → EReal) (ix3 0 d k) = packed (fun k => argW m c (ix3 0 d k)) k := by
  have e : (V m c main_v33 : S4x1024x5504.Idx → EReal) = pack (argW m c) := by
    show StableHlo.after hostOps0 _ (Proc.devRef .tc main_v33) = _
    simp only [hostOps0]
    after_results
    rfl
  rw [e, pack_apply]

theorem V_c (p : Fin 4096) (l : Fin 128) : (V m c main_v15 : S4096x128.Idx → EReal) (ix2 p l) = cosT p l := by
  have e : (V m c main_v15 : S4096x128.Idx → EReal) = concatenate S4096x128 1 [⟨S4096x32, Host.cos (F := Ideal) (φ := .f32) hostAngles⟩, ⟨S4096x32, Host.cos (F := Ideal) (φ := .f32) hostAngles⟩, ⟨S4096x32, Host.cos (F := Ideal) (φ := .f32) hostAngles⟩,
      ⟨S4096x32, Host.cos (F := Ideal) (φ := .f32) hostAngles⟩] concatenates_S4096x32_S4096x32_S4096x32_S4096x32_S4096x128_d1 := by
    show StableHlo.after hostOps0 _ (Proc.devRef .tc main_v15) = _
    simp only [hostOps0]
    after_results
    rfl
  rw [e, cos_apply]

theorem V_s (p : Fin 4096) (l : Fin 128) : (V m c main_v17 : S4096x128.Idx → EReal) (ix2 p l) = sinT p l := by
  have e : (V m c main_v17 : S4096x128.Idx → EReal) = concatenate S4096x128 1 [⟨S4096x32, Host.negf (F := Ideal) (φ := .f32) (Host.sin (F := Ideal) (φ := .f32) hostAngles)⟩, ⟨S4096x32, Host.sin (F := Ideal) (φ := .f32) hostAngles⟩, ⟨S4096x32, Host.negf (F := Ideal) (φ := .f32) (Host.sin (F := Ideal) (φ := .f32) hostAngles)⟩,
      ⟨S4096x32, Host.sin (F := Ideal) (φ := .f32) hostAngles⟩] concatenates_S4096x32_S4096x32_S4096x32_S4096x32_S4096x128_d1 := by
    show StableHlo.after hostOps0 _ (Proc.devRef .tc main_v17) = _
    simp only [hostOps0]
    after_results
    rfl
  rw [e, sin_apply]
  unfold sinT
  exact congrArg (fun z => if l.val % 64 < 32 then -Ideal.sin z else Ideal.sin z) (angles_apply p ⟨l.val % 32, by omega⟩)

end Cert.Mix

end

end
-- ==== Proof.MixKernel.lean ====
/-
  What the input projection's kernel leaves in its output arrays: for every row of the prompt its packed columns, some of
  them scaled or turned.
-/
module

public import proofs.«01_k».proof.Proof.MixHost

@[expose] public section

set_option maxRecDepth 16384

noncomputable section

namespace Cert.Mix

open Cert.Kernel5Ideal Cert.Kernel5Ideal.Gen Cert.Rows Idealize.ShloMosaic Idealize.ShloMosaic.TcCoe Idealize.SL.Sem

/-- The packed columns of a row of the prompt, with the first layer's weights. -/
def rowCols (X : S4x4096x1024.Idx → EReal) (N : S4x1024.Idx → EReal) (W : S4x1024x5408.Idx → EReal) (r : Fin 16384) : Fin 5504 → EReal :=
  proj (fun k => X (ix3 (batch r) (pos r) k)) (fun k => N (ix2 0 k)) (fun d => packed fun k => W (ix3 0 d k))

section Spec

variable (X : S4x4096x1024.Idx → EReal) (N : S4x1024.Idx → EReal) (W : S4x1024x5408.Idx → EReal)

/-- The scaled queries. -/
def spec_5 : S16384x512.Idx → EReal := fun y => qrawRow (rowCols X N W (y 0)) (y 1)
/-- The turned and scaled queries. -/
def spec_6 : S16384x512.Idx → EReal := fun y => qrotRow (rowCols X N W (y 0)) (cosT (pos (y 0))) (sinT (pos (y 0))) (y 1)
/-- The branches' gate and the delta rule's two gates. -/
def spec_7 : S16384x128.Idx → EReal := fun y => shift (n := 128) (rowCols X N W (y 0)) 1280 (by omega) (y 1)
/-- The delta rule's queries, keys and values. -/
def spec_8 : S16384x1536.Idx → EReal := fun y => shift (n := 1536) (rowCols X N W (y 0)) 1408 (by omega) (y 1)
/-- The delta rule's output gate. -/
def spec_9 : S16384x512.Idx → EReal := fun y => shift (n := 512) (rowCols X N W (y 0)) 2944 (by omega) (y 1)
/-- The merge's gates. -/
def spec_10 : S16384x2048.Idx → EReal := fun y => shift (n := 2048) (rowCols X N W (y 0)) 3456 (by omega) (y 1)
/-- The rows of the sparse attention, a column of the array for a token. -/
def spec_11 : S1x4x512x4096.Idx → EReal := fun y => rowsRow (rowCols X N W (flatRow (y 1) (y 3))) (cosT (y 3)) (sinT (y 3)) (y 2)
/-- The window rows, a column of the array for a token. -/
def spec_12 : S4x256x4096.Idx → EReal := fun y => winRow (rowCols X N W (flatRow (y 0) (y 2))) (cosT (y 2)) (sinT (y 2)) (y 1)
/-- The keys to be compressed. -/
def spec_13 : S16384x128.Idx → EReal := fun y => shift (n := 128) (rowCols X N W (y 0)) 512 (by omega) (y 1)
/-- The values to be compressed. -/
def spec_14 : S16384x128.Idx → EReal := fun y => shift (n := 128) (rowCols X N W (y 0)) 640 (by omega) (y 1)
/-- The turned window keys. -/
def spec_16 : S16384x128.Idx → EReal := fun y => turnRow (rowCols X N W (y 0)) (cosT (pos (y 0))) (sinT (pos (y 0))) 1024 (by omega) (y 1)

end Spec

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0, 0] := (by decide +kernel : ∀ t : Fin grid0.N, _)
theorem idx_3 : ∀ t : Fin cfg0.N, win0_3.index t = ![t.val % 16, 0] := (by decide +kernel : ∀ t : Fin grid0.N, _)
theorem idx_4 : ∀ t : Fin cfg0.N, win0_4.index t = ![t.val % 16, 0] := (by decide +kernel : ∀ t : Fin grid0.N, _)
theorem idx_11 : ∀ t : Fin cfg0.N, win0_11.index t = ![0, t.val / 16, 0, t.val % 16] := (by decide +kernel : ∀ t : Fin grid0.N, _)
theorem idx_12 : ∀ t : Fin cfg0.N, win0_12.index t = ![t.val / 16, 0, t.val % 16] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![t.val, 0] := (by decide +kernel : ∀ t : Fin grid0.N, _)
theorem idx_9 : ∀ t : Fin cfg0.N, win0_9.index t = ![t.val, 0] := (by decide +kernel : ∀ t : Fin grid0.N, _)
theorem idx_10 : ∀ t : Fin cfg0.N, win0_10.index t = ![t.val, 0] := (by decide +kernel : ∀ t : Fin grid0.N, _)
theorem idx_13 : ∀ t : Fin cfg0.N, win0_13.index t = ![t.val, 0] := (by decide +kernel : ∀ t : Fin grid0.N, _)
theorem idx_14 : ∀ t : Fin cfg0.N, win0_14.index t = ![t.val, 0] := (by decide +kernel : ∀ t : Fin grid0.N, _)
theorem idx_16 : ∀ t : Fin cfg0.N, win0_16.index t = ![t.val, 0] := (by decide +kernel : ∀ t : Fin grid0.N, _)

theorem blk_0 (X : Vec Ideal S16384x1024 .f32) (n : Fin 64) (t : Fin cfg0.N) (ht : t.val = n.val) (i : Fin 256) (j : Fin 1024) :
    (((cfg0.win 0).blk t).view.read (Elt Ideal) X : Vec Ideal S256x1024 .f32) (ix2 i j) = X (ix2 (tile256 n i) j) := by
  blk_simp []
  blk_ext [idx_0 t]
  rw [ht]
  rfl

theorem blk_1 (X : Vec Ideal S1x1024 .f32) (t : Fin cfg0.N) (j : Fin 1024) :
    (((cfg0.win 1).blk t).view.read (Elt Ideal) X : Vec Ideal S1x1024 .f32) (ix2 0 j) = X (ix2 0 j) := by
  blk_simp []
  blk_ext [idx_1 t]

theorem blk_2 (X : Vec Ideal S4x1024x5504 .bf16) (t : Fin cfg0.N) (i : Fin 1024) (j : Fin 5504) :
    (((cfg0.win 2).blk t).view.read (Elt Ideal) X : Vec Ideal S1x1024x5504 .bf16) (ix3 0 i j) = X (ix3 0 i j) := by
  blk_simp []
  blk_ext [idx_2 t]

theorem blk_3 (X : Vec Ideal S4096x128 .f32) (n : Fin 64) (t : Fin cfg0.N) (ht : t.val = n.val) (i : Fin 256) (j : Fin 128) :
    (((cfg0.win 3).blk t).view.read (Elt Ideal) X : Vec Ideal S256x128 .f32) (ix2 i j) = X (ix2 (place n i) j) := by
  blk_simp []
  blk_ext [idx_3 t]
  rw [ht]
  rfl

theorem blk_4 (X : Vec Ideal S4096x128 .f32) (n : Fin 64) (t : Fin cfg0.N) (ht : t.val = n.val) (i : Fin 256) (j : Fin 128) :
    (((cfg0.win 4).blk t).view.read (Elt Ideal) X : Vec Ideal S256x128 .f32) (ix2 i j) = X (ix2 (place n i) j) := by
  blk_simp []
  blk_ext [idx_4 t]
  rw [ht]
  rfl

theorem blk_5 (X : Vec Ideal S16384x512 .bf16) (n : Fin 64) (t : Fin cfg0.N) (ht : t.val = n.val) :
    (((cfg0.win 5).blk t).view.read (Elt Ideal) X : Vec Ideal S256x512 .bf16) = fun i => X (ix2 (tile256 n (i 0)) (i 1)) := by
  have h : ∀ (i : Fin 256) (j : Fin 512),
      (((cfg0.win 5).blk t).view.read (Elt Ideal) X : Vec Ideal S256x512 .bf16) (ix2 i j) = X (ix2 (tile256 n i) j) := fun i j => by
    blk_simp []
    blk_ext [idx_5 t]
    rw [ht]
    rfl
  exact funext fun i => by rw [eq_ix2 i]; exact h (i 0) (i 1)

theorem blk_6 (X : Vec Ideal S16384x512 .bf16) (n : Fin 64) (t : Fin cfg0.N) (ht : t.val = n.val) :
    (((cfg0.win 6).blk t).view.read (Elt Ideal) X : Vec Ideal S256x512 .bf16) = fun i => X (ix2 (tile256 n (i 0)) (i 1)) := by
  have h : ∀ (i : Fin 256) (j : Fin 512),
      (((cfg0.win 6).blk t).view.read (Elt Ideal) X : Vec Ideal S256x512 .bf16) (ix2 i j) = X (ix2 (tile256 n i) j) := fun i j => by
    blk_simp []
    blk_ext [idx_6 t]
    rw [ht]
    rfl
  exact funext fun i => by rw [eq_ix2 i]; exact h (i 0) (i 1)

theorem blk_7 (X : Vec Ideal S16384x128 .f32) (n : Fin 64) (t : Fin cfg0.N) (ht : t.val = n.val) :
    (((cfg0.win 7).blk t).view.read (Elt Ideal) X : Vec Ideal S256x128 .f32) = fun i => X (ix2 (tile256 n (i 0)) (i 1)) := by
  have h : ∀ (i : Fin 256) (j : Fin 128),
      (((cfg0.win 7).blk t).view.read (Elt Ideal) X : Vec Ideal S256x128 .f32) (ix2 i j) = X (ix2 (tile256 n i) j) := fun i j => by
    blk_simp []
    blk_ext [idx_7 t]
    rw [ht]
    rfl
  exact funext fun i => by rw [eq_ix2 i]; exact h (i 0) (i 1)

theorem blk_8 (X : Vec Ideal S16384x1536 .f32) (n : Fin 64) (t : Fin cfg0.N) (ht : t.val = n.val) :
    (((cfg0.win 8).blk t).view.read (Elt Ideal) X : Vec Ideal S256x1536 .f32) = fun i => X (ix2 (tile256 n (i 0)) (i 1)) := by
  have h : ∀ (i : Fin 256) (j : Fin 1536),
      (((cfg0.win 8).blk t).view.read (Elt Ideal) X : Vec Ideal S256x1536 .f32) (ix2 i j) = X (ix2 (tile256 n i) j) := fun i j => by
    blk_simp []
    blk_ext [idx_8 t]
    rw [ht]
    rfl
  exact funext fun i => by rw [eq_ix2 i]; exact h (i 0) (i 1)

theorem blk_9 (X : Vec Ideal S16384x512 .f32) (n : Fin 64) (t : Fin cfg0.N) (ht : t.val = n.val) :
    (((cfg0.win 9).blk t).view.read (Elt Ideal) X : Vec Ideal S256x512 .f32) = fun i => X (ix2 (tile256 n (i 0)) (i 1)) := by
  have h : ∀ (i : Fin 256) (j : Fin 512),
      (((cfg0.win 9).blk t).view.read (Elt Ideal) X : Vec Ideal S256x512 .f32) (ix2 i j) = X (ix2 (tile256 n i) j) := fun i j => by
    blk_simp []
    blk_ext [idx_9 t]
    rw [ht]
    rfl
  exact funext fun i => by rw [eq_ix2 i]; exact h (i 0) (i 1)

theorem blk_10 (X : Vec Ideal S16384x2048 .f32) (n : Fin 64) (t : Fin cfg0.N) (ht : t.val = n.val) :
    (((cfg0.win 10).blk t).view.read (Elt Ideal) X : Vec Ideal S256x2048 .f32) = fun i => X (ix2 (tile256 n (i 0)) (i 1)) := by
  have h : ∀ (i : Fin 256) (j : Fin 2048),
      (((cfg0.win 10).blk t).view.read (Elt Ideal) X : Vec Ideal S256x2048 .f32) (ix2 i j) = X (ix2 (tile256 n i) j) := fun i j => by
    blk_simp []
    blk_ext [idx_10 t]
    rw [ht]
    rfl
  exact funext fun i => by rw [eq_ix2 i]; exact h (i 0) (i 1)

theorem blk_13 (X : Vec Ideal S16384x128 .f32) (n : Fin 64) (t : Fin cfg0.N) (ht : t.val = n.val) :
    (((cfg0.win 13).blk t).view.read (Elt Ideal) X : Vec Ideal S256x128 .f32) = fun i => X (ix2 (tile256 n (i 0)) (i 1)) := by
  have h : ∀ (i : Fin 256) (j : Fin 128),
      (((cfg0.win 13).blk t).view.read (Elt Ideal) X : Vec Ideal S256x128 .f32) (ix2 i j) = X (ix2 (tile256 n i) j) := fun i j => by
    blk_simp []
    blk_ext [idx_13 t]
    rw [ht]
    rfl
  exact funext fun i => by rw [eq_ix2 i]; exact h (i 0) (i 1)

theorem blk_14 (X : Vec Ideal S16384x128 .f32) (n : Fin 64) (t : Fin cfg0.N) (ht : t.val = n.val) :
    (((cfg0.win 14).blk t).view.read (Elt Ideal) X : Vec Ideal S256x128 .f32) = fun i => X (ix2 (tile256 n (i 0)) (i 1)) := by
  have h : ∀ (i : Fin 256) (j : Fin 128),
      (((cfg0.win 14).blk t).view.read (Elt Ideal) X : Vec Ideal S256x128 .f32) (ix2 i j) = X (ix2 (tile256 n i) j) := fun i j => by
    blk_simp []
    blk_ext [idx_14 t]
    rw [ht]
    rfl
  exact funext fun i => by rw [eq_ix2 i]; exact h (i 0) (i 1)

theorem blk_16 (X : Vec Ideal S16384x128 .bf16) (n : Fin 64) (t : Fin cfg0.N) (ht : t.val = n.val) :
    (((cfg0.win 16).blk t).view.read (Elt Ideal) X : Vec Ideal S256x128 .bf16) = fun i => X (ix2 (tile256 n (i 0)) (i 1)) := by
  have h : ∀ (i : Fin 256) (j : Fin 128),
      (((cfg0.win 16).blk t).view.read (Elt Ideal) X : Vec Ideal S256x128 .bf16) (ix2 i j) = X (ix2 (tile256 n i) j) := fun i j => by
    blk_simp []
    blk_ext [idx_16 t]
    rw [ht]
    rfl
  exact funext fun i => by rw [eq_ix2 i]; exact h (i 0) (i 1)

theorem blk_11 (X : Vec Ideal S1x4x512x4096 .f32) (n : Fin 64) (t : Fin cfg0.N) (ht : t.val = n.val) :
    (((cfg0.win 11).blk t).view.read (Elt Ideal) X : Vec Ideal S1x1x512x256 .f32) = fun i => X (ix4 0 (entry n) (i 2) (place n (i 3))) := by
  have h : ∀ (a b : Fin 1) (k : Fin 512) (i : Fin 256),
      (((cfg0.win 11).blk t).view.read (Elt Ideal) X : Vec Ideal S1x1x512x256 .f32) (ix4 a b k i) = X (ix4 0 (entry n) k (place n i)) := fun a b k i => by
    have ha : a.val = 0 := by omega
    have hb : b.val = 0 := by omega
    blk_simp []
    blk_ext [idx_11 t]
    all_goals rw [ht]; rfl
  exact funext fun i => by rw [eq_ix4 i]; exact h (i 0) (i 1) (i 2) (i 3)

theorem blk_12 (X : Vec Ideal S4x256x4096 .f32) (n : Fin 64) (t : Fin cfg0.N) (ht : t.val = n.val) :
    (((cfg0.win 12).blk t).view.read (Elt Ideal) X : Vec Ideal S1x256x256 .f32) = fun i => X (ix3 (entry n) (i 1) (place n (i 2))) := by
  have h : ∀ (a : Fin 1) (k : Fin 256) (i : Fin 256),
      (((cfg0.win 12).blk t).view.read (Elt Ideal) X : Vec Ideal S1x256x256 .f32) (ix3 a k i) = X (ix3 (entry n) k (place n i)) := fun a k i => by
    have ha : a.val = 0 := by omega
    blk_simp []
    blk_ext [idx_12 t]
    all_goals rw [ht]; rfl
  exact funext fun i => by rw [eq_ix3 i]; exact h (i 0) (i 1) (i 2)

variable (m : (ℓ : Loc nD τ sig) → Buf (Elt Ideal) ℓ) (c : Dev nD)

/-- The packed columns of a block's rows are those of the prompt's rows. -/
theorem cols_eq (n : Fin 64) (t : Fin cfg0.N) (ht : t.val = n.val) (i : Fin 256) :
    cols (iblk m c 0 t) (iblk m c 1 t) (iblk m c 2 t) i = rowCols (argX m c) (argN m c) (argW m c) (tile256 n i) := by
  have h0 : (fun k => (iblk m c 0 t : Vec Ideal S256x1024 .f32) (ix2 i k)) = fun k => argX m c (ix3 (batch (tile256 n i)) (pos (tile256 n i)) k) :=
    funext fun k => (blk_0 (V m c main_v18) n t ht i k).trans (V_x m c (tile256 n i) k)
  have h1 : (fun k => (iblk m c 1 t : Vec Ideal S1x1024 .f32) (ix2 0 k)) = fun k => argN m c (ix2 0 k) :=
    funext fun k => (blk_1 (V m c main_v21) t k).trans (V_n m c k)
  have h2 : (fun d k => (iblk m c 2 t : Vec Ideal S1x1024x5504 .bf16) (ix3 0 d k)) = fun d => packed fun k => argW m c (ix3 0 d k) :=
    funext fun d => funext fun k => (blk_2 (V m c main_v33) t d k).trans (V_w m c d k)
  exact congr (congrArg₂ proj h0 h1) h2

/-- The cosines of a block's rows. -/
theorem cos_eq (n : Fin 64) (t : Fin cfg0.N) (ht : t.val = n.val) (i : Fin 256) :
    (fun l => (iblk m c 3 t : Vec Ideal S256x128 .f32) (ix2 i l)) = cosT (place n i) :=
  funext fun l => (blk_3 (V m c main_v15) n t ht i l).trans (V_c m c (place n i) l)

/-- The signed sines of a block's rows. -/
theorem sin_eq (n : Fin 64) (t : Fin cfg0.N) (ht : t.val = n.val) (i : Fin 256) :
    (fun l => (iblk m c 4 t : Vec Ideal S256x128 .f32) (ix2 i l)) = sinT (place n i) :=
  funext fun l => (blk_4 (V m c main_v17) n t ht i l).trans (V_s m c (place n i) l)

theorem point_5 (n : Fin 64) (t : Fin cfg0.N) (ht : t.val = n.val) :
    out0_5 (F := Ideal) (grid0.coords t) (iblk m c 0 t) (iblk m c 1 t) (iblk m c 2 t) (iblk m c 3 t) (iblk m c 4 t) = fun y => spec_5 (argX m c) (argN m c) (argW m c) (ix2 (tile256 n (y 0)) (y 1)) := by
  have h : ∀ (i : Fin 256) (k : Fin 512), out0_5 (F := Ideal) (grid0.coords t) (iblk m c 0 t) (iblk m c 1 t) (iblk m c 2 t) (iblk m c 3 t) (iblk m c 4 t) (ix2 i k) = spec_5 (argX m c) (argN m c) (argW m c) (ix2 (tile256 n i) k) := fun i k => by
    exact (congrFun (out_5 (grid0.coords t) (iblk m c 0 t) (iblk m c 1 t) (iblk m c 2 t) (iblk m c 3 t) (iblk m c 4 t)) (ix2 i k)).trans (congrArg (fun p => qrawRow p k) (cols_eq m c n t ht i))
  exact funext fun y => by rw [eq_ix2 y]; exact h (y 0) (y 1)

theorem array_5 : (dats m 0 c).arrAt 5 cfg0.N = spec_5 (argX m c) (argN m c) (argW m c) := by
  refine (dats m 0 c).arrAt_eq_of_covers 5 (spec_5 (argX m c) (argN m c) (argW m c)) (by decide +kernel) fun t _ y => ?_
  have ht : t.val < 64 := lt_of_lt_of_eq t.isLt (show cfg0.N = 64 from N_0)
  have h := point_5 m c ⟨t.val, ht⟩ t rfl
  rw [after0_5 m c t, h]
  exact (congrFun (blk_5 (spec_5 (argX m c) (argN m c) (argW m c)) ⟨t.val, ht⟩ t rfl) y).symm

theorem point_6 (n : Fin 64) (t : Fin cfg0.N) (ht : t.val = n.val) :
    out0_6 (F := Ideal) (grid0.coords t) (iblk m c 0 t) (iblk m c 1 t) (iblk m c 2 t) (iblk m c 3 t) (iblk m c 4 t) = fun y => spec_6 (argX m c) (argN m c) (argW m c) (ix2 (tile256 n (y 0)) (y 1)) := by
  have h : ∀ (i : Fin 256) (k : Fin 512), out0_6 (F := Ideal) (grid0.coords t) (iblk m c 0 t) (iblk m c 1 t) (iblk m c 2 t) (iblk m c 3 t) (iblk m c 4 t) (ix2 i k) = spec_6 (argX m c) (argN m c) (argW m c) (ix2 (tile256 n i) k) := fun i k => by
    exact (congrFun (out_6 (grid0.coords t) (iblk m c 0 t) (iblk m c 1 t) (iblk m c 2 t) (iblk m c 3 t) (iblk m c 4 t)) (ix2 i k)).trans (congrFun (congr (congrArg₂ qrotRow (cols_eq m c n t ht i) ((cos_eq m c n t ht i).trans (congrArg cosT (pos_tile n i).symm))) ((sin_eq m c n t ht i).trans (congrArg sinT (pos_tile n i).symm))) k)
  exact funext fun y => by rw [eq_ix2 y]; exact h (y 0) (y 1)

theorem array_6 : (dats m 0 c).arrAt 6 cfg0.N = spec_6 (argX m c) (argN m c) (argW m c) := by
  refine (dats m 0 c).arrAt_eq_of_covers 6 (spec_6 (argX m c) (argN m c) (argW m c)) (by decide +kernel) fun t _ y => ?_
  have ht : t.val < 64 := lt_of_lt_of_eq t.isLt (show cfg0.N = 64 from N_0)
  have h := point_6 m c ⟨t.val, ht⟩ t rfl
  rw [after0_6 m c t, h]
  exact (congrFun (blk_6 (spec_6 (argX m c) (argN m c) (argW m c)) ⟨t.val, ht⟩ t rfl) y).symm

theorem point_7 (n : Fin 64) (t : Fin cfg0.N) (ht : t.val = n.val) :
    out0_7 (F := Ideal) (grid0.coords t) (iblk m c 0 t) (iblk m c 1 t) (iblk m c 2 t) (iblk m c 3 t) (iblk m c 4 t) = fun y => spec_7 (argX m c) (argN m c) (argW m c) (ix2 (tile256 n (y 0)) (y 1)) := by
  have h : ∀ (i : Fin 256) (k : Fin 128), out0_7 (F := Ideal) (grid0.coords t) (iblk m c 0 t) (iblk m c 1 t) (iblk m c 2 t) (iblk m c 3 t) (iblk m c 4 t) (ix2 i k) = spec_7 (argX m c) (argN m c) (argW m c) (ix2 (tile256 n i) k) := fun i k => by
    exact (out_7 (grid0.coords t) (iblk m c 0 t) (iblk m c 1 t) (iblk m c 2 t) (iblk m c 3 t) (iblk m c 4 t) i k).trans (congrFun (cols_eq m c n t ht i) _)
  exact funext fun y => by rw [eq_ix2 y]; exact h (y 0) (y 1)

theorem array_7 : (dats m 0 c).arrAt 7 cfg0.N = spec_7 (argX m c) (argN m c) (argW m c) := by
  refine (dats m 0 c).arrAt_eq_of_covers 7 (spec_7 (argX m c) (argN m c) (argW m c)) (by decide +kernel) fun t _ y => ?_
  have ht : t.val < 64 := lt_of_lt_of_eq t.isLt (show cfg0.N = 64 from N_0)
  have h := point_7 m c ⟨t.val, ht⟩ t rfl
  rw [after0_7 m c t, h]
  exact (congrFun (blk_7 (spec_7 (argX m c) (argN m c) (argW m c)) ⟨t.val, ht⟩ t rfl) y).symm

theorem point_8 (n : Fin 64) (t : Fin cfg0.N) (ht : t.val = n.val) :
    out0_8 (F := Ideal) (grid0.coords t) (iblk m c 0 t) (iblk m c 1 t) (iblk m c 2 t) (iblk m c 3 t) (iblk m c 4 t) = fun y => spec_8 (argX m c) (argN m c) (argW m c) (ix2 (tile256 n (y 0)) (y 1)) := by
  have h : ∀ (i : Fin 256) (k : Fin 1536), out0_8 (F := Ideal) (grid0.coords t) (iblk m c 0 t) (iblk m c 1 t) (iblk m c 2 t) (iblk m c 3 t) (iblk m c 4 t) (ix2 i k) = spec_8 (argX m c) (argN m c) (argW m c) (ix2 (tile256 n i) k) := fun i k => by
    exact (out_8 (grid0.coords t) (iblk m c 0 t) (iblk m c 1 t) (iblk m c 2 t) (iblk m c 3 t) (iblk m c 4 t) i k).trans (congrFun (cols_eq m c n t ht i) _)
  exact funext fun y => by rw [eq_ix2 y]; exact h (y 0) (y 1)

theorem array_8 : (dats m 0 c).arrAt 8 cfg0.N = spec_8 (argX m c) (argN m c) (argW m c) := by
  refine (dats m 0 c).arrAt_eq_of_covers 8 (spec_8 (argX m c) (argN m c) (argW m c)) (by decide +kernel) fun t _ y => ?_
  have ht : t.val < 64 := lt_of_lt_of_eq t.isLt (show cfg0.N = 64 from N_0)
  have h := point_8 m c ⟨t.val, ht⟩ t rfl
  rw [after0_8 m c t, h]
  exact (congrFun (blk_8 (spec_8 (argX m c) (argN m c) (argW m c)) ⟨t.val, ht⟩ t rfl) y).symm

theorem point_9 (n : Fin 64) (t : Fin cfg0.N) (ht : t.val = n.val) :
    out0_9 (F := Ideal) (grid0.coords t) (iblk m c 0 t) (iblk m c 1 t) (iblk m c 2 t) (iblk m c 3 t) (iblk m c 4 t) = fun y => spec_9 (argX m c) (argN m c) (argW m c) (ix2 (tile256 n (y 0)) (y 1)) := by
  have h : ∀ (i : Fin 256) (k : Fin 512), out0_9 (F := Ideal) (grid0.coords t) (iblk m c 0 t) (iblk m c 1 t) (iblk m c 2 t) (iblk m c 3 t) (iblk m c 4 t) (ix2 i k) = spec_9 (argX m c) (argN m c) (argW m c) (ix2 (tile256 n i) k) := fun i k => by
    exact (out_9 (grid0.coords t) (iblk m c 0 t) (iblk m c 1 t) (iblk m c 2 t) (iblk m c 3 t) (iblk m c 4 t) i k).trans (congrFun (cols_eq m c n t ht i) _)
  exact funext fun y => by rw [eq_ix2 y]; exact h (y 0) (y 1)

theorem array_9 : (dats m 0 c).arrAt 9 cfg0.N = spec_9 (argX m c) (argN m c) (argW m c) := by
  refine (dats m 0 c).arrAt_eq_of_covers 9 (spec_9 (argX m c) (argN m c) (argW m c)) (by decide +kernel) fun t _ y => ?_
  have ht : t.val < 64 := lt_of_lt_of_eq t.isLt (show cfg0.N = 64 from N_0)
  have h := point_9 m c ⟨t.val, ht⟩ t rfl
  rw [after0_9 m c t, h]
  exact (congrFun (blk_9 (spec_9 (argX m c) (argN m c) (argW m c)) ⟨t.val, ht⟩ t rfl) y).symm

theorem point_10 (n : Fin 64) (t : Fin cfg0.N) (ht : t.val = n.val) :
    out0_10 (F := Ideal) (grid0.coords t) (iblk m c 0 t) (iblk m c 1 t) (iblk m c 2 t) (iblk m c 3 t) (iblk m c 4 t) = fun y => spec_10 (argX m c) (argN m c) (argW m c) (ix2 (tile256 n (y 0)) (y 1)) := by
  have h : ∀ (i : Fin 256) (k : Fin 2048), out0_10 (F := Ideal) (grid0.coords t) (iblk m c 0 t) (iblk m c 1 t) (iblk m c 2 t) (iblk m c 3 t) (iblk m c 4 t) (ix2 i k) = spec_10 (argX m c) (argN m c) (argW m c) (ix2 (tile256 n i) k) := fun i k => by
    exact (out_10 (grid0.coords t) (iblk m c 0 t) (iblk m c 1 t) (iblk m c 2 t) (iblk m c 3 t) (iblk m c 4 t) i k).trans (congrFun (cols_eq m c n t ht i) _)
  exact funext fun y => by rw [eq_ix2 y]; exact h (y 0) (y 1)

theorem array_10 : (dats m 0 c).arrAt 10 cfg0.N = spec_10 (argX m c) (argN m c) (argW m c) := by
  refine (dats m 0 c).arrAt_eq_of_covers 10 (spec_10 (argX m c) (argN m c) (argW m c)) (by decide +kernel) fun t _ y => ?_
  have ht : t.val < 64 := lt_of_lt_of_eq t.isLt (show cfg0.N = 64 from N_0)
  have h := point_10 m c ⟨t.val, ht⟩ t rfl
  rw [after0_10 m c t, h]
  exact (congrFun (blk_10 (spec_10 (argX m c) (argN m c) (argW m c)) ⟨t.val, ht⟩ t rfl) y).symm

theorem point_13 (n : Fin 64) (t : Fin cfg0.N) (ht : t.val = n.val) :
    out0_13 (F := Ideal) (grid0.coords t) (iblk m c 0 t) (iblk m c 1 t) (iblk m c 2 t) (iblk m c 3 t) (iblk m c 4 t) = fun y => spec_13 (argX m c) (argN m c) (argW m c) (ix2 (tile256 n (y 0)) (y 1)) := by
  have h : ∀ (i : Fin 256) (k : Fin 128), out0_13 (F := Ideal) (grid0.coords t) (iblk m c 0 t) (iblk m c 1 t) (iblk m c 2 t) (iblk m c 3 t) (iblk m c 4 t) (ix2 i k) = spec_13 (argX m c) (argN m c) (argW m c) (ix2 (tile256 n i) k) := fun i k => by
    exact (out_13 (grid0.coords t) (iblk m c 0 t) (iblk m c 1 t) (iblk m c 2 t) (iblk m c 3 t) (iblk m c 4 t) i k).trans (congrFun (cols_eq m c n t ht i) _)
  exact funext fun y => by rw [eq_ix2 y]; exact h (y 0) (y 1)

theorem array_13 : (dats m 0 c).arrAt 13 cfg0.N = spec_13 (argX m c) (argN m c) (argW m c) := by
  refine (dats m 0 c).arrAt_eq_of_covers 13 (spec_13 (argX m c) (argN m c) (argW m c)) (by decide +kernel) fun t _ y => ?_
  have ht : t.val < 64 := lt_of_lt_of_eq t.isLt (show cfg0.N = 64 from N_0)
  have h := point_13 m c ⟨t.val, ht⟩ t rfl
  rw [after0_13 m c t, h]
  exact (congrFun (blk_13 (spec_13 (argX m c) (argN m c) (argW m c)) ⟨t.val, ht⟩ t rfl) y).symm

theorem point_14 (n : Fin 64) (t : Fin cfg0.N) (ht : t.val = n.val) :
    out0_14 (F := Ideal) (grid0.coords t) (iblk m c 0 t) (iblk m c 1 t) (iblk m c 2 t) (iblk m c 3 t) (iblk m c 4 t) = fun y => spec_14 (argX m c) (argN m c) (argW m c) (ix2 (tile256 n (y 0)) (y 1)) := by
  have h : ∀ (i : Fin 256) (k : Fin 128), out0_14 (F := Ideal) (grid0.coords t) (iblk m c 0 t) (iblk m c 1 t) (iblk m c 2 t) (iblk m c 3 t) (iblk m c 4 t) (ix2 i k) = spec_14 (argX m c) (argN m c) (argW m c) (ix2 (tile256 n i) k) := fun i k => by
    exact (out_14 (grid0.coords t) (iblk m c 0 t) (iblk m c 1 t) (iblk m c 2 t) (iblk m c 3 t) (iblk m c 4 t) i k).trans (congrFun (cols_eq m c n t ht i) _)
  exact funext fun y => by rw [eq_ix2 y]; exact h (y 0) (y 1)

theorem array_14 : (dats m 0 c).arrAt 14 cfg0.N = spec_14 (argX m c) (argN m c) (argW m c) := by
  refine (dats m 0 c).arrAt_eq_of_covers 14 (spec_14 (argX m c) (argN m c) (argW m c)) (by decide +kernel) fun t _ y => ?_
  have ht : t.val < 64 := lt_of_lt_of_eq t.isLt (show cfg0.N = 64 from N_0)
  have h := point_14 m c ⟨t.val, ht⟩ t rfl
  rw [after0_14 m c t, h]
  exact (congrFun (blk_14 (spec_14 (argX m c) (argN m c) (argW m c)) ⟨t.val, ht⟩ t rfl) y).symm

theorem point_16 (n : Fin 64) (t : Fin cfg0.N) (ht : t.val = n.val) :
    out0_16 (F := Ideal) (grid0.coords t) (iblk m c 0 t) (iblk m c 1 t) (iblk m c 2 t) (iblk m c 3 t) (iblk m c 4 t) = fun y => spec_16 (argX m c) (argN m c) (argW m c) (ix2 (tile256 n (y 0)) (y 1)) := by
  have h : ∀ (i : Fin 256) (k : Fin 128), out0_16 (F := Ideal) (grid0.coords t) (iblk m c 0 t) (iblk m c 1 t) (iblk m c 2 t) (iblk m c 3 t) (iblk m c 4 t) (ix2 i k) = spec_16 (argX m c) (argN m c) (argW m c) (ix2 (tile256 n i) k) := fun i k => by
    exact (out_16 (grid0.coords t) (iblk m c 0 t) (iblk m c 1 t) (iblk m c 2 t) (iblk m c 3 t) (iblk m c 4 t) i k).trans (congrFun (congr (congrArg₂ (fun p cs sn => turnRow p cs sn 1024 (by omega)) (cols_eq m c n t ht i) ((cos_eq m c n t ht i).trans (congrArg cosT (pos_tile n i).symm))) ((sin_eq m c n t ht i).trans (congrArg sinT (pos_tile n i).symm))) k)
  exact funext fun y => by rw [eq_ix2 y]; exact h (y 0) (y 1)

theorem array_16 : (dats m 0 c).arrAt 16 cfg0.N = spec_16 (argX m c) (argN m c) (argW m c) := by
  refine (dats m 0 c).arrAt_eq_of_covers 16 (spec_16 (argX m c) (argN m c) (argW m c)) (by decide +kernel) fun t _ y => ?_
  have ht : t.val < 64 := lt_of_lt_of_eq t.isLt (show cfg0.N = 64 from N_0)
  have h := point_16 m c ⟨t.val, ht⟩ t rfl
  rw [after0_16 m c t, h]
  exact (congrFun (blk_16 (spec_16 (argX m c) (argN m c) (argW m c)) ⟨t.val, ht⟩ t rfl) y).symm

theorem point_11 (n : Fin 64) (t : Fin cfg0.N) (ht : t.val = n.val) :
    out0_11 (F := Ideal) (grid0.coords t) (iblk m c 0 t) (iblk m c 1 t) (iblk m c 2 t) (iblk m c 3 t) (iblk m c 4 t) = fun y => spec_11 (argX m c) (argN m c) (argW m c) (ix4 0 (entry n) (y 2) (place n (y 3))) := by
  refine (out_11 (grid0.coords t) (iblk m c 0 t) (iblk m c 1 t) (iblk m c 2 t) (iblk m c 3 t) (iblk m c 4 t)).trans (funext fun y => ?_)
  exact congrFun (congr (congrArg₂ rowsRow ((cols_eq m c n t ht (y 3)).trans (congrArg (rowCols (argX m c) (argN m c) (argW m c)) (flat_place n (y 3)).symm))
    (cos_eq m c n t ht (y 3))) (sin_eq m c n t ht (y 3))) (y 2)

theorem array_11 : (dats m 0 c).arrAt 11 cfg0.N = spec_11 (argX m c) (argN m c) (argW m c) := by
  refine (dats m 0 c).arrAt_eq_of_covers 11 (spec_11 (argX m c) (argN m c) (argW m c)) (by decide +kernel) fun t _ y => ?_
  have ht : t.val < 64 := lt_of_lt_of_eq t.isLt (show cfg0.N = 64 from N_0)
  have h := point_11 m c ⟨t.val, ht⟩ t rfl
  rw [after0_11 m c t, h]
  exact (congrFun (blk_11 (spec_11 (argX m c) (argN m c) (argW m c)) ⟨t.val, ht⟩ t rfl) y).symm

theorem point_12 (n : Fin 64) (t : Fin cfg0.N) (ht : t.val = n.val) :
    out0_12 (F := Ideal) (grid0.coords t) (iblk m c 0 t) (iblk m c 1 t) (iblk m c 2 t) (iblk m c 3 t) (iblk m c 4 t) = fun y => spec_12 (argX m c) (argN m c) (argW m c) (ix3 (entry n) (y 1) (place n (y 2))) := by
  refine (out_12 (grid0.coords t) (iblk m c 0 t) (iblk m c 1 t) (iblk m c 2 t) (iblk m c 3 t) (iblk m c 4 t)).trans (funext fun y => ?_)
  exact congrFun (congr (congrArg₂ winRow ((cols_eq m c n t ht (y 2)).trans (congrArg (rowCols (argX m c) (argN m c) (argW m c)) (flat_place n (y 2)).symm))
    (cos_eq m c n t ht (y 2))) (sin_eq m c n t ht (y 2))) (y 1)

theorem array_12 : (dats m 0 c).arrAt 12 cfg0.N = spec_12 (argX m c) (argN m c) (argW m c) := by
  refine (dats m 0 c).arrAt_eq_of_covers 12 (spec_12 (argX m c) (argN m c) (argW m c)) (by decide +kernel) fun t _ y => ?_
  have ht : t.val < 64 := lt_of_lt_of_eq t.isLt (show cfg0.N = 64 from N_0)
  have h := point_12 m c ⟨t.val, ht⟩ t rfl
  rw [after0_12 m c t, h]
  exact (congrFun (blk_12 (spec_12 (argX m c) (argN m c) (argW m c)) ⟨t.val, ht⟩ t rfl) y).symm

end Cert.Mix

end

end
-- ==== Proof.MixRope.lean ====
/-
  The packed columns of a row's projection and its turned heads, in terms of the columns as the weights hold them.
-/
module

public import proofs.«01_k».proof.Proof.MixRow

@[expose] public section

noncomputable section

namespace Cert.Rows

open Idealize.ShloMosaic

/-- The projection's packed columns are its columns, packed. -/
theorem proj_packed (x nw : Fin 1024 → EReal) (w : Fin 1024 → Fin 5408 → EReal) (k : Fin 5504) :
    proj x nw (fun d => packed (w d)) k = packed (proj x nw w) k := by
  by_cases h1 : k.val < 1304
  · simp only [packed, proj, dif_pos h1]
  by_cases h2 : k.val < 1312
  · simp only [packed, proj, dif_neg h1, dif_pos h2]
  by_cases h3 : k.val < 1408
  · simp only [packed, proj, dif_neg h1, dif_neg h2, dif_pos h3, mul_zero, Finset.sum_const_zero]
  by_cases h4 : k.val < 2944
  · simp only [packed, proj, dif_neg h1, dif_neg h2, dif_neg h3, dif_pos h4]
  · simp only [packed, proj, dif_neg h1, dif_neg h2, dif_neg h3, dif_neg h4]

/-- Two heads turned, by the halves of a head. -/
theorem turned_eq (z : Fin 128 → EReal) (p : Fin 4096) (l : Fin 128) :
    turned z (cosT p) (sinT p) l =
      if h : l.val % 64 < 32 then z l * Ideal.cos (angle p (l.val % 32)) - z ⟨l.val + 32, by omega⟩ * Ideal.sin (angle p (l.val % 32))
      else z l * Ideal.cos (angle p (l.val % 32)) + z ⟨l.val - 32, by omega⟩ * Ideal.sin (angle p (l.val % 32)) := by
  unfold turned cosT sinT partner
  by_cases h : l.val % 64 < 32
  · rw [if_pos h, if_pos h, dif_pos h, mul_neg, ← sub_eq_add_neg]
    exact congrArg (fun j => _ - z j * _) (Fin.ext (by show (l.val + 32) % 128 = l.val + 32; omega))
  · rw [if_neg h, if_neg h, dif_neg h]
    exact congrArg (fun j => _ + z j * _) (Fin.ext (by show (l.val + 96) % 128 = l.val - 32; omega))

end Cert.Rows

end

end
-- ==== Proof.MixShape.lean ====
/-
  The reference's values at an index: the projection's columns at a position, split into their groups, and the rotary embedding.
-/
module

public import proofs.«01_k».proof.Defs
public import proofs.«01_k».proof.Proof.MixRope
public import proofs.«01_k».proof.Proof.Gen.Reference5Ideal.Read
public import Idealize.ShloMosaic.Lib.Quiescent

@[expose] public section

set_option maxRecDepth 16384

noncomputable section

namespace Cert.MixPlain

open Cert.Reference5Ideal Cert.Reference5Ideal.Gen Cert.Reference5Ideal.Read Cert.Rows Idealize.ShloMosaic Idealize.ShloMosaic.TcCoe Idealize.SL.Sem

/-- A head turned. -/
def headTurn (z : Fin 64 → EReal) (t : Fin 4096) (l : Fin 64) : EReal :=
  if h : l.val < 32 then z l * Ideal.cos (angle t l.val) - z ⟨32 + l.val, by omega⟩ * Ideal.sin (angle t l.val)
  else z ⟨32 + (l.val - 32), by omega⟩ * Ideal.cos (angle t (l.val - 32)) + z ⟨l.val - 32, by omega⟩ * Ideal.sin (angle t (l.val - 32))

/-- The batch entry of a flat row. -/
abbrev rb (r : Fin 16384) : Fin 4 := ⟨r.val / 4096, by omega⟩
/-- The position of a flat row. -/
abbrev rt (r : Fin 16384) : Fin 4096 := ⟨r.val % 4096, by omega⟩

theorem cat_2 (A B : S4x4096x2x32.Idx → EReal) (b : Fin 4) (t : Fin 4096) (g : Fin 2) (l : Fin 64) :
    concatenate S4x4096x2x64 3 [⟨S4x4096x2x32, A⟩, ⟨S4x4096x2x32, B⟩] concatenates_S4x4096x2x32_S4x4096x2x32_S4x4096x2x64_d3 (ix4 b t g l) =
      if h : l.val < 32 then A (ix4 b t g ⟨l.val, h⟩) else B (ix4 b t g ⟨l.val - 32, by omega⟩) := by
  pointwise

theorem slo_2 (Z : S4x4096x2x64.Idx → EReal) (b : Fin 4) (t : Fin 4096) (g : Fin 2) (l : Fin 32) :
    extractStridedSlice S4x4096x2x32 ![0, 0, 0, 0] Z slices_S4x4096x2x64_S4x4096x2x32_0_0_0_0 (ix4 b t g l) = Z (ix4 b t g ⟨l.val, by omega⟩) := by
  pointwise

theorem shi_2 (Z : S4x4096x2x64.Idx → EReal) (b : Fin 4) (t : Fin 4096) (g : Fin 2) (l : Fin 32) :
    extractStridedSlice S4x4096x2x32 ![0, 0, 0, 32] Z slices_S4x4096x2x64_S4x4096x2x32_0_0_0_32 (ix4 b t g l) = Z (ix4 b t g ⟨32 + l.val, by omega⟩) := by
  pointwise

theorem expand_2 (Z : S4096x32.Idx → EReal) (b : Fin 4) (t : Fin 4096) (g : Fin 2) (l : Fin 32) :
    broadcastInDim S4x4096x2x32 ![0, 1, 2, 3] bcast_S1x4096x1x32_S4x4096x2x32_0_1_2_3 (broadcastInDim S1x4096x1x32 ![1, 2, 3] bcast_S4096x1x32_S1x4096x1x32_1_2_3
      (broadcastInDim S4096x1x32 ![0, 2] bcast_S4096x32_S4096x1x32_0_2 Z)) (ix4 b t g l) = Z (ix2 t l) := by
  pointwise

theorem cat_8 (A B : S4x4096x8x32.Idx → EReal) (b : Fin 4) (t : Fin 4096) (g : Fin 8) (l : Fin 64) :
    concatenate S4x4096x8x64 3 [⟨S4x4096x8x32, A⟩, ⟨S4x4096x8x32, B⟩] concatenates_S4x4096x8x32_S4x4096x8x32_S4x4096x8x64_d3 (ix4 b t g l) =
      if h : l.val < 32 then A (ix4 b t g ⟨l.val, h⟩) else B (ix4 b t g ⟨l.val - 32, by omega⟩) := by
  pointwise

theorem slo_8 (Z : S4x4096x8x64.Idx → EReal) (b : Fin 4) (t : Fin 4096) (g : Fin 8) (l : Fin 32) :
    extractStridedSlice S4x4096x8x32 ![0, 0, 0, 0] Z slices_S4x4096x8x64_S4x4096x8x32_0_0_0_0 (ix4 b t g l) = Z (ix4 b t g ⟨l.val, by omega⟩) := by
  pointwise

theorem shi_8 (Z : S4x4096x8x64.Idx → EReal) (b : Fin 4) (t : Fin 4096) (g : Fin 8) (l : Fin 32) :
    extractStridedSlice S4x4096x8x32 ![0, 0, 0, 32] Z slices_S4x4096x8x64_S4x4096x8x32_0_0_0_32 (ix4 b t g l) = Z (ix4 b t g ⟨32 + l.val, by omega⟩) := by
  pointwise

theorem expand_8 (Z : S4096x32.Idx → EReal) (b : Fin 4) (t : Fin 4096) (g : Fin 8) (l : Fin 32) :
    broadcastInDim S4x4096x8x32 ![0, 1, 2, 3] bcast_S1x4096x1x32_S4x4096x8x32_0_1_2_3 (broadcastInDim S1x4096x1x32 ![1, 2, 3] bcast_S4096x1x32_S1x4096x1x32_1_2_3
      (broadcastInDim S4096x1x32 ![0, 2] bcast_S4096x32_S4096x1x32_0_2 Z)) (ix4 b t g l) = Z (ix2 t l) := by
  pointwise

theorem kv_0 (Z : S4x4096x5408.Idx → EReal) (b : Fin 4) (t : Fin 4096) (g : Fin 2) (l : Fin 64) :
    shapeCast S4x4096x2x64 (extractStridedSlice S4x4096x1x2x64 ![0, 0, 0, 0, 0] (shapeCast S4x4096x6x2x64
      (extractStridedSlice S4x4096x768 ![0, 0, 512] Z slices_S4x4096x5408_S4x4096x768_0_0_512) shapeCasts_S4x4096x768_S4x4096x6x2x64)
      slices_S4x4096x6x2x64_S4x4096x1x2x64_0_0_0_0_0) shapeCasts_S4x4096x1x2x64_S4x4096x2x64 (ix4 b t g l) =
      Z (ix3 b t ⟨512 + (g.val * 64 + l.val), by omega⟩) := by
  pointwise

theorem kv_1 (Z : S4x4096x5408.Idx → EReal) (b : Fin 4) (t : Fin 4096) (g : Fin 2) (l : Fin 64) :
    shapeCast S4x4096x2x64 (extractStridedSlice S4x4096x1x2x64 ![0, 0, 1, 0, 0] (shapeCast S4x4096x6x2x64
      (extractStridedSlice S4x4096x768 ![0, 0, 512] Z slices_S4x4096x5408_S4x4096x768_0_0_512) shapeCasts_S4x4096x768_S4x4096x6x2x64)
      slices_S4x4096x6x2x64_S4x4096x1x2x64_0_0_1_0_0) shapeCasts_S4x4096x1x2x64_S4x4096x2x64 (ix4 b t g l) =
      Z (ix3 b t ⟨640 + (g.val * 64 + l.val), by omega⟩) := by
  pointwise
  exact congrArg (fun j => Z (ix3 b t j)) (Fin.ext (by dsimp only <;> omega))

theorem kv_2 (Z : S4x4096x5408.Idx → EReal) (b : Fin 4) (t : Fin 4096) (g : Fin 2) (l : Fin 64) :
    shapeCast S4x4096x2x64 (extractStridedSlice S4x4096x1x2x64 ![0, 0, 2, 0, 0] (shapeCast S4x4096x6x2x64
      (extractStridedSlice S4x4096x768 ![0, 0, 512] Z slices_S4x4096x5408_S4x4096x768_0_0_512) shapeCasts_S4x4096x768_S4x4096x6x2x64)
      slices_S4x4096x6x2x64_S4x4096x1x2x64_0_0_2_0_0) shapeCasts_S4x4096x1x2x64_S4x4096x2x64 (ix4 b t g l) =
      Z (ix3 b t ⟨768 + (g.val * 64 + l.val), by omega⟩) := by
  pointwise
  exact congrArg (fun j => Z (ix3 b t j)) (Fin.ext (by dsimp only <;> omega))

theorem kv_3 (Z : S4x4096x5408.Idx → EReal) (b : Fin 4) (t : Fin 4096) (g : Fin 2) (l : Fin 64) :
    shapeCast S4x4096x2x64 (extractStridedSlice S4x4096x1x2x64 ![0, 0, 3, 0, 0] (shapeCast S4x4096x6x2x64
      (extractStridedSlice S4x4096x768 ![0, 0, 512] Z slices_S4x4096x5408_S4x4096x768_0_0_512) shapeCasts_S4x4096x768_S4x4096x6x2x64)
      slices_S4x4096x6x2x64_S4x4096x1x2x64_0_0_3_0_0) shapeCasts_S4x4096x1x2x64_S4x4096x2x64 (ix4 b t g l) =
      Z (ix3 b t ⟨896 + (g.val * 64 + l.val), by omega⟩) := by
  pointwise
  exact congrArg (fun j => Z (ix3 b t j)) (Fin.ext (by dsimp only <;> omega))

theorem kv_4 (Z : S4x4096x5408.Idx → EReal) (b : Fin 4) (t : Fin 4096) (g : Fin 2) (l : Fin 64) :
    shapeCast S4x4096x2x64 (extractStridedSlice S4x4096x1x2x64 ![0, 0, 4, 0, 0] (shapeCast S4x4096x6x2x64
      (extractStridedSlice S4x4096x768 ![0, 0, 512] Z slices_S4x4096x5408_S4x4096x768_0_0_512) shapeCasts_S4x4096x768_S4x4096x6x2x64)
      slices_S4x4096x6x2x64_S4x4096x1x2x64_0_0_4_0_0) shapeCasts_S4x4096x1x2x64_S4x4096x2x64 (ix4 b t g l) =
      Z (ix3 b t ⟨1024 + (g.val * 64 + l.val), by omega⟩) := by
  pointwise
  exact congrArg (fun j => Z (ix3 b t j)) (Fin.ext (by dsimp only <;> omega))

theorem kv_5 (Z : S4x4096x5408.Idx → EReal) (b : Fin 4) (t : Fin 4096) (g : Fin 2) (l : Fin 64) :
    shapeCast S4x4096x2x64 (extractStridedSlice S4x4096x1x2x64 ![0, 0, 5, 0, 0] (shapeCast S4x4096x6x2x64
      (extractStridedSlice S4x4096x768 ![0, 0, 512] Z slices_S4x4096x5408_S4x4096x768_0_0_512) shapeCasts_S4x4096x768_S4x4096x6x2x64)
      slices_S4x4096x6x2x64_S4x4096x1x2x64_0_0_5_0_0) shapeCasts_S4x4096x1x2x64_S4x4096x2x64 (ix4 b t g l) =
      Z (ix3 b t ⟨1152 + (g.val * 64 + l.val), by omega⟩) := by
  pointwise
  exact congrArg (fun j => Z (ix3 b t j)) (Fin.ext (by dsimp only <;> omega))

theorem q_heads (Z : S4x4096x5408.Idx → EReal) (b : Fin 4) (t : Fin 4096) (g : Fin 8) (l : Fin 64) :
    shapeCast S4x4096x8x64 (extractStridedSlice S4x4096x512 ![0, 0, 0] Z slices_S4x4096x5408_S4x4096x512_0_0_0)
      shapeCasts_S4x4096x512_S4x4096x8x64 (ix4 b t g l) = Z (ix3 b t ⟨g.val * 64 + l.val, by omega⟩) := by
  pointwise

theorem unit_axis (Z : S4x4096x2x64.Idx → EReal) (b : Fin 4) (t : Fin 4096) (g : Fin 2) (l : Fin 64) :
    broadcastInDim S4x4096x1x2x64 ![0, 1, 3, 4] bcast_S4x4096x2x64_S4x4096x1x2x64_0_1_3_4 Z (ix5 b t 0 g l) = Z (ix4 b t g l) := by
  pointwise

theorem stack_4 (A B C D : S4x4096x1x2x64.Idx → EReal) (b : Fin 4) (t : Fin 4096) (c : Fin 4) (g : Fin 2) (l : Fin 64) :
    concatenate S4x4096x4x2x64 2 [⟨S4x4096x1x2x64, A⟩, ⟨S4x4096x1x2x64, B⟩, ⟨S4x4096x1x2x64, C⟩, ⟨S4x4096x1x2x64, D⟩]
      concatenates_S4x4096x1x2x64_S4x4096x1x2x64_S4x4096x1x2x64_S4x4096x1x2x64_S4x4096x4x2x64_d2 (ix5 b t c g l) =
      (![A, B, C, D] c) (ix5 b t 0 g l) := by
  fin_cases c <;> pointwise <;> rfl

theorem stack_2 (A B : S4x4096x1x2x64.Idx → EReal) (b : Fin 4) (t : Fin 4096) (c : Fin 2) (g : Fin 2) (l : Fin 64) :
    concatenate S4x4096x2x2x64 2 [⟨S4x4096x1x2x64, A⟩, ⟨S4x4096x1x2x64, B⟩]
      concatenates_S4x4096x1x2x64_S4x4096x1x2x64_S4x4096x2x2x64_d2 (ix5 b t c g l) = (![A, B] c) (ix5 b t 0 g l) := by
  fin_cases c <;> pointwise <;> rfl

theorem out_rows (Z : S4x4096x4x2x64.Idx → EReal) (b : Fin 4) (k : Fin 512) (t : Fin 4096) :
    broadcastInDim S1x4x512x4096 ![1, 2, 3] bcast_S4x512x4096_S1x4x512x4096_1_2_3 (transpose S4x512x4096 [0, 2, 1]
      (shapeCast S4x4096x512 Z shapeCasts_S4x4096x4x2x64_S4x4096x512) transposes_S4x4096x512_S4x512x4096_0_2_1) (ix4 0 b k t) =
      Z (ix5 b t ⟨k.val / 128, by omega⟩ ⟨k.val / 64 % 2, by omega⟩ ⟨k.val % 64, by omega⟩) := by
  pointwise

theorem out_win (Z : S4x4096x2x2x64.Idx → EReal) (b : Fin 4) (k : Fin 256) (t : Fin 4096) :
    transpose S4x256x4096 [0, 2, 1] (shapeCast S4x4096x256 Z shapeCasts_S4x4096x2x2x64_S4x4096x256) transposes_S4x4096x256_S4x256x4096_0_2_1
      (ix3 b k t) = Z (ix5 b t ⟨k.val / 128, by omega⟩ ⟨k.val / 64 % 2, by omega⟩ ⟨k.val % 64, by omega⟩) := by
  pointwise

theorem out_c0 (Z : S4x4096x4x2x64.Idx → EReal) (r : Fin 16384) (l : Fin 128) :
    shapeCast S16384x128 (shapeCast S4x4096x2x64 (extractStridedSlice S4x4096x1x2x64 ![0, 0, 0, 0, 0] Z slices_S4x4096x4x2x64_S4x4096x1x2x64_0_0_0_0_0)
      shapeCasts_S4x4096x1x2x64_S4x4096x2x64) shapeCasts_S4x4096x2x64_S16384x128 (ix2 r l) =
      Z (ix5 (rb r) (rt r) 0 ⟨l.val / 64, by omega⟩ ⟨l.val % 64, by omega⟩) := by
  pointwise

theorem out_c1 (Z : S4x4096x4x2x64.Idx → EReal) (r : Fin 16384) (l : Fin 128) :
    shapeCast S16384x128 (shapeCast S4x4096x2x64 (extractStridedSlice S4x4096x1x2x64 ![0, 0, 1, 0, 0] Z slices_S4x4096x4x2x64_S4x4096x1x2x64_0_0_1_0_0)
      shapeCasts_S4x4096x1x2x64_S4x4096x2x64) shapeCasts_S4x4096x2x64_S16384x128 (ix2 r l) =
      Z (ix5 (rb r) (rt r) 1 ⟨l.val / 64, by omega⟩ ⟨l.val % 64, by omega⟩) := by
  pointwise

theorem out_w0 (Z : S4x4096x2x2x64.Idx → EReal) (r : Fin 16384) (l : Fin 128) :
    shapeCast S16384x128 (shapeCast S4x4096x2x64 (extractStridedSlice S4x4096x1x2x64 ![0, 0, 0, 0, 0] Z slices_S4x4096x2x2x64_S4x4096x1x2x64_0_0_0_0_0)
      shapeCasts_S4x4096x1x2x64_S4x4096x2x64) shapeCasts_S4x4096x2x64_S16384x128 (ix2 r l) =
      Z (ix5 (rb r) (rt r) 0 ⟨l.val / 64, by omega⟩ ⟨l.val % 64, by omega⟩) := by
  pointwise

theorem out_q (Z : S4x4096x8x64.Idx → EReal) (r : Fin 16384) (l : Fin 512) :
    shapeCast S16384x512 Z shapeCasts_S4x4096x8x64_S16384x512 (ix2 r l) =
      Z (ix4 (rb r) (rt r) ⟨l.val / 64, by omega⟩ ⟨l.val % 64, by omega⟩) := by
  pointwise

theorem out_159 (Z : S4x4096x5408.Idx → EReal) (r : Fin 16384) (l : Fin 1536) :
    shapeCast S16384x1536 (extractStridedSlice S4x4096x1536 ![0, 0, 1304] Z slices_S4x4096x5408_S4x4096x1536_0_0_1304) shapeCasts_S4x4096x1536_S16384x1536 (ix2 r l) =
      Z (ix3 (rb r) (rt r) ⟨1304 + l.val, by omega⟩) := by
  pointwise

theorem out_160 (Z : S4x4096x5408.Idx → EReal) (r : Fin 16384) (l : Fin 512) :
    shapeCast S16384x512 (extractStridedSlice S4x4096x512 ![0, 0, 2848] Z slices_S4x4096x5408_S4x4096x512_0_0_2848) shapeCasts_S4x4096x512_S16384x512 (ix2 r l) =
      Z (ix3 (rb r) (rt r) ⟨2848 + l.val, by omega⟩) := by
  pointwise

theorem out_161 (Z : S4x4096x5408.Idx → EReal) (r : Fin 16384) (l : Fin 2048) :
    shapeCast S16384x2048 (extractStridedSlice S4x4096x2048 ![0, 0, 3360] Z slices_S4x4096x5408_S4x4096x2048_0_0_3360) shapeCasts_S4x4096x2048_S16384x2048 (ix2 r l) =
      Z (ix3 (rb r) (rt r) ⟨3360 + l.val, by omega⟩) := by
  pointwise

theorem out_158 (Z : S4x4096x5408.Idx → EReal) (Y : S4x4096x96.Idx → EReal) (r : Fin 16384) (l : Fin 128) :
    shapeCast S16384x128 (concatenate S4x4096x128 2 [⟨S4x4096x24, extractStridedSlice S4x4096x24 ![0, 0, 1280] Z slices_S4x4096x5408_S4x4096x24_0_0_1280⟩,
      ⟨S4x4096x4, extractStridedSlice S4x4096x4 ![0, 0, 2840] Z slices_S4x4096x5408_S4x4096x4_0_0_2840⟩,
      ⟨S4x4096x4, extractStridedSlice S4x4096x4 ![0, 0, 2844] Z slices_S4x4096x5408_S4x4096x4_0_0_2844⟩, ⟨S4x4096x96, Y⟩]
      concatenates_S4x4096x24_S4x4096x4_S4x4096x4_S4x4096x96_S4x4096x128_d2) shapeCasts_S4x4096x128_S16384x128 (ix2 r l) =
      if h : l.val < 24 then Z (ix3 (rb r) (rt r) ⟨1280 + l.val, by omega⟩)
      else if h : l.val - 24 < 4 then Z (ix3 (rb r) (rt r) ⟨2840 + (l.val - 24), by omega⟩)
      else if h : l.val - 24 - 4 < 4 then Z (ix3 (rb r) (rt r) ⟨2844 + (l.val - 24 - 4), by omega⟩)
      else Y (ix3 (rb r) (rt r) ⟨l.val - 24 - 4 - 4, by omega⟩) := by
  pointwise

end Cert.MixPlain

end

end
-- ==== Proof.MixRef.lean ====
/-
  The reference's values at an index: the projection's columns at a position, split into their groups, and the rotary embedding.
-/
module

public import proofs.«01_k».proof.Proof.MixShape

@[expose] public section

set_option maxRecDepth 16384

noncomputable section

namespace Cert.MixPlain

open Cert.Reference5Ideal Cert.Reference5Ideal.Gen Cert.Reference5Ideal.Read Cert.Rows Idealize.ShloMosaic Idealize.ShloMosaic.TcCoe Idealize.SL.Sem

variable (X : S4x4096x1024.Idx → EReal) (N : S4x1024.Idx → EReal) (W : S4x1024x5408.Idx → EReal)

/-- The columns of the projection at a position of a batch entry, in the order in which the weights hold them. -/
def cols (b : Fin 4) (t : Fin 4096) : Fin 5408 → EReal :=
  proj (fun k => X (ix3 b t k)) (fun k => N (ix2 0 k)) (fun d k => W (ix3 0 d k))

theorem ref_cols (b : Fin 4) (t : Fin 4096) (k : Fin 5408) :
    (val_main_v18 (F := Ideal) X N W : S4x4096x5408.Idx → EReal) (ix3 b t k) = cols X N W b t k := by
  simp only [val_main_v18, val_main_v17, val_main_v16, val_main_v15, val_main_v14, val_main_v13, val_main_v12, val_main_v11, val_main_v10, val_main_v9, val_main_v8, val_main_cst_1, val_main_v7, val_main_v6, val_main_cst_0, val_main_v5, val_main_v4, val_main_cst, val_main_v3, val_main_v2, val_main_v1, val_main_v0]
  pointwise [cols, proj, rms]

theorem ref_30 (b : Fin 4) (t : Fin 4096) (g : Fin 2) (l : Fin 64) :
    (val_main_v30 (F := Ideal) X N W : S4x4096x2x64.Idx → EReal) (ix4 b t g l) = cols X N W b t ⟨512 + (g.val * 64 + l.val), by omega⟩ :=
  (kv_0 (val_main_v18 (F := Ideal) X N W) b t g l).trans (ref_cols X N W b t _)

theorem ref_32 (b : Fin 4) (t : Fin 4096) (g : Fin 2) (l : Fin 64) :
    (val_main_v32 (F := Ideal) X N W : S4x4096x2x64.Idx → EReal) (ix4 b t g l) = cols X N W b t ⟨640 + (g.val * 64 + l.val), by omega⟩ :=
  (kv_1 (val_main_v18 (F := Ideal) X N W) b t g l).trans (ref_cols X N W b t _)

theorem ref_34 (b : Fin 4) (t : Fin 4096) (g : Fin 2) (l : Fin 64) :
    (val_main_v34 (F := Ideal) X N W : S4x4096x2x64.Idx → EReal) (ix4 b t g l) = cols X N W b t ⟨768 + (g.val * 64 + l.val), by omega⟩ :=
  (kv_2 (val_main_v18 (F := Ideal) X N W) b t g l).trans (ref_cols X N W b t _)

theorem ref_69 (b : Fin 4) (t : Fin 4096) (g : Fin 2) (l : Fin 64) :
    (val_main_v69 (F := Ideal) X N W : S4x4096x2x64.Idx → EReal) (ix4 b t g l) = cols X N W b t ⟨896 + (g.val * 64 + l.val), by omega⟩ :=
  (kv_3 (val_main_v18 (F := Ideal) X N W) b t g l).trans (ref_cols X N W b t _)

theorem ref_76 (b : Fin 4) (t : Fin 4096) (g : Fin 2) (l : Fin 64) :
    (val_main_v76 (F := Ideal) X N W : S4x4096x2x64.Idx → EReal) (ix4 b t g l) = cols X N W b t ⟨1024 + (g.val * 64 + l.val), by omega⟩ :=
  (kv_4 (val_main_v18 (F := Ideal) X N W) b t g l).trans (ref_cols X N W b t _)

theorem ref_111 (b : Fin 4) (t : Fin 4096) (g : Fin 2) (l : Fin 64) :
    (val_main_v111 (F := Ideal) X N W : S4x4096x2x64.Idx → EReal) (ix4 b t g l) = cols X N W b t ⟨1152 + (g.val * 64 + l.val), by omega⟩ :=
  (kv_5 (val_main_v18 (F := Ideal) X N W) b t g l).trans (ref_cols X N W b t _)

theorem ref_27 (b : Fin 4) (t : Fin 4096) (g : Fin 8) (l : Fin 64) :
    (val_main_v27 (F := Ideal) X N W : S4x4096x8x64.Idx → EReal) (ix4 b t g l) = cols X N W b t ⟨g.val * 64 + l.val, by omega⟩ :=
  (q_heads (val_main_v18 (F := Ideal) X N W) b t g l).trans (ref_cols X N W b t _)

theorem ref_46 (t : Fin 4096) (l : Fin 32) : (val_main_v46 (F := Ideal) : S4096x32.Idx → EReal) (ix2 t l) = angle t l.val := by
  simp only [val_main_v46, val_main_v45, val_main_v44, val_main_v43, val_main_v42, val_main_v41, val_main_v40, val_main_v39, val_main_v38, val_main_v37, val_main_v36, val_main_v35, val_main_cst_2, val_main_cst_3, val_main_v0]
  pointwise [angle]

theorem ref_54 (b : Fin 4) (t : Fin 4096) (g : Fin 2) (l : Fin 32) : (val_main_v54 (F := Ideal) : S4x4096x2x32.Idx → EReal) (ix4 b t g l) = Ideal.cos (angle t l.val) :=
  (expand_2 (val_main_v47 (F := Ideal)) b t g l).trans (congrArg Ideal.cos (ref_46 t l))

theorem ref_57 (b : Fin 4) (t : Fin 4096) (g : Fin 2) (l : Fin 32) : (val_main_v57 (F := Ideal) : S4x4096x2x32.Idx → EReal) (ix4 b t g l) = Ideal.sin (angle t l.val) :=
  (expand_2 (val_main_v49 (F := Ideal)) b t g l).trans (congrArg Ideal.sin (ref_46 t l))

theorem ref_61 (b : Fin 4) (t : Fin 4096) (g : Fin 2) (l : Fin 32) : (val_main_v61 (F := Ideal) : S4x4096x2x32.Idx → EReal) (ix4 b t g l) = Ideal.cos (angle t l.val) :=
  (expand_2 (val_main_v47 (F := Ideal)) b t g l).trans (congrArg Ideal.cos (ref_46 t l))

theorem ref_64 (b : Fin 4) (t : Fin 4096) (g : Fin 2) (l : Fin 32) : (val_main_v64 (F := Ideal) : S4x4096x2x32.Idx → EReal) (ix4 b t g l) = Ideal.sin (angle t l.val) :=
  (expand_2 (val_main_v49 (F := Ideal)) b t g l).trans (congrArg Ideal.sin (ref_46 t l))

theorem ref_51 (b : Fin 4) (t : Fin 4096) (g : Fin 2) (l : Fin 32) : (val_main_v51 (F := Ideal) X N W : S4x4096x2x32.Idx → EReal) (ix4 b t g l) = (val_main_v34 (F := Ideal) X N W : S4x4096x2x64.Idx → EReal) (ix4 b t g ⟨l.val, by omega⟩) :=
  slo_2 _ b t g l

theorem ref_52 (b : Fin 4) (t : Fin 4096) (g : Fin 2) (l : Fin 32) : (val_main_v52 (F := Ideal) X N W : S4x4096x2x32.Idx → EReal) (ix4 b t g l) = (val_main_v34 (F := Ideal) X N W : S4x4096x2x64.Idx → EReal) (ix4 b t g ⟨32 + l.val, by omega⟩) :=
  shi_2 _ b t g l

theorem ref_59 (b : Fin 4) (t : Fin 4096) (g : Fin 2) (l : Fin 32) : (val_main_v59 (F := Ideal) X N W : S4x4096x2x32.Idx → EReal) (ix4 b t g l) =
    (val_main_v34 (F := Ideal) X N W : S4x4096x2x64.Idx → EReal) (ix4 b t g ⟨l.val, by omega⟩) * Ideal.cos (angle t l.val) - (val_main_v34 (F := Ideal) X N W : S4x4096x2x64.Idx → EReal) (ix4 b t g ⟨32 + l.val, by omega⟩) * Ideal.sin (angle t l.val) := by
  rw [← ref_51 X N W b t g l, ← ref_52 X N W b t g l]
  exact congrArg₂ (fun c s : EReal => (val_main_v51 (F := Ideal) X N W : S4x4096x2x32.Idx → EReal) (ix4 b t g l) * c - (val_main_v52 (F := Ideal) X N W : S4x4096x2x32.Idx → EReal) (ix4 b t g l) * s)
    (ref_54 b t g l) (ref_57 b t g l)

theorem ref_66 (b : Fin 4) (t : Fin 4096) (g : Fin 2) (l : Fin 32) : (val_main_v66 (F := Ideal) X N W : S4x4096x2x32.Idx → EReal) (ix4 b t g l) =
    (val_main_v34 (F := Ideal) X N W : S4x4096x2x64.Idx → EReal) (ix4 b t g ⟨32 + l.val, by omega⟩) * Ideal.cos (angle t l.val) + (val_main_v34 (F := Ideal) X N W : S4x4096x2x64.Idx → EReal) (ix4 b t g ⟨l.val, by omega⟩) * Ideal.sin (angle t l.val) := by
  rw [← ref_52 X N W b t g l, ← ref_51 X N W b t g l]
  exact congrArg₂ (fun c s : EReal => (val_main_v52 (F := Ideal) X N W : S4x4096x2x32.Idx → EReal) (ix4 b t g l) * c + (val_main_v51 (F := Ideal) X N W : S4x4096x2x32.Idx → EReal) (ix4 b t g l) * s)
    (ref_61 b t g l) (ref_64 b t g l)

theorem ref_67 (b : Fin 4) (t : Fin 4096) (g : Fin 2) (l : Fin 64) :
    (val_main_v67 (F := Ideal) X N W : S4x4096x2x64.Idx → EReal) (ix4 b t g l) = headTurn (fun l => (val_main_v34 (F := Ideal) X N W : S4x4096x2x64.Idx → EReal) (ix4 b t g l)) t l := by
  refine (cat_2 (val_main_v59 (F := Ideal) X N W) (val_main_v66 (F := Ideal) X N W) b t g l).trans ?_
  unfold headTurn
  by_cases h : l.val < 32
  · rw [dif_pos h, dif_pos h]
    exact ref_59 X N W b t g _
  · rw [dif_neg h, dif_neg h]
    exact ref_66 X N W b t g _

theorem ref_88 (t : Fin 4096) (l : Fin 32) : (val_main_v88 (F := Ideal) : S4096x32.Idx → EReal) (ix2 t l) = angle t l.val := by
  simp only [val_main_v88, val_main_v87, val_main_v86, val_main_v85, val_main_v84, val_main_v83, val_main_v82, val_main_v81, val_main_v80, val_main_v79, val_main_v78, val_main_v77, val_main_cst_4, val_main_cst_5, val_main_v0]
  pointwise [angle]

theorem ref_96 (b : Fin 4) (t : Fin 4096) (g : Fin 2) (l : Fin 32) : (val_main_v96 (F := Ideal) : S4x4096x2x32.Idx → EReal) (ix4 b t g l) = Ideal.cos (angle t l.val) :=
  (expand_2 (val_main_v89 (F := Ideal)) b t g l).trans (congrArg Ideal.cos (ref_88 t l))

theorem ref_99 (b : Fin 4) (t : Fin 4096) (g : Fin 2) (l : Fin 32) : (val_main_v99 (F := Ideal) : S4x4096x2x32.Idx → EReal) (ix4 b t g l) = Ideal.sin (angle t l.val) :=
  (expand_2 (val_main_v91 (F := Ideal)) b t g l).trans (congrArg Ideal.sin (ref_88 t l))

theorem ref_103 (b : Fin 4) (t : Fin 4096) (g : Fin 2) (l : Fin 32) : (val_main_v103 (F := Ideal) : S4x4096x2x32.Idx → EReal) (ix4 b t g l) = Ideal.cos (angle t l.val) :=
  (expand_2 (val_main_v89 (F := Ideal)) b t g l).trans (congrArg Ideal.cos (ref_88 t l))

theorem ref_106 (b : Fin 4) (t : Fin 4096) (g : Fin 2) (l : Fin 32) : (val_main_v106 (F := Ideal) : S4x4096x2x32.Idx → EReal) (ix4 b t g l) = Ideal.sin (angle t l.val) :=
  (expand_2 (val_main_v91 (F := Ideal)) b t g l).trans (congrArg Ideal.sin (ref_88 t l))

theorem ref_93 (b : Fin 4) (t : Fin 4096) (g : Fin 2) (l : Fin 32) : (val_main_v93 (F := Ideal) X N W : S4x4096x2x32.Idx → EReal) (ix4 b t g l) = (val_main_v76 (F := Ideal) X N W : S4x4096x2x64.Idx → EReal) (ix4 b t g ⟨l.val, by omega⟩) :=
  slo_2 _ b t g l

theorem ref_94 (b : Fin 4) (t : Fin 4096) (g : Fin 2) (l : Fin 32) : (val_main_v94 (F := Ideal) X N W : S4x4096x2x32.Idx → EReal) (ix4 b t g l) = (val_main_v76 (F := Ideal) X N W : S4x4096x2x64.Idx → EReal) (ix4 b t g ⟨32 + l.val, by omega⟩) :=
  shi_2 _ b t g l

theorem ref_101 (b : Fin 4) (t : Fin 4096) (g : Fin 2) (l : Fin 32) : (val_main_v101 (F := Ideal) X N W : S4x4096x2x32.Idx → EReal) (ix4 b t g l) =
    (val_main_v76 (F := Ideal) X N W : S4x4096x2x64.Idx → EReal) (ix4 b t g ⟨l.val, by omega⟩) * Ideal.cos (angle t l.val) - (val_main_v76 (F := Ideal) X N W : S4x4096x2x64.Idx → EReal) (ix4 b t g ⟨32 + l.val, by omega⟩) * Ideal.sin (angle t l.val) := by
  rw [← ref_93 X N W b t g l, ← ref_94 X N W b t g l]
  exact congrArg₂ (fun c s : EReal => (val_main_v93 (F := Ideal) X N W : S4x4096x2x32.Idx → EReal) (ix4 b t g l) * c - (val_main_v94 (F := Ideal) X N W : S4x4096x2x32.Idx → EReal) (ix4 b t g l) * s)
    (ref_96 b t g l) (ref_99 b t g l)

theorem ref_108 (b : Fin 4) (t : Fin 4096) (g : Fin 2) (l : Fin 32) : (val_main_v108 (F := Ideal) X N W : S4x4096x2x32.Idx → EReal) (ix4 b t g l) =
    (val_main_v76 (F := Ideal) X N W : S4x4096x2x64.Idx → EReal) (ix4 b t g ⟨32 + l.val, by omega⟩) * Ideal.cos (angle t l.val) + (val_main_v76 (F := Ideal) X N W : S4x4096x2x64.Idx → EReal) (ix4 b t g ⟨l.val, by omega⟩) * Ideal.sin (angle t l.val) := by
  rw [← ref_94 X N W b t g l, ← ref_93 X N W b t g l]
  exact congrArg₂ (fun c s : EReal => (val_main_v94 (F := Ideal) X N W : S4x4096x2x32.Idx → EReal) (ix4 b t g l) * c + (val_main_v93 (F := Ideal) X N W : S4x4096x2x32.Idx → EReal) (ix4 b t g l) * s)
    (ref_103 b t g l) (ref_106 b t g l)

theorem ref_109 (b : Fin 4) (t : Fin 4096) (g : Fin 2) (l : Fin 64) :
    (val_main_v109 (F := Ideal) X N W : S4x4096x2x64.Idx → EReal) (ix4 b t g l) = headTurn (fun l => (val_main_v76 (F := Ideal) X N W : S4x4096x2x64.Idx → EReal) (ix4 b t g l)) t l := by
  refine (cat_2 (val_main_v101 (F := Ideal) X N W) (val_main_v108 (F := Ideal) X N W) b t g l).trans ?_
  unfold headTurn
  by_cases h : l.val < 32
  · rw [dif_pos h, dif_pos h]
    exact ref_101 X N W b t g _
  · rw [dif_neg h, dif_neg h]
    exact ref_108 X N W b t g _

theorem ref_132 (t : Fin 4096) (l : Fin 32) : (val_main_v132 (F := Ideal) : S4096x32.Idx → EReal) (ix2 t l) = angle t l.val := by
  simp only [val_main_v132, val_main_v131, val_main_v130, val_main_v129, val_main_v128, val_main_v127, val_main_v126, val_main_v125, val_main_v124, val_main_v123, val_main_v122, val_main_v121, val_main_cst_8, val_main_cst_9, val_main_v0]
  pointwise [angle]

theorem ref_140 (b : Fin 4) (t : Fin 4096) (g : Fin 8) (l : Fin 32) : (val_main_v140 (F := Ideal) : S4x4096x8x32.Idx → EReal) (ix4 b t g l) = Ideal.cos (angle t l.val) :=
  (expand_8 (val_main_v133 (F := Ideal)) b t g l).trans (congrArg Ideal.cos (ref_132 t l))

theorem ref_143 (b : Fin 4) (t : Fin 4096) (g : Fin 8) (l : Fin 32) : (val_main_v143 (F := Ideal) : S4x4096x8x32.Idx → EReal) (ix4 b t g l) = Ideal.sin (angle t l.val) :=
  (expand_8 (val_main_v135 (F := Ideal)) b t g l).trans (congrArg Ideal.sin (ref_132 t l))

theorem ref_147 (b : Fin 4) (t : Fin 4096) (g : Fin 8) (l : Fin 32) : (val_main_v147 (F := Ideal) : S4x4096x8x32.Idx → EReal) (ix4 b t g l) = Ideal.cos (angle t l.val) :=
  (expand_8 (val_main_v133 (F := Ideal)) b t g l).trans (congrArg Ideal.cos (ref_132 t l))

theorem ref_150 (b : Fin 4) (t : Fin 4096) (g : Fin 8) (l : Fin 32) : (val_main_v150 (F := Ideal) : S4x4096x8x32.Idx → EReal) (ix4 b t g l) = Ideal.sin (angle t l.val) :=
  (expand_8 (val_main_v135 (F := Ideal)) b t g l).trans (congrArg Ideal.sin (ref_132 t l))

theorem ref_137 (b : Fin 4) (t : Fin 4096) (g : Fin 8) (l : Fin 32) : (val_main_v137 (F := Ideal) X N W : S4x4096x8x32.Idx → EReal) (ix4 b t g l) = (val_main_v27 (F := Ideal) X N W : S4x4096x8x64.Idx → EReal) (ix4 b t g ⟨l.val, by omega⟩) :=
  slo_8 _ b t g l

theorem ref_138 (b : Fin 4) (t : Fin 4096) (g : Fin 8) (l : Fin 32) : (val_main_v138 (F := Ideal) X N W : S4x4096x8x32.Idx → EReal) (ix4 b t g l) = (val_main_v27 (F := Ideal) X N W : S4x4096x8x64.Idx → EReal) (ix4 b t g ⟨32 + l.val, by omega⟩) :=
  shi_8 _ b t g l

theorem ref_145 (b : Fin 4) (t : Fin 4096) (g : Fin 8) (l : Fin 32) : (val_main_v145 (F := Ideal) X N W : S4x4096x8x32.Idx → EReal) (ix4 b t g l) =
    (val_main_v27 (F := Ideal) X N W : S4x4096x8x64.Idx → EReal) (ix4 b t g ⟨l.val, by omega⟩) * Ideal.cos (angle t l.val) - (val_main_v27 (F := Ideal) X N W : S4x4096x8x64.Idx → EReal) (ix4 b t g ⟨32 + l.val, by omega⟩) * Ideal.sin (angle t l.val) := by
  rw [← ref_137 X N W b t g l, ← ref_138 X N W b t g l]
  exact congrArg₂ (fun c s : EReal => (val_main_v137 (F := Ideal) X N W : S4x4096x8x32.Idx → EReal) (ix4 b t g l) * c - (val_main_v138 (F := Ideal) X N W : S4x4096x8x32.Idx → EReal) (ix4 b t g l) * s)
    (ref_140 b t g l) (ref_143 b t g l)

theorem ref_152 (b : Fin 4) (t : Fin 4096) (g : Fin 8) (l : Fin 32) : (val_main_v152 (F := Ideal) X N W : S4x4096x8x32.Idx → EReal) (ix4 b t g l) =
    (val_main_v27 (F := Ideal) X N W : S4x4096x8x64.Idx → EReal) (ix4 b t g ⟨32 + l.val, by omega⟩) * Ideal.cos (angle t l.val) + (val_main_v27 (F := Ideal) X N W : S4x4096x8x64.Idx → EReal) (ix4 b t g ⟨l.val, by omega⟩) * Ideal.sin (angle t l.val) := by
  rw [← ref_138 X N W b t g l, ← ref_137 X N W b t g l]
  exact congrArg₂ (fun c s : EReal => (val_main_v138 (F := Ideal) X N W : S4x4096x8x32.Idx → EReal) (ix4 b t g l) * c + (val_main_v137 (F := Ideal) X N W : S4x4096x8x32.Idx → EReal) (ix4 b t g l) * s)
    (ref_147 b t g l) (ref_150 b t g l)

theorem ref_153 (b : Fin 4) (t : Fin 4096) (g : Fin 8) (l : Fin 64) :
    (val_main_v153 (F := Ideal) X N W : S4x4096x8x64.Idx → EReal) (ix4 b t g l) = headTurn (fun l => (val_main_v27 (F := Ideal) X N W : S4x4096x8x64.Idx → EReal) (ix4 b t g l)) t l := by
  refine (cat_8 (val_main_v145 (F := Ideal) X N W) (val_main_v152 (F := Ideal) X N W) b t g l).trans ?_
  unfold headTurn
  by_cases h : l.val < 32
  · rw [dif_pos h, dif_pos h]
    exact ref_145 X N W b t g _
  · rw [dif_neg h, dif_neg h]
    exact ref_152 X N W b t g _

end Cert.MixPlain

end

end
-- ==== Proof.MixVal.lean ====
/-
  The reference's results at an index, in terms of the packed columns of a row's projection.
-/
module

public import proofs.«01_k».proof.Proof.MixRef

@[expose] public section

set_option maxRecDepth 16384

noncomputable section

namespace Cert.MixPlain

open Cert.Reference5Ideal Cert.Reference5Ideal.Gen Cert.Reference5Ideal.Read Cert.Rows Idealize.ShloMosaic Idealize.ShloMosaic.TcCoe Idealize.SL.Sem

theorem packed_low (c : Fin 5408 → EReal) (k : Fin 5504) (h : k.val < 1304) : packed c k = c ⟨k.val, by omega⟩ := by
  unfold packed
  rw [dif_pos h]

theorem packed_mid (c : Fin 5408 → EReal) (k : Fin 5504) (h : 1408 ≤ k.val) (h' : k.val < 2944) : packed c k = c ⟨k.val - 104, by omega⟩ := by
  unfold packed
  rw [dif_neg (by omega), dif_neg (by omega), dif_neg (by omega), dif_pos h']

theorem packed_high (c : Fin 5408 → EReal) (k : Fin 5504) (h : 2944 ≤ k.val) : packed c k = c ⟨k.val - 96, by omega⟩ := by
  unfold packed
  rw [dif_neg (by omega), dif_neg (by omega), dif_neg (by omega), dif_neg (by omega)]

/-- Two packed heads turned are each head turned. -/
theorem turn_head (c : Fin 5408 → EReal) (o : ℕ) (ho : o + 128 ≤ 1304) (t : Fin 4096) (g : Fin 2) (l : Fin 64) (m : Fin 128)
    (hm : m.val = g.val * 64 + l.val) :
    turned (fun m => packed c ⟨o + m.val, by omega⟩) (cosT t) (sinT t) m = headTurn (fun l => c ⟨o + (g.val * 64 + l.val), by omega⟩) t l := by
  rw [turned_eq]
  unfold headTurn
  have hg := g.isLt
  have hl := l.isLt
  by_cases h : l.val < 32
  · have e : m.val % 32 = l.val := by omega
    rw [dif_pos h, dif_pos (show m.val % 64 < 32 by omega), e, packed_low _ _ (by dsimp only; omega), packed_low _ _ (by dsimp only; omega)]
    refine congrArg₂ (fun a b => a * _ - b * _) (congrArg c (Fin.ext ?_)) (congrArg c (Fin.ext ?_)) <;> dsimp only <;> omega
  · have e : m.val % 32 = l.val - 32 := by omega
    rw [dif_neg h, dif_neg (show ¬ m.val % 64 < 32 by omega), e, packed_low _ _ (by dsimp only; omega), packed_low _ _ (by dsimp only; omega)]
    refine congrArg₂ (fun a b => a * _ + b * _) (congrArg c (Fin.ext ?_)) (congrArg c (Fin.ext ?_)) <;> dsimp only <;> omega

variable (X : S4x4096x1024.Idx → EReal) (N : S4x1024.Idx → EReal) (W : S4x1024x5408.Idx → EReal)

theorem val_120 (r : Fin 16384) (k : Fin 512) : (val_main_v120 (F := Ideal) X N W : S16384x512.Idx → EReal) (ix2 r k) =
    qrawRow (packed (cols X N W (rb r) (rt r))) k := by
  unfold qrawRow qscale
  rw [packed_low _ _ (by dsimp only; omega)]
  refine congrArg (fun a : EReal => a * Ideal.ofBits .f32 0x3E38AA3B#32) ((out_q (val_main_v27 (F := Ideal) X N W) r k).trans ((ref_27 X N W _ _ _ _).trans
    (congrArg (cols X N W (rb r) (rt r)) (Fin.ext ?_))))
  dsimp only <;> omega

theorem val_157 (r : Fin 16384) (k : Fin 512) : (val_main_v157 (F := Ideal) X N W : S16384x512.Idx → EReal) (ix2 r k) =
    qrotRow (packed (cols X N W (rb r) (rt r))) (cosT (rt r)) (sinT (rt r)) k := by
  unfold qrotRow qscale
  refine congrArg (fun a : EReal => a * Ideal.ofBits .f32 0x3E38AA3B#32) ((out_q (val_main_v153 (F := Ideal) X N W) r k).trans ((ref_153 X N W _ _ _ _).trans ?_))
  rw [turn_head _ (k.val / 128 * 128) (by omega) (rt r) ⟨k.val % 128 / 64, by omega⟩ ⟨k.val % 64, by omega⟩ _ (by dsimp only; omega)]
  refine congrArg (fun z => headTurn z (rt r) _) (funext fun l => (ref_27 X N W _ _ _ _).trans (congrArg (cols X N W (rb r) (rt r)) (Fin.ext ?_)))
  dsimp only <;> omega

theorem val_158 (r : Fin 16384) (l : Fin 128) : (val_main_v158 (F := Ideal) X N W : S16384x128.Idx → EReal) (ix2 r l) =
    shift (n := 128) (packed (cols X N W (rb r) (rt r))) 1280 (by omega) l := by
  refine (out_158 (val_main_v18 (F := Ideal) X N W) (val_main_v115 (F := Ideal)) r l).trans ?_
  unfold shift packed
  simp only [ref_cols]
  have hz (i : Fin 4) (j : Fin 4096) (k : Fin 96) : (val_main_v115 (F := Ideal) : S4x4096x96.Idx → EReal) (ix3 i j k) = 0 := by
    simp only [val_main_v115, val_main_cst_6]
    pointwise
  have hl := l.isLt
  repeat' split
  all_goals first
    | (exfalso; omega)
    | exact hz _ _ _
    | exact congrArg (cols X N W (rb r) (rt r)) (Fin.ext (by dsimp only <;> omega))

theorem val_159 (r : Fin 16384) (l : Fin 1536) : (val_main_v159 (F := Ideal) X N W : S16384x1536.Idx → EReal) (ix2 r l) =
    shift (n := 1536) (packed (cols X N W (rb r) (rt r))) 1408 (by omega) l := by
  refine (out_159 (val_main_v18 (F := Ideal) X N W) r l).trans ((ref_cols X N W _ _ _).trans ?_)
  unfold shift
  rw [packed_mid _ _ (by dsimp only; omega) (by dsimp only; omega)]
  refine congrArg (cols X N W (rb r) (rt r)) (Fin.ext ?_)
  dsimp only <;> omega

theorem val_160 (r : Fin 16384) (l : Fin 512) : (val_main_v160 (F := Ideal) X N W : S16384x512.Idx → EReal) (ix2 r l) =
    shift (n := 512) (packed (cols X N W (rb r) (rt r))) 2944 (by omega) l := by
  refine (out_160 (val_main_v18 (F := Ideal) X N W) r l).trans ((ref_cols X N W _ _ _).trans ?_)
  unfold shift
  rw [packed_high _ _ (by dsimp only; omega)]
  refine congrArg (cols X N W (rb r) (rt r)) (Fin.ext ?_)
  dsimp only <;> omega

theorem val_161 (r : Fin 16384) (l : Fin 2048) : (val_main_v161 (F := Ideal) X N W : S16384x2048.Idx → EReal) (ix2 r l) =
    shift (n := 2048) (packed (cols X N W (rb r) (rt r))) 3456 (by omega) l := by
  refine (out_161 (val_main_v18 (F := Ideal) X N W) r l).trans ((ref_cols X N W _ _ _).trans ?_)
  unfold shift
  rw [packed_high _ _ (by dsimp only; omega)]
  refine congrArg (cols X N W (rb r) (rt r)) (Fin.ext ?_)
  dsimp only <;> omega

theorem row_0 (b : Fin 4) (t : Fin 4096) (g : Fin 2) (l : Fin 64) : (val_main_v74 (F := Ideal) X N W : S4x4096x4x2x64.Idx → EReal) (ix5 b t 0 g l) =
    (val_main_v30 (F := Ideal) X N W : S4x4096x2x64.Idx → EReal) (ix4 b t g l) :=
  (stack_4 (val_main_v70 (F := Ideal) X N W) (val_main_v71 (F := Ideal) X N W) (val_main_v72 (F := Ideal) X N W) (val_main_v73 (F := Ideal) X N W) b t 0 g l).trans
    (unit_axis (val_main_v30 (F := Ideal) X N W) b t g l)

theorem row_1 (b : Fin 4) (t : Fin 4096) (g : Fin 2) (l : Fin 64) : (val_main_v74 (F := Ideal) X N W : S4x4096x4x2x64.Idx → EReal) (ix5 b t 1 g l) =
    (val_main_v32 (F := Ideal) X N W : S4x4096x2x64.Idx → EReal) (ix4 b t g l) :=
  (stack_4 (val_main_v70 (F := Ideal) X N W) (val_main_v71 (F := Ideal) X N W) (val_main_v72 (F := Ideal) X N W) (val_main_v73 (F := Ideal) X N W) b t 1 g l).trans
    (unit_axis (val_main_v32 (F := Ideal) X N W) b t g l)

theorem row_2 (b : Fin 4) (t : Fin 4096) (g : Fin 2) (l : Fin 64) : (val_main_v74 (F := Ideal) X N W : S4x4096x4x2x64.Idx → EReal) (ix5 b t 2 g l) =
    (val_main_v67 (F := Ideal) X N W : S4x4096x2x64.Idx → EReal) (ix4 b t g l) :=
  (stack_4 (val_main_v70 (F := Ideal) X N W) (val_main_v71 (F := Ideal) X N W) (val_main_v72 (F := Ideal) X N W) (val_main_v73 (F := Ideal) X N W) b t 2 g l).trans
    (unit_axis (val_main_v67 (F := Ideal) X N W) b t g l)

theorem row_3 (b : Fin 4) (t : Fin 4096) (g : Fin 2) (l : Fin 64) : (val_main_v74 (F := Ideal) X N W : S4x4096x4x2x64.Idx → EReal) (ix5 b t 3 g l) =
    (val_main_v69 (F := Ideal) X N W : S4x4096x2x64.Idx → EReal) (ix4 b t g l) :=
  (stack_4 (val_main_v70 (F := Ideal) X N W) (val_main_v71 (F := Ideal) X N W) (val_main_v72 (F := Ideal) X N W) (val_main_v73 (F := Ideal) X N W) b t 3 g l).trans
    (unit_axis (val_main_v69 (F := Ideal) X N W) b t g l)

theorem winrow_0 (b : Fin 4) (t : Fin 4096) (g : Fin 2) (l : Fin 64) : (val_main_v114 (F := Ideal) X N W : S4x4096x2x2x64.Idx → EReal) (ix5 b t 0 g l) =
    (val_main_v109 (F := Ideal) X N W : S4x4096x2x64.Idx → EReal) (ix4 b t g l) :=
  (stack_2 (val_main_v112 (F := Ideal) X N W) (val_main_v113 (F := Ideal) X N W) b t 0 g l).trans
    (unit_axis (val_main_v109 (F := Ideal) X N W) b t g l)

theorem winrow_1 (b : Fin 4) (t : Fin 4096) (g : Fin 2) (l : Fin 64) : (val_main_v114 (F := Ideal) X N W : S4x4096x2x2x64.Idx → EReal) (ix5 b t 1 g l) =
    (val_main_v111 (F := Ideal) X N W : S4x4096x2x64.Idx → EReal) (ix4 b t g l) :=
  (stack_2 (val_main_v112 (F := Ideal) X N W) (val_main_v113 (F := Ideal) X N W) b t 1 g l).trans
    (unit_axis (val_main_v111 (F := Ideal) X N W) b t g l)

theorem turn_keys (b : Fin 4) (t : Fin 4096) (g : Fin 2) (l : Fin 64) (m : Fin 128) (hm : m.val = g.val * 64 + l.val) : (val_main_v67 (F := Ideal) X N W : S4x4096x2x64.Idx → EReal) (ix4 b t g l) =
    turnRow (packed (cols X N W b t)) (cosT t) (sinT t) 768 (by omega) m := by
  unfold turnRow
  rw [turn_head _ 768 (by omega) t g l m hm]
  exact (ref_67 X N W b t g l).trans (congrArg (fun z => headTurn z t l) (funext fun l => ref_34 X N W b t g l))

theorem turn_wkeys (b : Fin 4) (t : Fin 4096) (g : Fin 2) (l : Fin 64) (m : Fin 128) (hm : m.val = g.val * 64 + l.val) : (val_main_v109 (F := Ideal) X N W : S4x4096x2x64.Idx → EReal) (ix4 b t g l) =
    turnRow (packed (cols X N W b t)) (cosT t) (sinT t) 1024 (by omega) m := by
  unfold turnRow
  rw [turn_head _ 1024 (by omega) t g l m hm]
  exact (ref_109 X N W b t g l).trans (congrArg (fun z => headTurn z t l) (funext fun l => ref_76 X N W b t g l))

theorem val_169 (r : Fin 16384) (l : Fin 128) : (val_main_v169 (F := Ideal) X N W : S16384x128.Idx → EReal) (ix2 r l) =
    shift (n := 128) (packed (cols X N W (rb r) (rt r))) 512 (by omega) l := by
  refine (out_c0 (val_main_v74 (F := Ideal) X N W) r l).trans ((row_0 X N W _ _ _ _).trans ((ref_30 X N W _ _ _ _).trans ?_))
  unfold shift
  rw [packed_low _ _ (by dsimp only; omega)]
  refine congrArg (cols X N W (rb r) (rt r)) (Fin.ext ?_)
  dsimp only <;> omega

theorem val_172 (r : Fin 16384) (l : Fin 128) : (val_main_v172 (F := Ideal) X N W : S16384x128.Idx → EReal) (ix2 r l) =
    shift (n := 128) (packed (cols X N W (rb r) (rt r))) 640 (by omega) l := by
  refine (out_c1 (val_main_v74 (F := Ideal) X N W) r l).trans ((row_1 X N W _ _ _ _).trans ((ref_32 X N W _ _ _ _).trans ?_))
  unfold shift
  rw [packed_low _ _ (by dsimp only; omega)]
  refine congrArg (cols X N W (rb r) (rt r)) (Fin.ext ?_)
  dsimp only <;> omega

theorem val_176 (r : Fin 16384) (l : Fin 128) : (val_main_v176 (F := Ideal) X N W : S16384x128.Idx → EReal) (ix2 r l) =
    turnRow (packed (cols X N W (rb r) (rt r))) (cosT (rt r)) (sinT (rt r)) 1024 (by omega) l :=
  (out_w0 (val_main_v114 (F := Ideal) X N W) r l).trans ((winrow_0 X N W _ _ _ _).trans (turn_wkeys X N W _ _ _ _ l (by dsimp only; omega)))

theorem val_164 (b : Fin 4) (k : Fin 512) (t : Fin 4096) : (val_main_v164 (F := Ideal) X N W : S1x4x512x4096.Idx → EReal) (ix4 0 b k t) =
    rowsRow (packed (cols X N W b t)) (cosT t) (sinT t) k := by
  refine (out_rows (val_main_v74 (F := Ideal) X N W) b k t).trans ?_
  unfold rowsRow
  have hk := k.isLt
  by_cases h2 : k.val / 128 = 2
  · rw [if_pos h2, show (⟨k.val / 128, by omega⟩ : Fin 4) = 2 from Fin.ext h2, row_2]
    exact turn_keys X N W _ _ _ _ _ (by dsimp only; omega)
  rw [if_neg h2, packed_low _ _ (by dsimp only; omega)]
  by_cases h0 : k.val / 128 = 0
  · rw [show (⟨k.val / 128, by omega⟩ : Fin 4) = 0 from Fin.ext h0, row_0, ref_30]
    exact congrArg (cols X N W b t) (Fin.ext (by dsimp only; omega))
  by_cases h1 : k.val / 128 = 1
  · rw [show (⟨k.val / 128, by omega⟩ : Fin 4) = 1 from Fin.ext h1, row_1, ref_32]
    exact congrArg (cols X N W b t) (Fin.ext (by dsimp only; omega))
  have h3 : k.val / 128 = 3 := by omega
  rw [show (⟨k.val / 128, by omega⟩ : Fin 4) = 3 from Fin.ext h3, row_3, ref_69]
  exact congrArg (cols X N W b t) (Fin.ext (by dsimp only; omega))

theorem val_166 (b : Fin 4) (k : Fin 256) (t : Fin 4096) : (val_main_v166 (F := Ideal) X N W : S4x256x4096.Idx → EReal) (ix3 b k t) =
    winRow (packed (cols X N W b t)) (cosT t) (sinT t) k := by
  refine (out_win (val_main_v114 (F := Ideal) X N W) b k t).trans ?_
  unfold winRow
  have hk := k.isLt
  by_cases h0 : k.val / 128 = 0
  · rw [if_pos h0, show (⟨k.val / 128, by omega⟩ : Fin 2) = 0 from Fin.ext h0, winrow_0]
    exact turn_wkeys X N W _ _ _ _ _ (by dsimp only; omega)
  have h1 : k.val / 128 = 1 := by omega
  rw [if_neg h0, packed_low _ _ (by dsimp only; omega), show (⟨k.val / 128, by omega⟩ : Fin 2) = 1 from Fin.ext h1, winrow_1, ref_111]
  exact congrArg (cols X N W b t) (Fin.ext (by dsimp only; omega))

end Cert.MixPlain

end

end
-- ==== Proof.Mix.lean ====
/-
  The input projection's claims: the kernel and the reference both leave the packed columns of every row of the prompt, the
  queries scaled, the queries, the selected keys and the window keys turned.
-/
module

public import proofs.«01_k».proof.Defs
public import proofs.«01_k».proof.Proof.MixKernel
public import proofs.«01_k».proof.Proof.MixVal
public import proofs.«01_k».proof.Proof.Gen.Reference5Ideal.Read
public import Idealize.ShloMosaic.Lib.Quiescent

@[expose] public section

set_option maxRecDepth 16384

noncomputable section

namespace Cert.Mix

open Cert.MixPlain Cert.Reference5Ideal Cert.Reference5Ideal.Gen Cert.Reference5Ideal.Read Cert.Rows Idealize.ShloMosaic Idealize.ShloMosaic.TcCoe Idealize.SL.Sem

theorem frame_reference : Cert.quiescent_Reference5Ideal (hReference5Ideal := Cert.Reference5Ideal.Gen.facts) := by
  intro m ρ _
  exact (θ_run Cert.Reference5Ideal.defs _ _).mono
    (fun r h => ⟨fun c => (h c).2.2.2.2.2.2.2.2.2.2.2, sem_eq_zero_of_no_sems (by decide) r.2⟩) (Cert.Reference5Ideal.Value.run m ρ)

variable (X : S4x4096x1024.Idx → EReal) (N : S4x1024.Idx → EReal) (W : S4x1024x5408.Idx → EReal)

theorem rowCols_eq (r : Fin 16384) : rowCols X N W r = packed (MixPlain.cols X N W (rb r) (rt r)) := funext fun k =>
  proj_packed (fun k => X (ix3 (rb r) (rt r) k)) (fun k => N (ix2 0 k)) (fun d k => W (ix3 0 d k)) k

theorem rowCols_flat (b : Fin 4) (t : Fin 4096) : rowCols X N W (flatRow b t) = packed (MixPlain.cols X N W b t) := by
  have hb : rb (flatRow b t) = b := Fin.ext (by show (b.val * 4096 + t.val) / 4096 = b.val; omega)
  have ht : rt (flatRow b t) = t := Fin.ext (by show (b.val * 4096 + t.val) % 4096 = t.val; omega)
  rw [rowCols_eq, hb, ht]

theorem ref_spec_5 : (val_main_v120 (F := Ideal) X N W : S16384x512.Idx → EReal) = spec_5 X N W := by
  funext y
  rw [eq_ix2 y]
  refine (val_120 X N W (y 0) (y 1)).trans ?_
  exact congrArg (fun p => qrawRow p (y 1)) (rowCols_eq X N W (y 0)).symm

theorem ref_spec_6 : (val_main_v157 (F := Ideal) X N W : S16384x512.Idx → EReal) = spec_6 X N W := by
  funext y
  rw [eq_ix2 y]
  refine (val_157 X N W (y 0) (y 1)).trans ?_
  exact congrArg (fun p => qrotRow p (cosT (pos (y 0))) (sinT (pos (y 0))) (y 1)) (rowCols_eq X N W (y 0)).symm

theorem ref_spec_7 : (val_main_v158 (F := Ideal) X N W : S16384x128.Idx → EReal) = spec_7 X N W := by
  funext y
  rw [eq_ix2 y]
  refine (val_158 X N W (y 0) (y 1)).trans ?_
  exact congrArg (fun p => shift (n := 128) p 1280 (by omega) (y 1)) (rowCols_eq X N W (y 0)).symm

theorem ref_spec_8 : (val_main_v159 (F := Ideal) X N W : S16384x1536.Idx → EReal) = spec_8 X N W := by
  funext y
  rw [eq_ix2 y]
  refine (val_159 X N W (y 0) (y 1)).trans ?_
  exact congrArg (fun p => shift (n := 1536) p 1408 (by omega) (y 1)) (rowCols_eq X N W (y 0)).symm

theorem ref_spec_9 : (val_main_v160 (F := Ideal) X N W : S16384x512.Idx → EReal) = spec_9 X N W := by
  funext y
  rw [eq_ix2 y]
  refine (val_160 X N W (y 0) (y 1)).trans ?_
  exact congrArg (fun p => shift (n := 512) p 2944 (by omega) (y 1)) (rowCols_eq X N W (y 0)).symm

theorem ref_spec_10 : (val_main_v161 (F := Ideal) X N W : S16384x2048.Idx → EReal) = spec_10 X N W := by
  funext y
  rw [eq_ix2 y]
  refine (val_161 X N W (y 0) (y 1)).trans ?_
  exact congrArg (fun p => shift (n := 2048) p 3456 (by omega) (y 1)) (rowCols_eq X N W (y 0)).symm

theorem ref_spec_11 : (val_main_v164 (F := Ideal) X N W : S1x4x512x4096.Idx → EReal) = spec_11 X N W := by
  funext y
  have e : y = ix4 (0 : Fin 1) (y 1) (y 2) (y 3) :=
    (eq_ix4 y).trans (congrArg (fun i : Fin 1 => ix4 i (y 1) (y 2) (y 3)) (Subsingleton.elim (α := Fin 1) _ _))
  rw [e]
  refine (val_164 X N W (y 1) (y 2) (y 3)).trans ?_
  exact congrArg (fun p => rowsRow p (cosT (y 3)) (sinT (y 3)) (y 2)) (rowCols_flat X N W (y 1) (y 3)).symm

theorem ref_spec_12 : (val_main_v166 (F := Ideal) X N W : S4x256x4096.Idx → EReal) = spec_12 X N W := by
  funext y
  rw [eq_ix3 y]
  refine (val_166 X N W (y 0) (y 1) (y 2)).trans ?_
  exact congrArg (fun p => winRow p (cosT (y 2)) (sinT (y 2)) (y 1)) (rowCols_flat X N W (y 0) (y 2)).symm

theorem ref_spec_13 : (val_main_v169 (F := Ideal) X N W : S16384x128.Idx → EReal) = spec_13 X N W := by
  funext y
  rw [eq_ix2 y]
  refine (val_169 X N W (y 0) (y 1)).trans ?_
  exact congrArg (fun p => shift (n := 128) p 512 (by omega) (y 1)) (rowCols_eq X N W (y 0)).symm

theorem ref_spec_14 : (val_main_v172 (F := Ideal) X N W : S16384x128.Idx → EReal) = spec_14 X N W := by
  funext y
  rw [eq_ix2 y]
  refine (val_172 X N W (y 0) (y 1)).trans ?_
  exact congrArg (fun p => shift (n := 128) p 640 (by omega) (y 1)) (rowCols_eq X N W (y 0)).symm

theorem ref_spec_16 : (val_main_v176 (F := Ideal) X N W : S16384x128.Idx → EReal) = spec_16 X N W := by
  funext y
  rw [eq_ix2 y]
  refine (val_176 X N W (y 0) (y 1)).trans ?_
  exact congrArg (fun p => turnRow p (cosT (pos (y 0))) (sinT (pos (y 0))) 1024 (by omega) (y 1)) (rowCols_eq X N W (y 0)).symm

theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => spec_5 (argX m c) (argN m c) (argW m c), fun c => spec_6 (argX m c) (argN m c) (argW m c), fun c => spec_7 (argX m c) (argN m c) (argW m c), fun c => spec_8 (argX m c) (argN m c) (argW m c), fun c => spec_9 (argX m c) (argN m c) (argW m c), fun c => spec_10 (argX m c) (argN m c) (argW m c), fun c => spec_11 (argX m c) (argN m c) (argW m c), fun c => spec_12 (argX m c) (argN m c) (argW m c), fun c => spec_13 (argX m c) (argN m c) (argW m c), fun c => spec_14 (argX m c) (argN m c) (argW m c), fun c => spec_16 (argX m c) (argN m c) (argW m c), ?_, ?_⟩
  · exact (θ_run Cert.Kernel5Ideal.defs _ _).mono (fun r h c => ⟨((h c).1).trans (array_5 m c), ((h c).2.1).trans (array_6 m c), ((h c).2.2.1).trans (array_7 m c), ((h c).2.2.2.1).trans (array_8 m c), ((h c).2.2.2.2.1).trans (array_9 m c), ((h c).2.2.2.2.2.1).trans (array_10 m c), ((h c).2.2.2.2.2.2.1).trans (array_11 m c), ((h c).2.2.2.2.2.2.2.1).trans (array_12 m c), ((h c).2.2.2.2.2.2.2.2.1).trans (array_13 m c), ((h c).2.2.2.2.2.2.2.2.2.1).trans (array_14 m c), ((h c).2.2.2.2.2.2.2.2.2.2.2.1).trans (array_16 m c), (h c).2.2.2.2.2.2.2.2.2.2.2.2.2.2⟩)
      (Cert.Kernel5Ideal.Value.run_blocks m ρ)
  · exact (θ_run Cert.Reference5Ideal.defs _ _).mono (fun r h c => ⟨((h c).1).trans ((val_main_v120_eq _).trans ((ref_spec_5 (m' ((c : Thread nD τ).loc main_arg0)) (m' ((c : Thread nD τ).loc main_arg1)) (m' ((c : Thread nD τ).loc main_arg2))).trans (congr (congrArg₂ spec_5 (hagree c).1 (hagree c).2.1) (hagree c).2.2))),
        ((h c).2.1).trans ((val_main_v157_eq _).trans ((ref_spec_6 (m' ((c : Thread nD τ).loc main_arg0)) (m' ((c : Thread nD τ).loc main_arg1)) (m' ((c : Thread nD τ).loc main_arg2))).trans (congr (congrArg₂ spec_6 (hagree c).1 (hagree c).2.1) (hagree c).2.2))),
        ((h c).2.2.1).trans ((val_main_v158_eq _).trans ((ref_spec_7 (m' ((c : Thread nD τ).loc main_arg0)) (m' ((c : Thread nD τ).loc main_arg1)) (m' ((c : Thread nD τ).loc main_arg2))).trans (congr (congrArg₂ spec_7 (hagree c).1 (hagree c).2.1) (hagree c).2.2))),
        ((h c).2.2.2.1).trans ((val_main_v159_eq _).trans ((ref_spec_8 (m' ((c : Thread nD τ).loc main_arg0)) (m' ((c : Thread nD τ).loc main_arg1)) (m' ((c : Thread nD τ).loc main_arg2))).trans (congr (congrArg₂ spec_8 (hagree c).1 (hagree c).2.1) (hagree c).2.2))),
        ((h c).2.2.2.2.1).trans ((val_main_v160_eq _).trans ((ref_spec_9 (m' ((c : Thread nD τ).loc main_arg0)) (m' ((c : Thread nD τ).loc main_arg1)) (m' ((c : Thread nD τ).loc main_arg2))).trans (congr (congrArg₂ spec_9 (hagree c).1 (hagree c).2.1) (hagree c).2.2))),
        ((h c).2.2.2.2.2.1).trans ((val_main_v161_eq _).trans ((ref_spec_10 (m' ((c : Thread nD τ).loc main_arg0)) (m' ((c : Thread nD τ).loc main_arg1)) (m' ((c : Thread nD τ).loc main_arg2))).trans (congr (congrArg₂ spec_10 (hagree c).1 (hagree c).2.1) (hagree c).2.2))),
        ((h c).2.2.2.2.2.2.1).trans ((val_main_v164_eq _).trans ((ref_spec_11 (m' ((c : Thread nD τ).loc main_arg0)) (m' ((c : Thread nD τ).loc main_arg1)) (m' ((c : Thread nD τ).loc main_arg2))).trans (congr (congrArg₂ spec_11 (hagree c).1 (hagree c).2.1) (hagree c).2.2))),
        ((h c).2.2.2.2.2.2.2.1).trans ((val_main_v166_eq _).trans ((ref_spec_12 (m' ((c : Thread nD τ).loc main_arg0)) (m' ((c : Thread nD τ).loc main_arg1)) (m' ((c : Thread nD τ).loc main_arg2))).trans (congr (congrArg₂ spec_12 (hagree c).1 (hagree c).2.1) (hagree c).2.2))),
        ((h c).2.2.2.2.2.2.2.2.1).trans ((val_main_v169_eq _).trans ((ref_spec_13 (m' ((c : Thread nD τ).loc main_arg0)) (m' ((c : Thread nD τ).loc main_arg1)) (m' ((c : Thread nD τ).loc main_arg2))).trans (congr (congrArg₂ spec_13 (hagree c).1 (hagree c).2.1) (hagree c).2.2))),
        ((h c).2.2.2.2.2.2.2.2.2.1).trans ((val_main_v172_eq _).trans ((ref_spec_14 (m' ((c : Thread nD τ).loc main_arg0)) (m' ((c : Thread nD τ).loc main_arg1)) (m' ((c : Thread nD τ).loc main_arg2))).trans (congr (congrArg₂ spec_14 (hagree c).1 (hagree c).2.1) (hagree c).2.2))),
        ((h c).2.2.2.2.2.2.2.2.2.2.1).trans ((val_main_v176_eq _).trans ((ref_spec_16 (m' ((c : Thread nD τ).loc main_arg0)) (m' ((c : Thread nD τ).loc main_arg1)) (m' ((c : Thread nD τ).loc main_arg2))).trans (congr (congrArg₂ spec_16 (hagree c).1 (hagree c).2.1) (hagree c).2.2))),
        (h c).2.2.2.2.2.2.2.2.2.2.2⟩)
      (Cert.Reference5Ideal.Value.run m' ρ')

end Cert.Mix

end

end
-- ==== Proof.lean ====
/-
  The certificate: the frames of the kernel, of its idealization and of the reference, that the idealization is the
  kernel's own text, and the value claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Scan
public import proofs.«01_k».proof.Proof.Ffn
public import proofs.«01_k».proof.Proof.Merge
public import proofs.«01_k».proof.Proof.Norm
public import proofs.«01_k».proof.Proof.Mix
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Gen.frame m ρ, fun m ρ _ => Cert.KernelIdeal.Gen.frame m ρ, Cert.Scan.frame_reference,
    fun m ρ _ => Cert.Kernel2.Gen.frame m ρ, fun m ρ _ => Cert.Kernel2Ideal.Gen.frame m ρ, Cert.Ffn.frame_reference,
    fun m ρ _ => Cert.Kernel3.Gen.frame m ρ, fun m ρ _ => Cert.Kernel3Ideal.Gen.frame m ρ, Cert.Merge.frame_reference,
    fun m ρ _ => Cert.Kernel4.Gen.frame m ρ, fun m ρ _ => Cert.Kernel4Ideal.Gen.frame m ρ, Cert.Norm.frame_reference,
    fun m ρ _ => Cert.Kernel5.Gen.frame m ρ, fun m ρ _ => Cert.Kernel5Ideal.Gen.frame m ρ, Cert.Mix.frame_reference,
    trivial, Cert.Scan.algebraic, trivial, Cert.Ffn.algebraic, trivial, Cert.Merge.algebraic, trivial, Cert.Norm.algebraic,
    trivial, Cert.Mix.algebraic⟩

end Cert.Proof

end
